-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_not_tiny [hPre_scales_not_tiny : Cert.Pre_scales_not_tiny.Facts] (m : (ℓ : Loc Cert.KernelIdeal.nD Cert.KernelIdeal.τ Cert.KernelIdeal.sig) → Buf (Elt Ideal) ℓ) : Prop :=
  ∀ c : Dev Cert.KernelIdeal.nD,
    (Cert.Pre_scales_not_tiny.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_not_tiny [hPre_scales_not_tiny : Cert.Pre_scales_not_tiny.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_not_tiny.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_QuantKernel (m : (ℓ : Loc Cert.QuantKernel.nD Cert.QuantKernel.τ Cert.QuantKernel.sig) → Buf (Elt Bits) ℓ) : Prop :=
  True

def Pre_QuantKernelIdeal (m : (ℓ : Loc Cert.QuantKernelIdeal.nD Cert.QuantKernelIdeal.τ Cert.QuantKernelIdeal.sig) → Buf (Elt Ideal) ℓ) : Prop :=
  True

def Pre_QuantReferenceIdeal (m : (ℓ : Loc Cert.QuantReferenceIdeal.nD Cert.QuantReferenceIdeal.τ Cert.QuantReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_not_tiny [hKernelIdeal : Cert.KernelIdeal.Facts] [hPre_scales_not_tiny : Cert.Pre_scales_not_tiny.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_not_tiny m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_not_tiny [hReferenceIdeal : Cert.ReferenceIdeal.Facts] [hPre_scales_not_tiny : Cert.Pre_scales_not_tiny.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_not_tiny m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_QuantKernel [hQuantKernel : Cert.QuantKernel.Facts] : Prop :=
  ∀ (m : (ℓ : Loc Cert.QuantKernel.nD Cert.QuantKernel.τ Cert.QuantKernel.sig) → Buf (Elt Bits) ℓ) (g : Dev Cert.QuantKernel.nD → PrngReg), Pre_QuantKernel m →
    θ_run (Cert.QuantKernel.defs (F := Bits)) (onTc (τ := Cert.QuantKernel.τ) (Cert.QuantKernel.main (F := Bits))) ⟨m, fun _ => 0, g⟩ (fun r => (∀ c : Dev Cert.QuantKernel.nD,
      r.2.mem ((c.tc : Thread Cert.QuantKernel.nD Cert.QuantKernel.τ).loc Cert.QuantKernel.main_arg0) = m ((c.tc : Thread Cert.QuantKernel.nD Cert.QuantKernel.τ).loc Cert.QuantKernel.main_arg0))
      ∧ r.2.sem = fun _ => 0)

def quiescent_QuantKernelIdeal [hQuantKernelIdeal : Cert.QuantKernelIdeal.Facts] : Prop :=
  ∀ (m : (ℓ : Loc Cert.QuantKernelIdeal.nD Cert.QuantKernelIdeal.τ Cert.QuantKernelIdeal.sig) → Buf (Elt Ideal) ℓ) (g : Dev Cert.QuantKernelIdeal.nD → PrngReg), Pre_QuantKernelIdeal m →
    θ_run (Cert.QuantKernelIdeal.defs (F := Ideal)) (onTc (τ := Cert.QuantKernelIdeal.τ) (Cert.QuantKernelIdeal.main (F := Ideal))) ⟨m, fun _ => 0, g⟩ (fun r => (∀ c : Dev Cert.QuantKernelIdeal.nD,
      r.2.mem ((c.tc : Thread Cert.QuantKernelIdeal.nD Cert.QuantKernelIdeal.τ).loc Cert.QuantKernelIdeal.main_arg0) = m ((c.tc : Thread Cert.QuantKernelIdeal.nD Cert.QuantKernelIdeal.τ).loc Cert.QuantKernelIdeal.main_arg0))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_scales_not_tiny [hKernelIdeal : Cert.KernelIdeal.Facts] [hReferenceIdeal : Cert.ReferenceIdeal.Facts] [hPre_scales_not_tiny : Cert.Pre_scales_not_tiny.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_not_tiny m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_QuantKernel_QuantKernelIdeal : Prop :=
  True

def algebraic_QuantKernelIdeal_QuantReferenceIdeal [hQuantKernelIdeal : Cert.QuantKernelIdeal.Facts] [hQuantReferenceIdeal : Cert.QuantReferenceIdeal.Facts] : Prop :=
  ∀ (m : (ℓ : Loc Cert.QuantKernelIdeal.nD Cert.QuantKernelIdeal.τ Cert.QuantKernelIdeal.sig) → Buf (Elt Ideal) ℓ) (g : Dev Cert.QuantKernelIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantKernelIdeal m →
    (∀ c : Dev Cert.QuantKernelIdeal.nD,
      m' ((c.tc : Thread Cert.QuantReferenceIdeal.nD Cert.QuantReferenceIdeal.τ).loc Cert.QuantReferenceIdeal.main_arg0) = m ((c.tc : Thread Cert.QuantKernelIdeal.nD Cert.QuantKernelIdeal.τ).loc Cert.QuantKernelIdeal.main_arg0)) →
    ∃ (v0 : (c : Dev Cert.QuantKernelIdeal.nD) → Buf (Elt Ideal) ((c.tc : Thread Cert.QuantKernelIdeal.nD Cert.QuantKernelIdeal.τ).loc Cert.QuantKernelIdeal.main_v0_0)) (v1 : (c : Dev Cert.QuantKernelIdeal.nD) → Buf (Elt Ideal) ((c.tc : Thread Cert.QuantKernelIdeal.nD Cert.QuantKernelIdeal.τ).loc Cert.QuantKernelIdeal.main_v0_1)),
      θ_run (Cert.QuantKernelIdeal.defs (F := Ideal)) (onTc (τ := Cert.QuantKernelIdeal.τ) (Cert.QuantKernelIdeal.main (F := Ideal))) ⟨m, fun _ => 0, g⟩ (fun r => ∀ c : Dev Cert.QuantKernelIdeal.nD,
          r.2.mem ((c.tc : Thread Cert.QuantKernelIdeal.nD Cert.QuantKernelIdeal.τ).loc Cert.QuantKernelIdeal.main_v0_0) = v0 c
          ∧ r.2.mem ((c.tc : Thread Cert.QuantKernelIdeal.nD Cert.QuantKernelIdeal.τ).loc Cert.QuantKernelIdeal.main_v0_1) = v1 c
          ∧ r.2.mem ((c.tc : Thread Cert.QuantKernelIdeal.nD Cert.QuantKernelIdeal.τ).loc Cert.QuantKernelIdeal.main_arg0) = m ((c.tc : Thread Cert.QuantKernelIdeal.nD Cert.QuantKernelIdeal.τ).loc Cert.QuantKernelIdeal.main_arg0))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v0_0) = v0 c
          ∧ r.2.mem ((c.tc : Thread Cert.QuantReferenceIdeal.nD Cert.QuantReferenceIdeal.τ).loc Cert.QuantReferenceIdeal.main_v0_1) = v1 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0))

def Claim : Prop :=
  ∃ (hKernel : Cert.Kernel.Facts) (hKernelIdeal : Cert.KernelIdeal.Facts) (hReferenceIdeal : Cert.ReferenceIdeal.Facts) (hQuantKernel : Cert.QuantKernel.Facts) (hQuantKernelIdeal : Cert.QuantKernelIdeal.Facts) (hQuantReferenceIdeal : Cert.QuantReferenceIdeal.Facts) (hPre_scales_not_tiny : Cert.Pre_scales_not_tiny.Facts),
    quiescent_Kernel (hKernel := hKernel)
    ∧ quiescent_KernelIdeal (hKernelIdeal := hKernelIdeal)
    ∧ quiescent_KernelIdeal_pre_scales_not_tiny (hKernelIdeal := hKernelIdeal) (hPre_scales_not_tiny := hPre_scales_not_tiny)
    ∧ quiescent_ReferenceIdeal (hReferenceIdeal := hReferenceIdeal)
    ∧ quiescent_ReferenceIdeal_pre_scales_not_tiny (hReferenceIdeal := hReferenceIdeal) (hPre_scales_not_tiny := hPre_scales_not_tiny)
    ∧ quiescent_QuantKernel (hQuantKernel := hQuantKernel)
    ∧ quiescent_QuantKernelIdeal (hQuantKernelIdeal := hQuantKernelIdeal)
    ∧ quiescent_QuantReferenceIdeal (hQuantReferenceIdeal := hQuantReferenceIdeal)
    ∧ preserves_Kernel_KernelIdeal
    ∧ algebraic_KernelIdeal_ReferenceIdeal_pre_scales_not_tiny (hKernelIdeal := hKernelIdeal) (hReferenceIdeal := hReferenceIdeal) (hPre_scales_not_tiny := hPre_scales_not_tiny)
    ∧ preserves_QuantKernel_QuantKernelIdeal
    ∧ algebraic_QuantKernelIdeal_QuantReferenceIdeal (hQuantKernelIdeal := hQuantKernelIdeal) (hQuantReferenceIdeal := hQuantReferenceIdeal)
-- ==== Pre_scales_not_tiny.lean ====
abbrev S16384x8192 : Shape := ⟨2, ![16384, 8192]⟩
abbrev S128x64 : Shape := ⟨2, ![128, 64]⟩
abbrev S16384x1024 : Shape := ⟨2, ![16384, 1024]⟩
abbrev S8x256 : Shape := ⟨2, ![8, 256]⟩
abbrev S1024x16384 : Shape := ⟨2, ![1024, 16384]⟩
abbrev S8x128 : Shape := ⟨2, ![8, 128]⟩
abbrev S128x8x8x1 : Shape := ⟨4, ![128, 8, 8, 1]⟩
abbrev S1x8x1x256 : Shape := ⟨4, ![1, 8, 1, 256]⟩
abbrev S128x8x8x256 : Shape := ⟨4, ![128, 8, 8, 256]⟩
abbrev S_ : Shape := ⟨0, ![]⟩

class Facts : Prop where
  shapeCasts_S128x64_S128x8x8x1 : S128x64.ShapeCasts S128x8x8x1
  shapeCasts_S8x256_S1x8x1x256 : S8x256.ShapeCasts S1x8x1x256
  bcast_S128x8x8x1_S128x8x8x256_0_1_2_3 : S128x8x8x1.BroadcastsInDim S128x8x8x256 (![0, 1, 2, 3] : Fin 4 → Fin S128x8x8x256.rank)
  bcast_S1x8x1x256_S128x8x8x256_0_1_2_3 : S1x8x1x256.BroadcastsInDim S128x8x8x256 (![0, 1, 2, 3] : Fin 4 → Fin S128x8x8x256.rank)
  bcast_S_S128x8x8x256 : S_.BroadcastsInDim S128x8x8x256 (![] : Fin 0 → Fin S128x8x8x256.rank)

variable [Facts]

def fn {F : FTy → Type} [FloatOps F] (main_arg0 : IVec S16384x8192 8) (main_arg1 : FVec F S128x64 .f32) (main_arg2 : IVec S16384x1024 8) (main_arg3 : FVec F S8x256 .f32) (main_arg4 : FVec F S1024x16384 .fp8e4m3) (main_arg5 : FVec F S8x128 .f32) : IVec S128x8x8x256 1 :=
  let main_v0 : FVec F S128x8x8x1 .f32 := shapeCast S128x8x8x1 main_arg1 shapeCasts_S128x64_S128x8x8x1
  let main_v1 : FVec F S1x8x1x256 .f32 := shapeCast S1x8x1x256 main_arg3 shapeCasts_S8x256_S1x8x1x256
  let main_v2 : FVec F S128x8x8x256 .f32 := broadcastInDim S128x8x8x256 ![0, 1, 2, 3] bcast_S128x8x8x1_S128x8x8x256_0_1_2_3 main_v0
  let main_v3 : FVec F S128x8x8x256 .f32 := broadcastInDim S128x8x8x256 ![0, 1, 2, 3] bcast_S1x8x1x256_S128x8x8x256_0_1_2_3 main_v1
  let main_v4 : FVec F S128x8x8x256 .f32 := mulf main_v2 main_v3
  let main_cst : FVec F S_ .f32 := constant S_ .f32 0x0DA24260#32
  let main_v5 : FVec F S128x8x8x256 .f32 := broadcastInDim S128x8x8x256 ![] bcast_S_S128x8x8x256 main_cst
  let main_v6 : IVec S128x8x8x256 1 := cmpf .oge main_v4 main_v5
  main_v6
-- ==== Kernel.lean ====
abbrev S16384x8192 : Shape := ⟨2, ![16384, 8192]⟩
abbrev S128x64 : Shape := ⟨2, ![128, 64]⟩
abbrev S16384x1024 : Shape := ⟨2, ![16384, 1024]⟩
abbrev S8x256 : Shape := ⟨2, ![8, 256]⟩
abbrev S1024x16384 : Shape := ⟨2, ![1024, 16384]⟩
abbrev S8x128 : Shape := ⟨2, ![8, 128]⟩
abbrev S8x1x128 : Shape := ⟨3, ![8, 1, 128]⟩
abbrev S128x512 : Shape := ⟨2, ![128, 512]⟩
abbrev S16384x128 : Shape := ⟨2, ![16384, 128]⟩
abbrev S128x16384 : Shape := ⟨2, ![128, 16384]⟩
abbrev S1x1x128 : Shape := ⟨3, ![1, 1, 128]⟩
abbrev S16384x512 : Shape := ⟨2, ![16384, 512]⟩
abbrev S1024x128 : Shape := ⟨2, ![1024, 128]⟩
abbrev S128x128 : Shape := ⟨2, ![128, 128]⟩
abbrev S512x128 : Shape := ⟨2, ![512, 128]⟩
abbrev S1x1 : Shape := ⟨2, ![1, 1]⟩
abbrev S512x512 : Shape := ⟨2, ![512, 512]⟩
abbrev S64x128 : Shape := ⟨2, ![64, 128]⟩
abbrev S8x8x128 : Shape := ⟨3, ![8, 8, 128]⟩
abbrev S128 : Shape := ⟨1, ![128]⟩
abbrev S1x128 : Shape := ⟨2, ![1, 128]⟩

abbrev nBuf : Space → Nat
  | .hbm => 8
  | .vmem => 13
  | .smem => 2
  | _ => 0

abbrev bufTy : (tb : Table) → Fin (tcTables nBuf tb) → BufTy
  | .hbm, ⟨0, _⟩ => ⟨S16384x8192, .i8⟩
  | .hbm, ⟨1, _⟩ => ⟨S128x64, .f32⟩
  | .hbm, ⟨2, _⟩ => ⟨S16384x1024, .i8⟩
  | .hbm, ⟨3, _⟩ => ⟨S8x256, .f32⟩
  | .hbm, ⟨4, _⟩ => ⟨S1024x16384, .fp8e4m3⟩
  | .hbm, ⟨5, _⟩ => ⟨S8x128, .f32⟩
  | .hbm, ⟨6, _⟩ => ⟨S8x1x128, .f32⟩
  | .hbm, ⟨7, _⟩ => ⟨S16384x8192, .bf16⟩
  | .local _ .vmem, ⟨0, _⟩ => ⟨S128x512, .i8⟩
  | .local _ .vmem, ⟨1, _⟩ => ⟨S128x512, .i8⟩
  | .local _ .vmem, ⟨2, _⟩ => ⟨S16384x128, .i8⟩
  | .local _ .vmem, ⟨3, _⟩ => ⟨S16384x128, .i8⟩
  | .local _ .vmem, ⟨4, _⟩ => ⟨S128x16384, .fp8e4m3⟩
  | .local _ .vmem, ⟨5, _⟩ => ⟨S128x16384, .fp8e4m3⟩
  | .local _ .vmem, ⟨6, _⟩ => ⟨S1x1x128, .f32⟩
  | .local _ .vmem, ⟨7, _⟩ => ⟨S1x1x128, .f32⟩
  | .local _ .vmem, ⟨8, _⟩ => ⟨S128x512, .bf16⟩
  | .local _ .vmem, ⟨9, _⟩ => ⟨S128x512, .bf16⟩
  | .local _ .vmem, ⟨10, _⟩ => ⟨S16384x128, .bf16⟩
  | .local _ .vmem, ⟨11, _⟩ => ⟨S16384x512, .f32⟩
  | .local _ .vmem, ⟨12, _⟩ => ⟨S128x512, .f32⟩
  | .local _ .smem, ⟨0, _⟩ => ⟨S8x256, .f32⟩
  | .local _ .smem, ⟨1, _⟩ => ⟨S128x64, .f32⟩
  | _, _ => ⟨S16384x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 128, 2], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_200 : BitVec 32 := 0#32
  let c16_i32 : BitVec 32 := 16#32
  let v588 : BitVec 32 := Scalar.addi c0_i32_200 c16_i32
  let c1_i32_201 : BitVec 32 := 1#32
  ⟨c0_i32_200, v588, c1_i32_201⟩
def k0_mult1 (k0_t1 : Fin k0_t1_loop.trips) : BitVec 32 :=
  let c0_i32_200 : BitVec 32 := 0#32
  let c1_i32_201 : BitVec 32 := 1#32
  let arg13 : BitVec 32 := Scf.iv c0_i32_200 c1_i32_201 k0_t1
  let c1024_i32 : BitVec 32 := 1024#32
  let v589 : BitVec 32 := Scalar.muli arg13 c1024_i32
  v589
def k0_off1 (k0_t1 : Fin k0_t1_loop.trips) : Fin 2 → Nat :=
  let c0_i32_200 : BitVec 32 := 0#32
  let c1_i32_201 : BitVec 32 := 1#32
  let arg13 : BitVec 32 := Scf.iv c0_i32_200 c1_i32_201 k0_t1
  let c1024_i32 : BitVec 32 := 1024#32
  let v589 : BitVec 32 := Scalar.muli arg13 c1024_i32
  let v590 : BitVec 32 := v589
  let v591 : Index := Scalar.indexCast v590
  let c0_203 : Index := 0#32
  ![v591.toNat, 0]
def k0_off2 (i : grid0.Coords) (c0_i32_3 : BitVec 32) : Fin 2 → Nat :=
  let arg1 : BitVec 32 := BitVec.ofNat 32 (i 1).val
  let v16 : Index := Scalar.indexCast arg1
  let arg0 : BitVec 32 := BitVec.ofNat 32 (i 0).val
  let c8_i32 : BitVec 32 := 8#32
  let v5 : BitVec 32 := Scalar.muli arg0 c8_i32
  let arg2 : BitVec 32 := BitVec.ofNat 32 (i 2).val
  let c4_i32 : BitVec 32 := 4#32
  let v6 : BitVec 32 := Scalar.muli arg2 c4_i32
  let v7 : BitVec 32 := Scalar.addi v5 v6
  let v15 : BitVec 32 := Scalar.addi v7 c0_i32_3
  let v17 : Index := Scalar.indexCast v15
  ![v16.toNat, v17.toNat]
@[reducible] def k0_t2_loop (i : grid0.Coords) : Scf.Loop 32 :=
  let c0_i32_19 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let c1_i32_18 : BitVec 32 := 1#32
  let v58 : BitVec 32 := Scalar.subi v53 c1_i32_18
  let v59 : BitVec 32 := Scalar.subi v58 c0_i32_19
  let c1_i32_20 : BitVec 32 := 1#32
  let v61 : BitVec 32 := Scalar.divsi v59 c1_i32_20
  let v62 : BitVec 32 := Scalar.muli v61 c1_i32_20
  let v63 : BitVec 32 := Scalar.addi c0_i32_19 v62
  let c1_i32_21 : BitVec 32 := 1#32
  ⟨c0_i32_19, v63, c1_i32_21⟩
def k0_mult2 (i : grid0.Coords) (k0_t2 : Fin (k0_t2_loop i).trips) : BitVec 32 :=
  let c0_i32_19 : BitVec 32 := 0#32
  let c1_i32_21 : BitVec 32 := 1#32
  let arg13 : BitVec 32 := Scf.iv c0_i32_19 c1_i32_21 k0_t2
  let c512_i32_200 : BitVec 32 := 512#32
  let v588 : BitVec 32 := Scalar.muli arg13 c512_i32_200
  v588
def k0_off3 (i : grid0.Coords) (k0_t2 : Fin (k0_t2_loop i).trips) : Fin 2 → Nat :=
  let c0_i32_19 : BitVec 32 := 0#32
  let c1_i32_21 : BitVec 32 := 1#32
  let arg13 : BitVec 32 := Scf.iv c0_i32_19 c1_i32_21 k0_t2
  let c512_i32_200 : BitVec 32 := 512#32
  let v588 : BitVec 32 := Scalar.muli arg13 c512_i32_200
  let v589 : BitVec 32 := v588
  let v590 : Index := Scalar.indexCast v589
  let c0_201 : Index := 0#32
  ![v590.toNat, 0]
def k0_off4 (i : grid0.Coords) (k0_t2 : Fin (k0_t2_loop i).trips) : Fin 2 → Nat :=
  let c0_i32_19 : BitVec 32 := 0#32
  let c1_i32_21 : BitVec 32 := 1#32
  let arg13 : BitVec 32 := Scf.iv c0_i32_19 c1_i32_21 k0_t2
  let c512_i32_200 : BitVec 32 := 512#32
  let v588 : BitVec 32 := Scalar.muli arg13 c512_i32_200
  let v589 : BitVec 32 := v588
  let v593 : Index := Scalar.indexCast v589
  let c0_203 : Index := 0#32
  ![v593.toNat, 0]
def k0_off5 (i : grid0.Coords) (k0_t2 : Fin (k0_t2_loop i).trips) (c0_i32_206 : BitVec 32) : Fin 2 → Nat :=
  let arg0 : BitVec 32 := BitVec.ofNat 32 (i 0).val
  let v602 : Index := Scalar.indexCast arg0
  let c0_i32_19 : BitVec 32 := 0#32
  let c1_i32_21 : BitVec 32 := 1#32
  let arg13 : BitVec 32 := Scf.iv c0_i32_19 c1_i32_21 k0_t2
  let c8_i32_205 : BitVec 32 := 8#32
  let v600 : BitVec 32 := Scalar.muli arg13 c8_i32_205
  let v601 : BitVec 32 := Scalar.addi v600 c0_i32_206
  let v603 : Index := Scalar.indexCast v601
  ![v602.toNat, v603.toNat]
@[reducible] def k0_t3_loop (i : grid0.Coords) : Scf.Loop 32 :=
  let c0_i32_19 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let c1_i32_18 : BitVec 32 := 1#32
  let v58 : BitVec 32 := Scalar.subi v53 c1_i32_18
  let v59 : BitVec 32 := Scalar.subi v58 c0_i32_19
  let c1_i32_20 : BitVec 32 := 1#32
  let v61 : BitVec 32 := Scalar.divsi v59 c1_i32_20
  let v62 : BitVec 32 := Scalar.muli v61 c1_i32_20
  let v63 : BitVec 32 := Scalar.addi c0_i32_19 v62
  let v60 : BitVec 32 := Scalar.addi c0_i32_19 v59
  let c1_i32_22 : BitVec 32 := 1#32
  ⟨v63, v60, c1_i32_22⟩
def k0_mult3 (i : grid0.Coords) (k0_t3 : Fin (k0_t3_loop i).trips) : BitVec 32 :=
  let c0_i32_19 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let c1_i32_18 : BitVec 32 := 1#32
  let v58 : BitVec 32 := Scalar.subi v53 c1_i32_18
  let v59 : BitVec 32 := Scalar.subi v58 c0_i32_19
  let c1_i32_20 : BitVec 32 := 1#32
  let v61 : BitVec 32 := Scalar.divsi v59 c1_i32_20
  let v62 : BitVec 32 := Scalar.muli v61 c1_i32_20
  let v63 : BitVec 32 := Scalar.addi c0_i32_19 v62
  let c1_i32_22 : BitVec 32 := 1#32
  let arg13 : BitVec 32 := Scf.iv v63 c1_i32_22 k0_t3
  let c512_i32_200 : BitVec 32 := 512#32
  let v588 : BitVec 32 := Scalar.muli arg13 c512_i32_200
  v588
def k0_off6 (i : grid0.Coords) (k0_t3 : Fin (k0_t3_loop i).trips) : Fin 2 → Nat :=
  let c0_i32_19 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let c1_i32_18 : BitVec 32 := 1#32
  let v58 : BitVec 32 := Scalar.subi v53 c1_i32_18
  let v59 : BitVec 32 := Scalar.subi v58 c0_i32_19
  let c1_i32_20 : BitVec 32 := 1#32
  let v61 : BitVec 32 := Scalar.divsi v59 c1_i32_20
  let v62 : BitVec 32 := Scalar.muli v61 c1_i32_20
  let v63 : BitVec 32 := Scalar.addi c0_i32_19 v62
  let c1_i32_22 : BitVec 32 := 1#32
  let arg13 : BitVec 32 := Scf.iv v63 c1_i32_22 k0_t3
  let c512_i32_200 : BitVec 32 := 512#32
  let v588 : BitVec 32 := Scalar.muli arg13 c512_i32_200
  let v589 : BitVec 32 := v588
  let v590 : Index := Scalar.indexCast v589
  let c0_201 : Index := 0#32
  ![v590.toNat, 0]
def k0_off7 (i : grid0.Coords) (k0_t3 : Fin (k0_t3_loop i).trips) : Fin 2 → Nat :=
  let c0_i32_19 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let c1_i32_18 : BitVec 32 := 1#32
  let v58 : BitVec 32 := Scalar.subi v53 c1_i32_18
  let v59 : BitVec 32 := Scalar.subi v58 c0_i32_19
  let c1_i32_20 : BitVec 32 := 1#32
  let v61 : BitVec 32 := Scalar.divsi v59 c1_i32_20
  let v62 : BitVec 32 := Scalar.muli v61 c1_i32_20
  let v63 : BitVec 32 := Scalar.addi c0_i32_19 v62
  let c1_i32_22 : BitVec 32 := 1#32
  let arg13 : BitVec 32 := Scf.iv v63 c1_i32_22 k0_t3
  let c512_i32_200 : BitVec 32 := 512#32
  let v588 : BitVec 32 := Scalar.muli arg13 c512_i32_200
  let v589 : BitVec 32 := v588
  let v593 : Index := Scalar.indexCast v589
  let c0_203 : Index := 0#32
  ![v593.toNat, 0]
def k0_off8 (i : grid0.Coords) (k0_t3 : Fin (k0_t3_loop i).trips) (c0_i32_206 : BitVec 32) : Fin 2 → Nat :=
  let arg0 : BitVec 32 := BitVec.ofNat 32 (i 0).val
  let v602 : Index := Scalar.indexCast arg0
  let c0_i32_19 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let c1_i32_18 : BitVec 32 := 1#32
  let v58 : BitVec 32 := Scalar.subi v53 c1_i32_18
  let v59 : BitVec 32 := Scalar.subi v58 c0_i32_19
  let c1_i32_20 : BitVec 32 := 1#32
  let v61 : BitVec 32 := Scalar.divsi v59 c1_i32_20
  let v62 : BitVec 32 := Scalar.muli v61 c1_i32_20
  let v63 : BitVec 32 := Scalar.addi c0_i32_19 v62
  let c1_i32_22 : BitVec 32 := 1#32
  let arg13 : BitVec 32 := Scf.iv v63 c1_i32_22 k0_t3
  let c8_i32_205 : BitVec 32 := 8#32
  let v600 : BitVec 32 := Scalar.muli arg13 c8_i32_205
  let v601 : BitVec 32 := Scalar.addi v600 c0_i32_206
  let v603 : Index := Scalar.indexCast v601
  ![v602.toNat, v603.toNat]
def k0_mult4 (i : grid0.Coords) : BitVec 32 :=
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let c1_i32_23 : BitVec 32 := 1#32
  let v66 : BitVec 32 := Scalar.subi v53 c1_i32_23
  let c512_i32_24 : BitVec 32 := 512#32
  let v67 : BitVec 32 := Scalar.muli v66 c512_i32_24
  v67
def k0_off9 (i : grid0.Coords) : Fin 2 → Nat :=
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let c1_i32_23 : BitVec 32 := 1#32
  let v66 : BitVec 32 := Scalar.subi v53 c1_i32_23
  let c512_i32_24 : BitVec 32 := 512#32
  let v67 : BitVec 32 := Scalar.muli v66 c512_i32_24
  let v68 : BitVec 32 := v67
  let v69 : Index := Scalar.indexCast v68
  let c0_25 : Index := 0#32
  ![v69.toNat, 0]
def k0_off10 (i : grid0.Coords) : Fin 2 → Nat :=
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let c1_i32_23 : BitVec 32 := 1#32
  let v66 : BitVec 32 := Scalar.subi v53 c1_i32_23
  let c512_i32_24 : BitVec 32 := 512#32
  let v67 : BitVec 32 := Scalar.muli v66 c512_i32_24
  let v68 : BitVec 32 := v67
  let v85 : Index := Scalar.indexCast v68
  let c0_30 : Index := 0#32
  ![v85.toNat, 0]
def k0_off11 (i : grid0.Coords) (c0_i32_33 : BitVec 32) : Fin 2 → Nat :=
  let arg0 : BitVec 32 := BitVec.ofNat 32 (i 0).val
  let v94 : Index := Scalar.indexCast arg0
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let c1_i32_23 : BitVec 32 := 1#32
  let v66 : BitVec 32 := Scalar.subi v53 c1_i32_23
  let c8_i32_32 : BitVec 32 := 8#32
  let v92 : BitVec 32 := Scalar.muli v66 c8_i32_32
  let v93 : BitVec 32 := Scalar.addi v92 c0_i32_33
  let v95 : Index := Scalar.indexCast v93
  ![v94.toNat, v95.toNat]
@[reducible] def k0_t4_loop (i : grid0.Coords) : Scf.Loop 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_173 : BitVec 32 := 1#32
  ⟨c0_i32_171, v533, c1_i32_173⟩
def k0_mult5 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_200 : BitVec 32 := 512#32
  let v588 : BitVec 32 := Scalar.muli arg13 c512_i32_200
  v588
def k0_mult6 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_201 : BitVec 32 := 512#32
  let v590 : BitVec 32 := Scalar.muli arg13 c512_i32_201
  let c0_i32_202 : BitVec 32 := 0#32
  let v591 : BitVec 32 := Scalar.addi v590 c0_i32_202
  v591
def k0_off12 (i : grid0.Coords) (k0_t4 : Fin (k0_t4_loop i).trips) (c0_i32_202 : BitVec 32) : Fin 2 → Nat :=
  let c0_i32_171 : BitVec 32 := 0#32
  let c1_i32_173 : BitVec 32 := 1#32
  let arg13 : BitVec 32 := Scf.iv c0_i32_171 c1_i32_173 k0_t4
  let c512_i32_201 : BitVec 32 := 512#32
  let v590 : BitVec 32 := Scalar.muli arg13 c512_i32_201
  let v591 : BitVec 32 := Scalar.addi v590 c0_i32_202
  let v592 : BitVec 32 := v591
  let v593 : Index := Scalar.indexCast v592
  let c0_203 : Index := 0#32
  ![v593.toNat, 0]
def k0_off13 (i : grid0.Coords) (k0_t4 : Fin (k0_t4_loop i).trips) (c0_i32_205 : BitVec 32) : Fin 2 → Nat :=
  let arg0 : BitVec 32 := BitVec.ofNat 32 (i 0).val
  let v597 : Index := Scalar.indexCast arg0
  let c0_i32_171 : BitVec 32 := 0#32
  let c1_i32_173 : BitVec 32 := 1#32
  let arg13 : BitVec 32 := Scf.iv c0_i32_171 c1_i32_173 k0_t4
  let c8_i32_204 : BitVec 32 := 8#32
  let v595 : BitVec 32 := Scalar.muli arg13 c8_i32_204
  let v596 : BitVec 32 := Scalar.addi v595 c0_i32_205
  let v598 : Index := Scalar.indexCast v596
  ![v597.toNat, v598.toNat]
def k0_mult7 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_209 : BitVec 32 := 512#32
  let v613 : BitVec 32 := Scalar.muli arg13 c512_i32_209
  let c64_i32 : BitVec 32 := 64#32
  let v614 : BitVec 32 := Scalar.addi v613 c64_i32
  v614
def k0_mult8 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_216 : BitVec 32 := 512#32
  let v636 : BitVec 32 := Scalar.muli arg13 c512_i32_216
  let c128_i32_217 : BitVec 32 := 128#32
  let v637 : BitVec 32 := Scalar.addi v636 c128_i32_217
  v637
def k0_mult9 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_224 : BitVec 32 := 512#32
  let v659 : BitVec 32 := Scalar.muli arg13 c512_i32_224
  let c192_i32 : BitVec 32 := 192#32
  let v660 : BitVec 32 := Scalar.addi v659 c192_i32
  v660
def k0_mult10 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_231 : BitVec 32 := 512#32
  let v682 : BitVec 32 := Scalar.muli arg13 c512_i32_231
  let c256_i32 : BitVec 32 := 256#32
  let v683 : BitVec 32 := Scalar.addi v682 c256_i32
  v683
def k0_mult11 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_238 : BitVec 32 := 512#32
  let v705 : BitVec 32 := Scalar.muli arg13 c512_i32_238
  let c320_i32 : BitVec 32 := 320#32
  let v706 : BitVec 32 := Scalar.addi v705 c320_i32
  v706
def k0_mult12 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_245 : BitVec 32 := 512#32
  let v728 : BitVec 32 := Scalar.muli arg13 c512_i32_245
  let c384_i32 : BitVec 32 := 384#32
  let v729 : BitVec 32 := Scalar.addi v728 c384_i32
  v729
def k0_mult13 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_252 : BitVec 32 := 512#32
  let v751 : BitVec 32 := Scalar.muli arg13 c512_i32_252
  let c448_i32 : BitVec 32 := 448#32
  let v752 : BitVec 32 := Scalar.addi v751 c448_i32
  v752
def k0_mult14 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_259 : BitVec 32 := 512#32
  let v775 : BitVec 32 := Scalar.muli arg13 c512_i32_259
  let c0_i32_260 : BitVec 32 := 0#32
  let v776 : BitVec 32 := Scalar.addi v775 c0_i32_260
  v776
def k0_off14 (i : grid0.Coords) (k0_t4 : Fin (k0_t4_loop i).trips) (c0_i32_260 : BitVec 32) : Fin 2 → Nat :=
  let c0_i32_171 : BitVec 32 := 0#32
  let c1_i32_173 : BitVec 32 := 1#32
  let arg13 : BitVec 32 := Scf.iv c0_i32_171 c1_i32_173 k0_t4
  let c512_i32_259 : BitVec 32 := 512#32
  let v775 : BitVec 32 := Scalar.muli arg13 c512_i32_259
  let v776 : BitVec 32 := Scalar.addi v775 c0_i32_260
  let v777 : BitVec 32 := v776
  let v778 : Index := Scalar.indexCast v777
  let c128_261 : Index := 128#32
  ![v778.toNat, 128]
def k0_mult15 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_267 : BitVec 32 := 512#32
  let v798 : BitVec 32 := Scalar.muli arg13 c512_i32_267
  let c64_i32_268 : BitVec 32 := 64#32
  let v799 : BitVec 32 := Scalar.addi v798 c64_i32_268
  v799
def k0_mult16 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_275 : BitVec 32 := 512#32
  let v821 : BitVec 32 := Scalar.muli arg13 c512_i32_275
  let c128_i32_276 : BitVec 32 := 128#32
  let v822 : BitVec 32 := Scalar.addi v821 c128_i32_276
  v822
def k0_mult17 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_283 : BitVec 32 := 512#32
  let v844 : BitVec 32 := Scalar.muli arg13 c512_i32_283
  let c192_i32_284 : BitVec 32 := 192#32
  let v845 : BitVec 32 := Scalar.addi v844 c192_i32_284
  v845
def k0_mult18 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_291 : BitVec 32 := 512#32
  let v867 : BitVec 32 := Scalar.muli arg13 c512_i32_291
  let c256_i32_292 : BitVec 32 := 256#32
  let v868 : BitVec 32 := Scalar.addi v867 c256_i32_292
  v868
def k0_mult19 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_299 : BitVec 32 := 512#32
  let v890 : BitVec 32 := Scalar.muli arg13 c512_i32_299
  let c320_i32_300 : BitVec 32 := 320#32
  let v891 : BitVec 32 := Scalar.addi v890 c320_i32_300
  v891
def k0_mult20 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_307 : BitVec 32 := 512#32
  let v913 : BitVec 32 := Scalar.muli arg13 c512_i32_307
  let c384_i32_308 : BitVec 32 := 384#32
  let v914 : BitVec 32 := Scalar.addi v913 c384_i32_308
  v914
def k0_mult21 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_315 : BitVec 32 := 512#32
  let v936 : BitVec 32 := Scalar.muli arg13 c512_i32_315
  let c448_i32_316 : BitVec 32 := 448#32
  let v937 : BitVec 32 := Scalar.addi v936 c448_i32_316
  v937
def k0_mult22 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_323 : BitVec 32 := 512#32
  let v960 : BitVec 32 := Scalar.muli arg13 c512_i32_323
  let c0_i32_324 : BitVec 32 := 0#32
  let v961 : BitVec 32 := Scalar.addi v960 c0_i32_324
  v961
def k0_off15 (i : grid0.Coords) (k0_t4 : Fin (k0_t4_loop i).trips) (c0_i32_324 : BitVec 32) : Fin 2 → Nat :=
  let c0_i32_171 : BitVec 32 := 0#32
  let c1_i32_173 : BitVec 32 := 1#32
  let arg13 : BitVec 32 := Scf.iv c0_i32_171 c1_i32_173 k0_t4
  let c512_i32_323 : BitVec 32 := 512#32
  let v960 : BitVec 32 := Scalar.muli arg13 c512_i32_323
  let v961 : BitVec 32 := Scalar.addi v960 c0_i32_324
  let v962 : BitVec 32 := v961
  let v963 : Index := Scalar.indexCast v962
  let c256_325 : Index := 256#32
  ![v963.toNat, 256]
def k0_mult23 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_331 : BitVec 32 := 512#32
  let v983 : BitVec 32 := Scalar.muli arg13 c512_i32_331
  let c64_i32_332 : BitVec 32 := 64#32
  let v984 : BitVec 32 := Scalar.addi v983 c64_i32_332
  v984
def k0_mult24 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_339 : BitVec 32 := 512#32
  let v1006 : BitVec 32 := Scalar.muli arg13 c512_i32_339
  let c128_i32_340 : BitVec 32 := 128#32
  let v1007 : BitVec 32 := Scalar.addi v1006 c128_i32_340
  v1007
def k0_mult25 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_347 : BitVec 32 := 512#32
  let v1029 : BitVec 32 := Scalar.muli arg13 c512_i32_347
  let c192_i32_348 : BitVec 32 := 192#32
  let v1030 : BitVec 32 := Scalar.addi v1029 c192_i32_348
  v1030
def k0_mult26 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_355 : BitVec 32 := 512#32
  let v1052 : BitVec 32 := Scalar.muli arg13 c512_i32_355
  let c256_i32_356 : BitVec 32 := 256#32
  let v1053 : BitVec 32 := Scalar.addi v1052 c256_i32_356
  v1053
def k0_mult27 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_363 : BitVec 32 := 512#32
  let v1075 : BitVec 32 := Scalar.muli arg13 c512_i32_363
  let c320_i32_364 : BitVec 32 := 320#32
  let v1076 : BitVec 32 := Scalar.addi v1075 c320_i32_364
  v1076
def k0_mult28 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_371 : BitVec 32 := 512#32
  let v1098 : BitVec 32 := Scalar.muli arg13 c512_i32_371
  let c384_i32_372 : BitVec 32 := 384#32
  let v1099 : BitVec 32 := Scalar.addi v1098 c384_i32_372
  v1099
def k0_mult29 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_379 : BitVec 32 := 512#32
  let v1121 : BitVec 32 := Scalar.muli arg13 c512_i32_379
  let c448_i32_380 : BitVec 32 := 448#32
  let v1122 : BitVec 32 := Scalar.addi v1121 c448_i32_380
  v1122
def k0_mult30 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_387 : BitVec 32 := 512#32
  let v1145 : BitVec 32 := Scalar.muli arg13 c512_i32_387
  let c0_i32_388 : BitVec 32 := 0#32
  let v1146 : BitVec 32 := Scalar.addi v1145 c0_i32_388
  v1146
def k0_off16 (i : grid0.Coords) (k0_t4 : Fin (k0_t4_loop i).trips) (c0_i32_388 : BitVec 32) : Fin 2 → Nat :=
  let c0_i32_171 : BitVec 32 := 0#32
  let c1_i32_173 : BitVec 32 := 1#32
  let arg13 : BitVec 32 := Scf.iv c0_i32_171 c1_i32_173 k0_t4
  let c512_i32_387 : BitVec 32 := 512#32
  let v1145 : BitVec 32 := Scalar.muli arg13 c512_i32_387
  let v1146 : BitVec 32 := Scalar.addi v1145 c0_i32_388
  let v1147 : BitVec 32 := v1146
  let v1148 : Index := Scalar.indexCast v1147
  let c384_389 : Index := 384#32
  ![v1148.toNat, 384]
def k0_mult31 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_395 : BitVec 32 := 512#32
  let v1168 : BitVec 32 := Scalar.muli arg13 c512_i32_395
  let c64_i32_396 : BitVec 32 := 64#32
  let v1169 : BitVec 32 := Scalar.addi v1168 c64_i32_396
  v1169
def k0_mult32 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_403 : BitVec 32 := 512#32
  let v1191 : BitVec 32 := Scalar.muli arg13 c512_i32_403
  let c128_i32_404 : BitVec 32 := 128#32
  let v1192 : BitVec 32 := Scalar.addi v1191 c128_i32_404
  v1192
def k0_mult33 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_411 : BitVec 32 := 512#32
  let v1214 : BitVec 32 := Scalar.muli arg13 c512_i32_411
  let c192_i32_412 : BitVec 32 := 192#32
  let v1215 : BitVec 32 := Scalar.addi v1214 c192_i32_412
  v1215
def k0_mult34 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_419 : BitVec 32 := 512#32
  let v1237 : BitVec 32 := Scalar.muli arg13 c512_i32_419
  let c256_i32_420 : BitVec 32 := 256#32
  let v1238 : BitVec 32 := Scalar.addi v1237 c256_i32_420
  v1238
def k0_mult35 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_427 : BitVec 32 := 512#32
  let v1260 : BitVec 32 := Scalar.muli arg13 c512_i32_427
  let c320_i32_428 : BitVec 32 := 320#32
  let v1261 : BitVec 32 := Scalar.addi v1260 c320_i32_428
  v1261
def k0_mult36 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_435 : BitVec 32 := 512#32
  let v1283 : BitVec 32 := Scalar.muli arg13 c512_i32_435
  let c384_i32_436 : BitVec 32 := 384#32
  let v1284 : BitVec 32 := Scalar.addi v1283 c384_i32_436
  v1284
def k0_mult37 (i : grid0.Coords) (k0_t4 : Fin (k0_t4_loop i).trips) : BitVec 32 :=
  let c0_i32_171 : BitVec 32 := 0#32
  let c1_i32_173 : BitVec 32 := 1#32
  let arg13 : BitVec 32 := Scf.iv c0_i32_171 c1_i32_173 k0_t4
  let c512_i32_443 : BitVec 32 := 512#32
  let v1306 : BitVec 32 := Scalar.muli arg13 c512_i32_443
  let c448_i32_444 : BitVec 32 := 448#32
  let v1307 : BitVec 32 := Scalar.addi v1306 c448_i32_444
  v1307
def k0_off17 (i : grid0.Coords) (k0_t4 : Fin (k0_t4_loop i).trips) : Fin 2 → Nat :=
  let c0_453 : Index := 0#32
  let c0_i32_171 : BitVec 32 := 0#32
  let c1_i32_173 : BitVec 32 := 1#32
  let arg13 : BitVec 32 := Scf.iv c0_i32_171 c1_i32_173 k0_t4
  let c512_i32_200 : BitVec 32 := 512#32
  let v588 : BitVec 32 := Scalar.muli arg13 c512_i32_200
  let v589 : BitVec 32 := v588
  let v1332 : Index := Scalar.indexCast v589
  ![0, v1332.toNat]
@[reducible] def k0_t5_loop (i : grid0.Coords) : Scf.Loop 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let v530 : BitVec 32 := Scalar.addi c0_i32_171 v529
  let c1_i32_174 : BitVec 32 := 1#32
  ⟨v533, v530, c1_i32_174⟩
def k0_mult38 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_200 : BitVec 32 := 512#32
  let v588 : BitVec 32 := Scalar.muli arg13 c512_i32_200
  v588
def k0_mult39 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_201 : BitVec 32 := 512#32
  let v590 : BitVec 32 := Scalar.muli arg13 c512_i32_201
  let c0_i32_202 : BitVec 32 := 0#32
  let v591 : BitVec 32 := Scalar.addi v590 c0_i32_202
  v591
def k0_off18 (i : grid0.Coords) (k0_t5 : Fin (k0_t5_loop i).trips) (c0_i32_202 : BitVec 32) : Fin 2 → Nat :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_201 : BitVec 32 := 512#32
  let v590 : BitVec 32 := Scalar.muli arg13 c512_i32_201
  let v591 : BitVec 32 := Scalar.addi v590 c0_i32_202
  let v592 : BitVec 32 := v591
  let v593 : Index := Scalar.indexCast v592
  let c0_203 : Index := 0#32
  ![v593.toNat, 0]
def k0_off19 (i : grid0.Coords) (k0_t5 : Fin (k0_t5_loop i).trips) (c0_i32_205 : BitVec 32) : Fin 2 → Nat :=
  let arg0 : BitVec 32 := BitVec.ofNat 32 (i 0).val
  let v597 : Index := Scalar.indexCast arg0
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c8_i32_204 : BitVec 32 := 8#32
  let v595 : BitVec 32 := Scalar.muli arg13 c8_i32_204
  let v596 : BitVec 32 := Scalar.addi v595 c0_i32_205
  let v598 : Index := Scalar.indexCast v596
  ![v597.toNat, v598.toNat]
def k0_mult40 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_209 : BitVec 32 := 512#32
  let v613 : BitVec 32 := Scalar.muli arg13 c512_i32_209
  let c64_i32 : BitVec 32 := 64#32
  let v614 : BitVec 32 := Scalar.addi v613 c64_i32
  v614
def k0_mult41 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_216 : BitVec 32 := 512#32
  let v636 : BitVec 32 := Scalar.muli arg13 c512_i32_216
  let c128_i32_217 : BitVec 32 := 128#32
  let v637 : BitVec 32 := Scalar.addi v636 c128_i32_217
  v637
def k0_mult42 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_224 : BitVec 32 := 512#32
  let v659 : BitVec 32 := Scalar.muli arg13 c512_i32_224
  let c192_i32 : BitVec 32 := 192#32
  let v660 : BitVec 32 := Scalar.addi v659 c192_i32
  v660
def k0_mult43 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_231 : BitVec 32 := 512#32
  let v682 : BitVec 32 := Scalar.muli arg13 c512_i32_231
  let c256_i32 : BitVec 32 := 256#32
  let v683 : BitVec 32 := Scalar.addi v682 c256_i32
  v683
def k0_mult44 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_238 : BitVec 32 := 512#32
  let v705 : BitVec 32 := Scalar.muli arg13 c512_i32_238
  let c320_i32 : BitVec 32 := 320#32
  let v706 : BitVec 32 := Scalar.addi v705 c320_i32
  v706
def k0_mult45 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_245 : BitVec 32 := 512#32
  let v728 : BitVec 32 := Scalar.muli arg13 c512_i32_245
  let c384_i32 : BitVec 32 := 384#32
  let v729 : BitVec 32 := Scalar.addi v728 c384_i32
  v729
def k0_mult46 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_252 : BitVec 32 := 512#32
  let v751 : BitVec 32 := Scalar.muli arg13 c512_i32_252
  let c448_i32 : BitVec 32 := 448#32
  let v752 : BitVec 32 := Scalar.addi v751 c448_i32
  v752
def k0_mult47 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_259 : BitVec 32 := 512#32
  let v775 : BitVec 32 := Scalar.muli arg13 c512_i32_259
  let c0_i32_260 : BitVec 32 := 0#32
  let v776 : BitVec 32 := Scalar.addi v775 c0_i32_260
  v776
def k0_off20 (i : grid0.Coords) (k0_t5 : Fin (k0_t5_loop i).trips) (c0_i32_260 : BitVec 32) : Fin 2 → Nat :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_259 : BitVec 32 := 512#32
  let v775 : BitVec 32 := Scalar.muli arg13 c512_i32_259
  let v776 : BitVec 32 := Scalar.addi v775 c0_i32_260
  let v777 : BitVec 32 := v776
  let v778 : Index := Scalar.indexCast v777
  let c128_261 : Index := 128#32
  ![v778.toNat, 128]
def k0_mult48 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_267 : BitVec 32 := 512#32
  let v798 : BitVec 32 := Scalar.muli arg13 c512_i32_267
  let c64_i32_268 : BitVec 32 := 64#32
  let v799 : BitVec 32 := Scalar.addi v798 c64_i32_268
  v799
def k0_mult49 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_275 : BitVec 32 := 512#32
  let v821 : BitVec 32 := Scalar.muli arg13 c512_i32_275
  let c128_i32_276 : BitVec 32 := 128#32
  let v822 : BitVec 32 := Scalar.addi v821 c128_i32_276
  v822
def k0_mult50 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_283 : BitVec 32 := 512#32
  let v844 : BitVec 32 := Scalar.muli arg13 c512_i32_283
  let c192_i32_284 : BitVec 32 := 192#32
  let v845 : BitVec 32 := Scalar.addi v844 c192_i32_284
  v845
def k0_mult51 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_291 : BitVec 32 := 512#32
  let v867 : BitVec 32 := Scalar.muli arg13 c512_i32_291
  let c256_i32_292 : BitVec 32 := 256#32
  let v868 : BitVec 32 := Scalar.addi v867 c256_i32_292
  v868
def k0_mult52 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_299 : BitVec 32 := 512#32
  let v890 : BitVec 32 := Scalar.muli arg13 c512_i32_299
  let c320_i32_300 : BitVec 32 := 320#32
  let v891 : BitVec 32 := Scalar.addi v890 c320_i32_300
  v891
def k0_mult53 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_307 : BitVec 32 := 512#32
  let v913 : BitVec 32 := Scalar.muli arg13 c512_i32_307
  let c384_i32_308 : BitVec 32 := 384#32
  let v914 : BitVec 32 := Scalar.addi v913 c384_i32_308
  v914
def k0_mult54 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_315 : BitVec 32 := 512#32
  let v936 : BitVec 32 := Scalar.muli arg13 c512_i32_315
  let c448_i32_316 : BitVec 32 := 448#32
  let v937 : BitVec 32 := Scalar.addi v936 c448_i32_316
  v937
def k0_mult55 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_323 : BitVec 32 := 512#32
  let v960 : BitVec 32 := Scalar.muli arg13 c512_i32_323
  let c0_i32_324 : BitVec 32 := 0#32
  let v961 : BitVec 32 := Scalar.addi v960 c0_i32_324
  v961
def k0_off21 (i : grid0.Coords) (k0_t5 : Fin (k0_t5_loop i).trips) (c0_i32_324 : BitVec 32) : Fin 2 → Nat :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_323 : BitVec 32 := 512#32
  let v960 : BitVec 32 := Scalar.muli arg13 c512_i32_323
  let v961 : BitVec 32 := Scalar.addi v960 c0_i32_324
  let v962 : BitVec 32 := v961
  let v963 : Index := Scalar.indexCast v962
  let c256_325 : Index := 256#32
  ![v963.toNat, 256]
def k0_mult56 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_331 : BitVec 32 := 512#32
  let v983 : BitVec 32 := Scalar.muli arg13 c512_i32_331
  let c64_i32_332 : BitVec 32 := 64#32
  let v984 : BitVec 32 := Scalar.addi v983 c64_i32_332
  v984
def k0_mult57 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_339 : BitVec 32 := 512#32
  let v1006 : BitVec 32 := Scalar.muli arg13 c512_i32_339
  let c128_i32_340 : BitVec 32 := 128#32
  let v1007 : BitVec 32 := Scalar.addi v1006 c128_i32_340
  v1007
def k0_mult58 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_347 : BitVec 32 := 512#32
  let v1029 : BitVec 32 := Scalar.muli arg13 c512_i32_347
  let c192_i32_348 : BitVec 32 := 192#32
  let v1030 : BitVec 32 := Scalar.addi v1029 c192_i32_348
  v1030
def k0_mult59 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_355 : BitVec 32 := 512#32
  let v1052 : BitVec 32 := Scalar.muli arg13 c512_i32_355
  let c256_i32_356 : BitVec 32 := 256#32
  let v1053 : BitVec 32 := Scalar.addi v1052 c256_i32_356
  v1053
def k0_mult60 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_363 : BitVec 32 := 512#32
  let v1075 : BitVec 32 := Scalar.muli arg13 c512_i32_363
  let c320_i32_364 : BitVec 32 := 320#32
  let v1076 : BitVec 32 := Scalar.addi v1075 c320_i32_364
  v1076
def k0_mult61 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_371 : BitVec 32 := 512#32
  let v1098 : BitVec 32 := Scalar.muli arg13 c512_i32_371
  let c384_i32_372 : BitVec 32 := 384#32
  let v1099 : BitVec 32 := Scalar.addi v1098 c384_i32_372
  v1099
def k0_mult62 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_379 : BitVec 32 := 512#32
  let v1121 : BitVec 32 := Scalar.muli arg13 c512_i32_379
  let c448_i32_380 : BitVec 32 := 448#32
  let v1122 : BitVec 32 := Scalar.addi v1121 c448_i32_380
  v1122
def k0_mult63 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_387 : BitVec 32 := 512#32
  let v1145 : BitVec 32 := Scalar.muli arg13 c512_i32_387
  let c0_i32_388 : BitVec 32 := 0#32
  let v1146 : BitVec 32 := Scalar.addi v1145 c0_i32_388
  v1146
def k0_off22 (i : grid0.Coords) (k0_t5 : Fin (k0_t5_loop i).trips) (c0_i32_388 : BitVec 32) : Fin 2 → Nat :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_387 : BitVec 32 := 512#32
  let v1145 : BitVec 32 := Scalar.muli arg13 c512_i32_387
  let v1146 : BitVec 32 := Scalar.addi v1145 c0_i32_388
  let v1147 : BitVec 32 := v1146
  let v1148 : Index := Scalar.indexCast v1147
  let c384_389 : Index := 384#32
  ![v1148.toNat, 384]
def k0_mult64 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_395 : BitVec 32 := 512#32
  let v1168 : BitVec 32 := Scalar.muli arg13 c512_i32_395
  let c64_i32_396 : BitVec 32 := 64#32
  let v1169 : BitVec 32 := Scalar.addi v1168 c64_i32_396
  v1169
def k0_mult65 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_403 : BitVec 32 := 512#32
  let v1191 : BitVec 32 := Scalar.muli arg13 c512_i32_403
  let c128_i32_404 : BitVec 32 := 128#32
  let v1192 : BitVec 32 := Scalar.addi v1191 c128_i32_404
  v1192
def k0_mult66 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_411 : BitVec 32 := 512#32
  let v1214 : BitVec 32 := Scalar.muli arg13 c512_i32_411
  let c192_i32_412 : BitVec 32 := 192#32
  let v1215 : BitVec 32 := Scalar.addi v1214 c192_i32_412
  v1215
def k0_mult67 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_419 : BitVec 32 := 512#32
  let v1237 : BitVec 32 := Scalar.muli arg13 c512_i32_419
  let c256_i32_420 : BitVec 32 := 256#32
  let v1238 : BitVec 32 := Scalar.addi v1237 c256_i32_420
  v1238
def k0_mult68 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_427 : BitVec 32 := 512#32
  let v1260 : BitVec 32 := Scalar.muli arg13 c512_i32_427
  let c320_i32_428 : BitVec 32 := 320#32
  let v1261 : BitVec 32 := Scalar.addi v1260 c320_i32_428
  v1261
def k0_mult69 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_435 : BitVec 32 := 512#32
  let v1283 : BitVec 32 := Scalar.muli arg13 c512_i32_435
  let c384_i32_436 : BitVec 32 := 384#32
  let v1284 : BitVec 32 := Scalar.addi v1283 c384_i32_436
  v1284
def k0_mult70 (i : grid0.Coords) (k0_t5 : Fin (k0_t5_loop i).trips) : BitVec 32 :=
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_443 : BitVec 32 := 512#32
  let v1306 : BitVec 32 := Scalar.muli arg13 c512_i32_443
  let c448_i32_444 : BitVec 32 := 448#32
  let v1307 : BitVec 32 := Scalar.addi v1306 c448_i32_444
  v1307
def k0_off23 (i : grid0.Coords) (k0_t5 : Fin (k0_t5_loop i).trips) : Fin 2 → Nat :=
  let c0_453 : Index := 0#32
  let c0_i32_171 : BitVec 32 := 0#32
  let arg1 : BitVec 32 := BitVec.ofNat 32 (i 1).val
  let c128_i32 : BitVec 32 := 128#32
  let v35 : BitVec 32 := Scalar.muli arg1 c128_i32
  let c0_i32_7 : BitVec 32 := 0#32
  let v37 : BitVec 1 := Scalar.cmpi .sgt v35 c0_i32_7
  let v38 : BitVec 32 := Scalar.extui v37
  let c0_i32_8 : BitVec 32 := 0#32
  let v39 : BitVec 1 := Scalar.cmpi .slt v35 c0_i32_8
  let v40 : BitVec 32 := Scalar.extui v39
  let v41 : BitVec 32 := Scalar.subi v38 v40
  let c512_i32 : BitVec 32 := 512#32
  let c0_i32_9 : BitVec 32 := 0#32
  let v42 : BitVec 1 := Scalar.cmpi .sgt c512_i32 c0_i32_9
  let v43 : BitVec 32 := Scalar.extui v42
  let c0_i32_10 : BitVec 32 := 0#32
  let v44 : BitVec 1 := Scalar.cmpi .slt c512_i32 c0_i32_10
  let v45 : BitVec 32 := Scalar.extui v44
  let v46 : BitVec 32 := Scalar.subi v43 v45
  let v47 : BitVec 1 := Scalar.cmpi .ne v41 v46
  let v48 : BitVec 32 := Scalar.remsi v35 c512_i32
  let c0_i32_11 : BitVec 32 := 0#32
  let v49 : BitVec 1 := Scalar.cmpi .ne v48 c0_i32_11
  let v50 : BitVec 1 := Scalar.andi v47 v49
  let v36 : BitVec 32 := Scalar.divsi v35 c512_i32
  let c1_i32_12 : BitVec 32 := 1#32
  let v51 : BitVec 32 := Scalar.subi v36 c1_i32_12
  let v52 : BitVec 32 := Scalar.select v50 v51 v36
  let c1_i32_13 : BitVec 32 := 1#32
  let v53 : BitVec 32 := Scalar.addi v52 c1_i32_13
  let v529 : BitVec 32 := Scalar.subi v53 c0_i32_171
  let c1_i32_172 : BitVec 32 := 1#32
  let v531 : BitVec 32 := Scalar.divsi v529 c1_i32_172
  let v532 : BitVec 32 := Scalar.muli v531 c1_i32_172
  let v533 : BitVec 32 := Scalar.addi c0_i32_171 v532
  let c1_i32_174 : BitVec 32 := 1#32
  let arg13 : BitVec 32 := Scf.iv v533 c1_i32_174 k0_t5
  let c512_i32_200 : BitVec 32 := 512#32
  let v588 : BitVec 32 := Scalar.muli arg13 c512_i32_200
  let v589 : BitVec 32 := v588
  let v1332 : Index := Scalar.indexCast v589
  ![0, v1332.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 1 → Memref sig .tc .smem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S128x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S16384x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S128x16384 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16384x8192 : Shape := ⟨2, ![16384, 8192]⟩
abbrev S128x64 : Shape := ⟨2, ![128, 64]⟩
abbrev S16384x1024 : Shape := ⟨2, ![16384, 1024]⟩
abbrev S8x256 : Shape := ⟨2, ![8, 256]⟩
abbrev S1024x16384 : Shape := ⟨2, ![1024, 16384]⟩
abbrev S8x128 : Shape := ⟨2, ![8, 128]⟩
abbrev S16384x8x8x128 : Shape := ⟨4, ![16384, 8, 8, 128]⟩
abbrev S16384x8x128 : Shape := ⟨3, ![16384, 8, 128]⟩
abbrev S8x128x16384 : Shape := ⟨3, ![8, 128, 16384]⟩
abbrev S128x128x64 : Shape := ⟨3, ![128, 128, 64]⟩
abbrev S16384x64 : Shape := ⟨2, ![16384, 64]⟩
abbrev S16384x8x8 : Shape := ⟨3, ![16384, 8, 8]⟩
abbrev S8x8x16384 : Shape := ⟨3, ![8, 8, 16384]⟩
abbrev S8x256x64 : Shape := ⟨3, ![8, 256, 64]⟩
abbrev S8x16384 : Shape := ⟨2, ![8, 16384]⟩
abbrev S8x16384x16384x8 : Shape := ⟨4, ![8, 16384, 16384, 8]⟩
abbrev S8x8x16384x16384 : Shape := ⟨4, ![8, 8, 16384, 16384]⟩
abbrev S8x8x16384x1 : Shape := ⟨4, ![8, 8, 16384, 1]⟩
abbrev S8x1x1x16384 : Shape := ⟨4, ![8, 1, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩
abbrev S8x128x8x16384 : Shape := ⟨4, ![8, 128, 8, 16384]⟩
abbrev S16384x8x8x1 : Shape := ⟨4, ![16384, 8, 8, 1]⟩
abbrev S1x8x1x128 : Shape := ⟨4, ![1, 8, 1, 128]⟩

abbrev nBuf : Space → Nat
  | .hbm => 65
  | .vmem => 6
  | .smem => 0
  | _ => 0

abbrev bufTy : (tb : Table) → Fin (tcTables nBuf tb) → BufTy
  | .hbm, ⟨0, _⟩ => ⟨S16384x8192, .i8⟩
  | .hbm, ⟨1, _⟩ => ⟨S128x64, .f32⟩
  | .hbm, ⟨2, _⟩ => ⟨S16384x1024, .i8⟩
  | .hbm, ⟨3, _⟩ => ⟨S8x256, .f32⟩
  | .hbm, ⟨4, _⟩ => ⟨S1024x16384, .fp8e4m3⟩
  | .hbm, ⟨5, _⟩ => ⟨S8x128, .f32⟩
  | .hbm, ⟨6, _⟩ => ⟨S16384x8192, .bf16⟩
  | .hbm, ⟨7, _⟩ => ⟨S16384x1024, .bf16⟩
  | .hbm, ⟨8, _⟩ => ⟨S1024x16384, .f32⟩
  | .hbm, ⟨9, _⟩ => ⟨S16384x8x8x128, .bf16⟩
  | .hbm, ⟨10, _⟩ => ⟨S16384x8x128, .bf16⟩
  | .hbm, ⟨11, _⟩ => ⟨S8x128x16384, .f32⟩
  | .hbm, ⟨12, _⟩ => ⟨S128x128x64, .f32⟩
  | .hbm, ⟨13, _⟩ => ⟨S16384x64, .f32⟩
  | .hbm, ⟨14, _⟩ => ⟨S16384x8x8, .f32⟩
  | .hbm, ⟨15, _⟩ => ⟨S8x8x16384, .f32⟩
  | .hbm, ⟨16, _⟩ => ⟨S8x256x64, .f32⟩
  | .hbm, ⟨17, _⟩ => ⟨S8x16384, .f32⟩
  | .hbm, ⟨18, _⟩ => ⟨S8x16384x16384x8, .f32⟩
  | .hbm, ⟨19, _⟩ => ⟨S8x8x16384x16384, .f32⟩
  | .hbm, ⟨20, _⟩ => ⟨S8x8x16384x1, .f32⟩
  | .hbm, ⟨21, _⟩ => ⟨S8x8x16384x16384, .f32⟩
  | .hbm, ⟨22, _⟩ => ⟨S8x8x16384x16384, .f32⟩
  | .hbm, ⟨23, _⟩ => ⟨S8x1x1x16384, .f32⟩
  | .hbm, ⟨24, _⟩ => ⟨S8x8x16384x16384, .f32⟩
  | .hbm, ⟨25, _⟩ => ⟨S8x8x16384x16384, .f32⟩
  | .hbm, ⟨26, _⟩ => ⟨S16384, .i32⟩
  | .hbm, ⟨27, _⟩ => ⟨S16384x1, .i32⟩
  | .hbm, ⟨28, _⟩ => ⟨S1x16384, .i32⟩
  | .hbm, ⟨29, _⟩ => ⟨S16384x16384, .i32⟩
  | .hbm, ⟨30, _⟩ => ⟨S16384x16384, .i32⟩
  | .hbm, ⟨31, _⟩ => ⟨S16384x16384, .i1⟩
  | .hbm, ⟨32, _⟩ => ⟨S_, .f32⟩
  | .hbm, ⟨33, _⟩ => ⟨S_, .f32⟩
  | .hbm, ⟨34, _⟩ => ⟨S8x8x16384x16384, .i1⟩
  | .hbm, ⟨35, _⟩ => ⟨S8x8x16384x16384, .f32⟩
  | .hbm, ⟨36, _⟩ => ⟨S8x8x16384x16384, .f32⟩
  | .hbm, ⟨37, _⟩ => ⟨S_, .f32⟩
  | .hbm, ⟨38, _⟩ => ⟨S8x8x16384, .f32⟩
  | .hbm, ⟨39, _⟩ => ⟨S8x8x16384x1, .f32⟩
  | .hbm, ⟨40, _⟩ => ⟨S8x8x16384x16384, .f32⟩
  | .hbm, ⟨41, _⟩ => ⟨S8x8x16384x16384, .f32⟩
  | .hbm, ⟨42, _⟩ => ⟨S8x8x16384x16384, .f32⟩
  | .hbm, ⟨43, _⟩ => ⟨S_, .f32⟩
  | .hbm, ⟨44, _⟩ => ⟨S8x8x16384, .f32⟩
  | .hbm, ⟨45, _⟩ => ⟨S_, .f32⟩
  | .hbm, ⟨46, _⟩ => ⟨S8x8x16384x16384, .f32⟩
  | .hbm, ⟨47, _⟩ => ⟨S8x8x16384x16384, .f32⟩
  | .hbm, ⟨48, _⟩ => ⟨S_, .f32⟩
  | .hbm, ⟨49, _⟩ => ⟨S8x8x16384x16384, .f32⟩
  | .hbm, ⟨50, _⟩ => ⟨S8x8x16384x16384, .f32⟩
  | .hbm, ⟨51, _⟩ => ⟨S8x128x8x16384, .f32⟩
  | .hbm, ⟨52, _⟩ => ⟨S16384x8x8x128, .f32⟩
  | .hbm, ⟨53, _⟩ => ⟨S16384x8x8, .f32⟩
  | .hbm, ⟨54, _⟩ => ⟨S16384x8x8x1, .f32⟩
  | .hbm, ⟨55, _⟩ => ⟨S16384x8x8x128, .f32⟩
  | .hbm, ⟨56, _⟩ => ⟨S16384x8x8x128, .f32⟩
  | .hbm, ⟨57, _⟩ => ⟨S_, .f32⟩
  | .hbm, ⟨58, _⟩ => ⟨S8x128, .f32⟩
  | .hbm, ⟨59, _⟩ => ⟨S8x128, .f32⟩
  | .hbm, ⟨60, _⟩ => ⟨S1x8x1x128, .f32⟩
  | .hbm, ⟨61, _⟩ => ⟨S16384x8x8x128, .f32⟩
  | .hbm, ⟨62, _⟩ => ⟨S16384x8x8x128, .f32⟩
  | .hbm, ⟨63, _⟩ => ⟨S16384x8192, .f32⟩
  | .hbm, ⟨64, _⟩ => ⟨S16384x8192, .bf16⟩
  | .local _ .vmem, ⟨0, _⟩ => ⟨S16384x8192, .i8⟩
  | .local _ .vmem, ⟨1, _⟩ => ⟨S16384x1024, .i8⟩
  | .local _ .vmem, ⟨2, _⟩ => ⟨S1024x16384, .fp8e4m3⟩
  | .local _ .vmem, ⟨3, _⟩ => ⟨S16384x8192, .bf16⟩
  | .local _ .vmem, ⟨4, _⟩ => ⟨S16384x1024, .bf16⟩
  | .local _ .vmem, ⟨5, _⟩ => ⟨S1024x16384, .f32⟩
  | _, _ => ⟨S16384x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x8192 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1024 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== QuantKernel.lean ====
abbrev S16384x8192 : Shape := ⟨2, ![16384, 8192]⟩
abbrev S128x1x64 : Shape := ⟨3, ![128, 1, 64]⟩
abbrev S128x8192 : Shape := ⟨2, ![128, 8192]⟩
abbrev S1x1x64 : Shape := ⟨3, ![1, 1, 64]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S1x1x1 : Shape := ⟨3, ![1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x8192, .bf16⟩
  | .hbm, ⟨1, _⟩ => ⟨S16384x8192, .i8⟩
  | .hbm, ⟨2, _⟩ => ⟨S128x1x64, .f32⟩
  | .local _ .vmem, ⟨0, _⟩ => ⟨S128x8192, .bf16⟩
  | .local _ .vmem, ⟨1, _⟩ => ⟨S128x8192, .bf16⟩
  | .local _ .vmem, ⟨2, _⟩ => ⟨S128x8192, .i8⟩
  | .local _ .vmem, ⟨3, _⟩ => ⟨S128x8192, .i8⟩
  | .local _ .vmem, ⟨4, _⟩ => ⟨S1x1x64, .f32⟩
  | .local _ .vmem, ⟨5, _⟩ => ⟨S1x1x64, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantReferenceIdeal.lean ====
abbrev S16384x8192 : Shape := ⟨2, ![16384, 8192]⟩
abbrev S128x1x64 : Shape := ⟨3, ![128, 1, 64]⟩
abbrev S128x128x64x128 : Shape := ⟨4, ![128, 128, 64, 128]⟩
abbrev S128x128x64 : Shape := ⟨3, ![128, 128, 64]⟩
abbrev S128x64 : Shape := ⟨2, ![128, 64]⟩
abbrev S128x1x64x1 : Shape := ⟨4, ![128, 1, 64, 1]⟩

abbrev nBuf : Space → Nat
  | .hbm => 3
  | .vmem => 3
  | .smem => 0
  | _ => 0

abbrev bufTy : (tb : Table) → Fin (tcTables nBuf tb) → BufTy
  | .hbm, ⟨0, _⟩ => ⟨S16384x8192, .bf16⟩
  | .hbm, ⟨1, _⟩ => ⟨S16384x8192, .i8⟩
  | .hbm, ⟨2, _⟩ => ⟨S128x1x64, .f32⟩
  | .local _ .vmem, ⟨0, _⟩ => ⟨S16384x8192, .bf16⟩
  | .local _ .vmem, ⟨1, _⟩ => ⟨S16384x8192, .i8⟩
  | .local _ .vmem, ⟨2, _⟩ => ⟨S128x1x64, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16384x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.LoopsK.lean ====
/- The two counted loops the body runs (the score loop and the value loop): the generated invariants
   at fixed values of the words their regions never read, so that a run can fix every parameter. -/
module

public import proofs.«01_k».proof.Proof.Gen.Kernel.Loops

@[expose] public section

set_option maxRecDepth 8192

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option warn.classDefReducibility false in
/-- The invariant of loop 2, at fixed values of the words its region does not read. -/
@[sl_loop] def loop2 (𝒱 : Variants) (c : Dev nD) (bd : Option 𝒱.V) (E : Set ℕ) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (arg0 : BitVec 32) (v14 : FVec F S512x128 .bf16) (v19 : F .f32) (v24 : F .f32) (v29 : F .f32) (v34 : F .f32) (X_arg3 : BufTy.Contents (Elt F) arg3.view.ty) (X_arg10 : BufTy.Contents (Elt F) arg10.view.ty) (G_arg11 : BufTy.Contents (Elt F) arg11.view.ty) (init : FVec F S8x128 .f32 × FVec F S8x128 .f32 × FVec F S8x128 .f32 × FVec F S8x128 .f32) :
    Idealize.ShloMosaic.LoopInv (M := MT nD τ sig Unit (Elt F) ℕ (UR sig nD τ) ℕ) Idealize.ShloMosaic.frame (wpE defs₀ 𝒱 (c : Thread nD τ) bd) E
      (k0_t2_loop i).lb (k0_t2_loop i).ub (k0_t2_loop i).st (k0_t2_ok i) init (k0_t2_body (F := F) i arg3 harg3 arg4 harg4 arg5 harg5 arg6 harg6 arg7 harg7 arg8 harg8 arg9 harg9 arg10 harg10 arg11 harg11 arg12 harg12 arg0 (0#32) v14 v19 v24 v29 v34 (0#32) (0#32) (0#32) (0#1)) where
  inv := inv_k0_t2 (F := F) 𝒱 c bd i arg3 harg3 arg4 harg4 arg5 harg5 arg6 harg6 arg7 harg7 arg8 harg8 arg9 harg9 arg10 harg10 arg11 harg11 arg12 harg12 arg0 (0#32) v14 v19 v24 v29 v34 (0#32) (0#32) (0#32) (0#1) X_arg3 X_arg10 G_arg11 init
  step := (loopInv_k0_t2 (F := F) 𝒱 c bd E i arg3 harg3 arg4 harg4 arg5 harg5 arg6 harg6 arg7 harg7 arg8 harg8 arg9 harg9 arg10 harg10 arg11 harg11 arg12 harg12 arg0 (0#32) v14 v19 v24 v29 v34 (0#32) (0#32) (0#32) (0#1) X_arg3 X_arg10 G_arg11 init).step

set_option warn.classDefReducibility false in
/-- The invariant of loop 4, at fixed values of the words its region does not read. -/
@[sl_loop] def loop4 (𝒱 : Variants) (c : Dev nD) (bd : Option 𝒱.V) (E : Set ℕ) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (arg0 : BitVec 32) (v19 : F .f32) (v24 : F .f32) (v29 : F .f32) (v34 : F .f32) (v508 : FVec F S1x128 .f32) (v512 : FVec F S1x128 .f32) (v516 : FVec F S1x128 .f32) (v520 : FVec F S1x128 .f32) (X_arg3 : BufTy.Contents (Elt F) arg3.view.ty) (X_arg7 : BufTy.Contents (Elt F) arg7.view.ty) (X_arg11 : BufTy.Contents (Elt F) arg11.view.ty) (G_arg12 : BufTy.Contents (Elt F) arg12.view.ty) (init : FVec F S8x128 .f32 × FVec F S8x128 .f32 × FVec F S8x128 .f32 × FVec F S8x128 .f32) :
    Idealize.ShloMosaic.LoopInv (M := MT nD τ sig Unit (Elt F) ℕ (UR sig nD τ) ℕ) Idealize.ShloMosaic.frame (wpE defs₀ 𝒱 (c : Thread nD τ) bd) E
      (k0_t4_loop i).lb (k0_t4_loop i).ub (k0_t4_loop i).st (k0_t4_ok i) init (k0_t4_body (F := F) i arg3 harg3 arg4 harg4 arg5 harg5 arg6 harg6 arg7 harg7 arg8 harg8 arg9 harg9 arg10 harg10 arg11 harg11 arg12 harg12 arg0 v19 v24 v29 v34 (0#32) v508 v512 v516 v520 (init.1) (init.1) (init.1) (init.1)) where
  inv := inv_k0_t4 (F := F) 𝒱 c bd i arg3 harg3 arg4 harg4 arg5 harg5 arg6 harg6 arg7 harg7 arg8 harg8 arg9 harg9 arg10 harg10 arg11 harg11 arg12 harg12 arg0 v19 v24 v29 v34 (0#32) v508 v512 v516 v520 (init.1) (init.1) (init.1) (init.1) X_arg3 X_arg7 X_arg11 G_arg12 init
  step := (loopInv_k0_t4 (F := F) 𝒱 c bd E i arg3 harg3 arg4 harg4 arg5 harg5 arg6 harg6 arg7 harg7 arg8 harg8 arg9 harg9 arg10 harg10 arg11 harg11 arg12 harg12 arg0 v19 v24 v29 v34 (0#32) v508 v512 v516 v520 (init.1) (init.1) (init.1) (init.1) X_arg3 X_arg7 X_arg11 G_arg12 init).step

end Cert.Kernel.Body

end
-- ==== Proof.BodyK.lean ====
/- The attention kernel's body, run on whole staging memrefs at symbolic contents. Two cases: at the
   first point of a key/value head the kernel widens the key codes into its scratch, at the others it
   only reads that scratch. In both the run leaves the pieces it stores as functions of what it was
   given; what those pieces hold is read in the later modules. -/
module

public import proofs.«01_k».proof.Proof.LoopsK
public import proofs.«01_k».proof.Proof.Gen.Kernel.Frame
public import Idealize.ShloMosaic.Lib.Tactic

@[expose] public section

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body at a point that is not the first of its key/value head: it stores into the output block and two scratch buffers. -/
@[irreducible] def runB (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f10 : BufTy.Contents (Elt F) arg10.view.ty) (f11 : BufTy.Contents (Elt F) arg11.view.ty) (f12 : BufTy.Contents (Elt F) arg12.view.ty) (h : ¬ k0_cond1 i = 1#1) (ht3 : (k0_t3_loop i).trips = 0) (ht5 : (k0_t5_loop i).trips = 0) :
    Σ' (L9 : List (View.Piece (Elt F) S128x512 .bf16)) (L11 : List (View.Piece (Elt F) S16384x512 .f32)), { G12 : BufTy.Contents (Elt F) arg12.view.ty // ∀ (E : Set ℕ) (f9 : BufTy.Contents (Elt F) arg9.view.ty),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := F)) Variants.none (c : Thread nD τ) none) E (cc0_attention (F := F) i arg3 harg3 arg4 harg4 arg5 harg5 arg6 harg6 arg7 harg7 arg8 harg8 arg9 harg9 arg10 harg10 arg11 harg11 arg12 harg12)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} (arg9.view.writes (Elt F) f9 L9)) ∗ (arg10.view.loc (c : Thread nD τ) ↦[arg10.view.set]{fullShare} f10) ∗ (arg11.view.loc (c : Thread nD τ) ↦[arg11.view.set]{fullShare} (arg11.view.writes (Elt F) f11 L11)) ∗ (arg12.view.loc (c : Thread nD τ) ↦[arg12.view.set]{fullShare} G12))) } := by
  refine ⟨?_, ?_, ?_, fun E f9 => ?run⟩
  case run =>
    simp only [cc0_attention_eq_skeleton]; unfold cc0_attention_skel
    iintro ⟨H3, H4, H5, H6, H7, H8, H9, H10, H11, H12⟩
    sl_exec
    sl_step
    sl_close

set_option maxHeartbeats 4000000 in
/-- The body at the first point of a key/value head: it also widens the key codes into the scratch. -/
@[irreducible] def runA (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f10 : BufTy.Contents (Elt F) arg10.view.ty) (f11 : BufTy.Contents (Elt F) arg11.view.ty) (f12 : BufTy.Contents (Elt F) arg12.view.ty) (h : k0_cond1 i = 1#1) (ht3 : (k0_t3_loop i).trips = 0) (ht5 : (k0_t5_loop i).trips = 0) :
    Σ' (L9 : List (View.Piece (Elt F) S128x512 .bf16)) (L10 : List (View.Piece (Elt F) S16384x128 .bf16)) (L11 : List (View.Piece (Elt F) S16384x512 .f32)), { G12 : BufTy.Contents (Elt F) arg12.view.ty // ∀ (E : Set ℕ) (f9 : BufTy.Contents (Elt F) arg9.view.ty),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := F)) Variants.none (c : Thread nD τ) none) E (cc0_attention (F := F) i arg3 harg3 arg4 harg4 arg5 harg5 arg6 harg6 arg7 harg7 arg8 harg8 arg9 harg9 arg10 harg10 arg11 harg11 arg12 harg12)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} (arg9.view.writes (Elt F) f9 L9)) ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11)) ∗ (arg12.view.loc (c : Thread nD τ) ↦[arg12.view.set]{fullShare} G12))) } := by
  refine ⟨?_, ?_, ?_, ?_, fun E f9 => ?run⟩
  case run =>
    simp only [cc0_attention_eq_skeleton]; unfold cc0_attention_skel
    iintro ⟨H3, H4, H5, H6, H7, H8, H9, H10, H11, H12⟩
    sl_exec
    sl_step
    sl_close

end Cert.Kernel.Body

end
-- ==== Proof.WordsK.lean ====
/- The words the attention kernel computes from its grid point, in closed form: how often each counted
   loop runs (the two remainder loops never do) and at which points the key codes are widened. -/
module

public import proofs.«01_k».proof.Proof.Gen.Kernel.Skeleton

@[expose] public section

set_option maxRecDepth 16384

noncomputable section

namespace Cert.Kernel.Body

open Cert.Kernel Cert.Kernel.Gen
open Idealize.ShloMosaic

/-- A grid point whose only coordinate of interest is the query block. -/
def atBlock (a : Fin 128) : grid0.Coords := fun | 0 => (0 : Fin 8) | 1 => a | 2 => (0 : Fin 2)

/-- The score loop runs over the whole key chunks before the last one. -/
theorem t2_trips (i : grid0.Coords) : (k0_t2_loop i).trips = (i 1).val / 4 := by
  have h : ∀ a : Fin 128, (k0_t2_loop (atBlock a)).trips = a.val / 4 := by decide +kernel
  exact h (i 1)
/-- Its remainder loop never runs. -/
theorem t3_trips (i : grid0.Coords) : (k0_t3_loop i).trips = 0 := by
  have h : ∀ a : Fin 128, (k0_t3_loop (atBlock a)).trips = 0 := by decide +kernel
  exact h (i 1)
/-- The value loop runs over all key chunks up to the last one. -/
theorem t4_trips (i : grid0.Coords) : (k0_t4_loop i).trips = (i 1).val / 4 + 1 := by
  have h : ∀ a : Fin 128, (k0_t4_loop (atBlock a)).trips = a.val / 4 + 1 := by decide +kernel
  exact h (i 1)
/-- Its remainder loop never runs. -/
theorem t5_trips (i : grid0.Coords) : (k0_t5_loop i).trips = 0 := by
  have h : ∀ a : Fin 128, (k0_t5_loop (atBlock a)).trips = 0 := by decide +kernel
  exact h (i 1)

end Cert.Kernel.Body

end
-- ==== Proof.FrameK.lean ====
/- The frame of the attention program: its run ends, leaves every argument as it was and every
   semaphore counter at zero. What the body stores is not named here: the output window is forgotten,
   and the three scratch buffers pass from point to point at arbitrary contents. -/
module

public import proofs.«01_k».proof.Proof.BodyK
public import proofs.«01_k».proof.Proof.WordsK

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point, whole staging and scratch memrefs at any contents: it gives the inputs back as they were. -/
theorem body_keeps (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f10 : BufTy.Contents (Elt F) arg10.view.ty) (f11 : BufTy.Contents (Elt F) arg11.view.ty) (f12 : BufTy.Contents (Elt F) arg12.view.ty) (E : Set ℕ) (f9 : BufTy.Contents (Elt F) arg9.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := F)) Variants.none (c : Thread nD τ) none) E (cc0_attention (F := F) i arg3 harg3 arg4 harg4 arg5 harg5 arg6 harg6 arg7 harg7 arg8 harg8 arg9 harg9 arg10 harg10 arg11 harg11 arg12 harg12)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ g9, arg9.view.loc (c : Thread nD τ) ↦[arg9.view.set]{fullShare} g9) ∗ (∃ g10, arg10.view.loc (c : Thread nD τ) ↦[arg10.view.set]{fullShare} g10) ∗ (∃ g11, arg11.view.loc (c : Thread nD τ) ↦[arg11.view.set]{fullShare} g11) ∗ (∃ g12, arg12.view.loc (c : Thread nD τ) ↦[arg12.view.set]{fullShare} g12))) := by
  by_cases h : k0_cond1 i = 1#1
  · refine (((runA (F := F) c i arg3 harg3 arg4 harg4 arg5 harg5 arg6 harg6 arg7 harg7 arg8 harg8 arg9 harg9 arg10 harg10 arg11 harg11 arg12 harg12 X3 X4 X5 X6 X7 X8 f10 f11 f12 h (t3_trips i) (t5_trips i)).2.2.2.2 E f9)).trans (wp_mono _ _ _ fun _ => ?_)
    iintro ⟨H3, H4, H5, H6, H7, H8, H9, H10, H11, H12⟩
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iexists _; iexact H12
  · refine (((runB (F := F) c i arg3 harg3 arg4 harg4 arg5 harg5 arg6 harg6 arg7 harg7 arg8 harg8 arg9 harg9 arg10 harg10 arg11 harg11 arg12 harg12 X3 X4 X5 X6 X7 X8 f10 f11 f12 h (t3_trips i) (t5_trips i)).2.2.2 E f9)).trans (wp_mono _ _ _ fun _ => ?_)
    iintro ⟨H3, H4, H5, H6, H7, H8, H9, H10, H11, H12⟩
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iexists _; iexact H12

/-- The proof data: the inputs at their blocks, the output unnamed, the scratch at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

/-- The output window alone is forgotten. -/
def fgt : Fin 7 → Bool := fun | ⟨6, _⟩ => true | _ => false

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  unfold owns
  iintro ⟨⟨⟨⟨%f10, S0⟩, ⟨%f11, S1⟩, ⟨%f12, S2⟩⟩, Hp⟩, Ho, ⟨%d0, %x3, %h3, H3⟩, ⟨%d1, %x4, %h4, H4⟩, ⟨%d2, %x5, %h5, H5⟩, ⟨%d3, %x6, %h6, H6⟩, ⟨%d4, %x7, %h7, H7⟩, ⟨%d5, %x8, %h8, H8⟩, ⟨%d6, %x9, -, H9⟩⟩
  iapply (wp_wand_r Idealize.ShloMosaic.frame (wpE (defs₀ (F := F)) Variants.none (c : Thread nD τ) none) Set.univ)
  isplitl [S0 S1 S2 H3 H4 H5 H6 H7 H8 H9]
  · iapply (body_keeps c (grid0.coords t) _ _ _ _ _ _ _ _ _ _ _ _ _ _ _ _ _ _ _ _ x3 x4 x5 x6 x7 x8 f10 f11 f12 Set.univ x9)
    isplitl [H3]; · iexact H3
    isplitl [H4]; · iexact H4
    isplitl [H5]; · iexact H5
    isplitl [H6]; · iexact H6
    isplitl [H7]; · iexact H7
    isplitl [H8]; · iexact H8
    isplitl [H9]; · iexact H9
    rw [View.set_whole, View.set_whole, View.set_whole]
    isplitl [S0]; · iexact S0
    isplitl [S1]; · iexact S1
    iexact S2
  · rw [View.set_whole, View.set_whole, View.set_whole]
    iintro %_ ⟨H3, H4, H5, H6, H7, H8, ⟨%g9, H9⟩, ⟨%g10, S0⟩, ⟨%g11, S1⟩, ⟨%g12, S2⟩⟩
    isplitl [S0 S1 S2 Hp]
    · isplitl [S0 S1 S2]
      · isplitl [S0]; · iexists g10; iexact S0
        isplitl [S1]; · iexists g11; iexact S1
        iexists g12; iexact S2
      · iexact Hp
    isplitl [Ho]; · iexact Ho
    isplitl [H3]; · iexists x3; isplitr [H3]; · ipureintro; exact h3
                    iexact H3
    isplitl [H4]; · iexists x4; isplitr [H4]; · ipureintro; exact h4
                    iexact H4
    isplitl [H5]; · iexists x5; isplitr [H5]; · ipureintro; exact h5
                    iexact H5
    isplitl [H6]; · iexists x6; isplitr [H6]; · ipureintro; exact h6
                    iexact H6
    isplitl [H7]; · iexists x7; isplitr [H7]; · ipureintro; exact h7
                    iexact H7
    isplitl [H8]; · iexists x8; isplitr [H8]; · ipureintro; exact h8
                    iexact H8
    iexists _; iexists g9; isplitr [H9]; · ipureintro; rfl
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the output window forgotten. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The run, with every array of an input window as it was and every counter at zero. -/
theorem run_main : θ_run defs (onTc (τ := τ) (main (F := F))) (s₀ m ρ) (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m)
    (hmain := hmain m Variants.none) (hA := A_eq m) (hΦ := fun _ _ => rfl)

/-- The frame claim at any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 2 rfl).trans ((A_eq m c 2).trans (V_main_arg0 m c)),
      (h.1.arr_in c 1 rfl).trans ((A_eq m c 1).trans (V_main_arg1 m c)),
      (h.1.arr_in c 3 rfl).trans ((A_eq m c 3).trans (V_main_arg2 m c)),
      (h.1.arr_in c 0 rfl).trans ((A_eq m c 0).trans (V_main_arg3 m c)),
      (h.1.arr_in c 4 rfl).trans ((A_eq m c 4).trans (V_main_arg4 m c)),
      ((h.1 c).2 main_arg5 (Pipeline.mem_restRefs_of main_arg5 (by decide) (by decide))).trans (V_main_arg5 m c)⟩, h.2⟩) (run_main m ρ)

end Cert.Kernel.Body

end
-- ==== Proof.LoopsI.lean ====
/- The two counted loops the body runs (the score loop and the value loop): the generated invariants
   at fixed values of the words their regions never read, so that a run can fix every parameter. -/
module

public import proofs.«01_k».proof.Proof.Gen.KernelIdeal.Loops

@[expose] public section

set_option maxRecDepth 8192

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option warn.classDefReducibility false in
/-- The invariant of loop 2, at fixed values of the words its region does not read. -/
@[sl_loop] def loop2 (𝒱 : Variants) (c : Dev nD) (bd : Option 𝒱.V) (E : Set ℕ) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (arg0 : BitVec 32) (v14 : FVec F S512x128 .bf16) (v19 : F .f32) (v24 : F .f32) (v29 : F .f32) (v34 : F .f32) (X_arg3 : BufTy.Contents (Elt F) arg3.view.ty) (X_arg10 : BufTy.Contents (Elt F) arg10.view.ty) (G_arg11 : BufTy.Contents (Elt F) arg11.view.ty) (init : FVec F S8x128 .f32 × FVec F S8x128 .f32 × FVec F S8x128 .f32 × FVec F S8x128 .f32) :
    Idealize.ShloMosaic.LoopInv (M := MT nD τ sig Unit (Elt F) ℕ (UR sig nD τ) ℕ) Idealize.ShloMosaic.frame (wpE defs₀ 𝒱 (c : Thread nD τ) bd) E
      (k0_t2_loop i).lb (k0_t2_loop i).ub (k0_t2_loop i).st (k0_t2_ok i) init (k0_t2_body (F := F) i arg3 harg3 arg4 harg4 arg5 harg5 arg6 harg6 arg7 harg7 arg8 harg8 arg9 harg9 arg10 harg10 arg11 harg11 arg12 harg12 arg0 (0#32) v14 v19 v24 v29 v34 (0#32) (0#32) (0#32) (0#1)) where
  inv := inv_k0_t2 (F := F) 𝒱 c bd i arg3 harg3 arg4 harg4 arg5 harg5 arg6 harg6 arg7 harg7 arg8 harg8 arg9 harg9 arg10 harg10 arg11 harg11 arg12 harg12 arg0 (0#32) v14 v19 v24 v29 v34 (0#32) (0#32) (0#32) (0#1) X_arg3 X_arg10 G_arg11 init
  step := (loopInv_k0_t2 (F := F) 𝒱 c bd E i arg3 harg3 arg4 harg4 arg5 harg5 arg6 harg6 arg7 harg7 arg8 harg8 arg9 harg9 arg10 harg10 arg11 harg11 arg12 harg12 arg0 (0#32) v14 v19 v24 v29 v34 (0#32) (0#32) (0#32) (0#1) X_arg3 X_arg10 G_arg11 init).step

set_option warn.classDefReducibility false in
/-- The invariant of loop 4, at fixed values of the words its region does not read. -/
@[sl_loop] def loop4 (𝒱 : Variants) (c : Dev nD) (bd : Option 𝒱.V) (E : Set ℕ) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (arg0 : BitVec 32) (v19 : F .f32) (v24 : F .f32) (v29 : F .f32) (v34 : F .f32) (v508 : FVec F S1x128 .f32) (v512 : FVec F S1x128 .f32) (v516 : FVec F S1x128 .f32) (v520 : FVec F S1x128 .f32) (X_arg3 : BufTy.Contents (Elt F) arg3.view.ty) (X_arg7 : BufTy.Contents (Elt F) arg7.view.ty) (X_arg11 : BufTy.Contents (Elt F) arg11.view.ty) (G_arg12 : BufTy.Contents (Elt F) arg12.view.ty) (init : FVec F S8x128 .f32 × FVec F S8x128 .f32 × FVec F S8x128 .f32 × FVec F S8x128 .f32) :
    Idealize.ShloMosaic.LoopInv (M := MT nD τ sig Unit (Elt F) ℕ (UR sig nD τ) ℕ) Idealize.ShloMosaic.frame (wpE defs₀ 𝒱 (c : Thread nD τ) bd) E
      (k0_t4_loop i).lb (k0_t4_loop i).ub (k0_t4_loop i).st (k0_t4_ok i) init (k0_t4_body (F := F) i arg3 harg3 arg4 harg4 arg5 harg5 arg6 harg6 arg7 harg7 arg8 harg8 arg9 harg9 arg10 harg10 arg11 harg11 arg12 harg12 arg0 v19 v24 v29 v34 (0#32) v508 v512 v516 v520 (init.1) (init.1) (init.1) (init.1)) where
  inv := inv_k0_t4 (F := F) 𝒱 c bd i arg3 harg3 arg4 harg4 arg5 harg5 arg6 harg6 arg7 harg7 arg8 harg8 arg9 harg9 arg10 harg10 arg11 harg11 arg12 harg12 arg0 v19 v24 v29 v34 (0#32) v508 v512 v516 v520 (init.1) (init.1) (init.1) (init.1) X_arg3 X_arg7 X_arg11 G_arg12 init
  step := (loopInv_k0_t4 (F := F) 𝒱 c bd E i arg3 harg3 arg4 harg4 arg5 harg5 arg6 harg6 arg7 harg7 arg8 harg8 arg9 harg9 arg10 harg10 arg11 harg11 arg12 harg12 arg0 v19 v24 v29 v34 (0#32) v508 v512 v516 v520 (init.1) (init.1) (init.1) (init.1) X_arg3 X_arg7 X_arg11 G_arg12 init).step

end Cert.KernelIdeal.Body

end
-- ==== Proof.BodyI.lean ====
/- The attention kernel's body, run on whole staging memrefs at symbolic contents. Two cases: at the
   first point of a key/value head the kernel widens the key codes into its scratch, at the others it
   only reads that scratch. In both the run leaves the pieces it stores as functions of what it was
   given; what those pieces hold is read in the later modules. -/
module

public import proofs.«01_k».proof.Proof.LoopsI
public import proofs.«01_k».proof.Proof.Gen.KernelIdeal.Frame
public import Idealize.ShloMosaic.Lib.Tactic

@[expose] public section

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body at a point that is not the first of its key/value head: it stores into the output block and two scratch buffers. -/
@[irreducible] def runB (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f10 : BufTy.Contents (Elt F) arg10.view.ty) (f11 : BufTy.Contents (Elt F) arg11.view.ty) (f12 : BufTy.Contents (Elt F) arg12.view.ty) (h : ¬ k0_cond1 i = 1#1) (ht3 : (k0_t3_loop i).trips = 0) (ht5 : (k0_t5_loop i).trips = 0) :
    Σ' (L9 : List (View.Piece (Elt F) S128x512 .bf16)) (L11 : List (View.Piece (Elt F) S16384x512 .f32)), { G12 : BufTy.Contents (Elt F) arg12.view.ty // ∀ (E : Set ℕ) (f9 : BufTy.Contents (Elt F) arg9.view.ty),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := F)) Variants.none (c : Thread nD τ) none) E (cc0_attention (F := F) i arg3 harg3 arg4 harg4 arg5 harg5 arg6 harg6 arg7 harg7 arg8 harg8 arg9 harg9 arg10 harg10 arg11 harg11 arg12 harg12)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} (arg9.view.writes (Elt F) f9 L9)) ∗ (arg10.view.loc (c : Thread nD τ) ↦[arg10.view.set]{fullShare} f10) ∗ (arg11.view.loc (c : Thread nD τ) ↦[arg11.view.set]{fullShare} (arg11.view.writes (Elt F) f11 L11)) ∗ (arg12.view.loc (c : Thread nD τ) ↦[arg12.view.set]{fullShare} G12))) } := by
  refine ⟨?_, ?_, ?_, fun E f9 => ?run⟩
  case run =>
    simp only [cc0_attention_eq_skeleton]; unfold cc0_attention_skel
    iintro ⟨H3, H4, H5, H6, H7, H8, H9, H10, H11, H12⟩
    sl_exec
    sl_step
    sl_close

set_option maxHeartbeats 4000000 in
/-- The body at the first point of a key/value head: it also widens the key codes into the scratch. -/
@[irreducible] def runA (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f10 : BufTy.Contents (Elt F) arg10.view.ty) (f11 : BufTy.Contents (Elt F) arg11.view.ty) (f12 : BufTy.Contents (Elt F) arg12.view.ty) (h : k0_cond1 i = 1#1) (ht3 : (k0_t3_loop i).trips = 0) (ht5 : (k0_t5_loop i).trips = 0) :
    Σ' (L9 : List (View.Piece (Elt F) S128x512 .bf16)) (L10 : List (View.Piece (Elt F) S16384x128 .bf16)) (L11 : List (View.Piece (Elt F) S16384x512 .f32)), { G12 : BufTy.Contents (Elt F) arg12.view.ty // ∀ (E : Set ℕ) (f9 : BufTy.Contents (Elt F) arg9.view.ty),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := F)) Variants.none (c : Thread nD τ) none) E (cc0_attention (F := F) i arg3 harg3 arg4 harg4 arg5 harg5 arg6 harg6 arg7 harg7 arg8 harg8 arg9 harg9 arg10 harg10 arg11 harg11 arg12 harg12)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} (arg9.view.writes (Elt F) f9 L9)) ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11)) ∗ (arg12.view.loc (c : Thread nD τ) ↦[arg12.view.set]{fullShare} G12))) } := by
  refine ⟨?_, ?_, ?_, ?_, fun E f9 => ?run⟩
  case run =>
    simp only [cc0_attention_eq_skeleton]; unfold cc0_attention_skel
    iintro ⟨H3, H4, H5, H6, H7, H8, H9, H10, H11, H12⟩
    sl_exec
    sl_step
    sl_close

end Cert.KernelIdeal.Body

end
-- ==== Proof.WordsI.lean ====
/- The words the attention kernel computes from its grid point, in closed form: how often each counted
   loop runs (the two remainder loops never do) and at which points the key codes are widened. -/
module

public import proofs.«01_k».proof.Proof.Gen.KernelIdeal.Skeleton

@[expose] public section

set_option maxRecDepth 16384

noncomputable section

namespace Cert.KernelIdeal.Body

open Cert.KernelIdeal Cert.KernelIdeal.Gen
open Idealize.ShloMosaic

/-- A grid point whose only coordinate of interest is the query block. -/
def atBlock (a : Fin 128) : grid0.Coords := fun | 0 => (0 : Fin 8) | 1 => a | 2 => (0 : Fin 2)

/-- The score loop runs over the whole key chunks before the last one. -/
theorem t2_trips (i : grid0.Coords) : (k0_t2_loop i).trips = (i 1).val / 4 := by
  have h : ∀ a : Fin 128, (k0_t2_loop (atBlock a)).trips = a.val / 4 := by decide +kernel
  exact h (i 1)
/-- Its remainder loop never runs. -/
theorem t3_trips (i : grid0.Coords) : (k0_t3_loop i).trips = 0 := by
  have h : ∀ a : Fin 128, (k0_t3_loop (atBlock a)).trips = 0 := by decide +kernel
  exact h (i 1)
/-- The value loop runs over all key chunks up to the last one. -/
theorem t4_trips (i : grid0.Coords) : (k0_t4_loop i).trips = (i 1).val / 4 + 1 := by
  have h : ∀ a : Fin 128, (k0_t4_loop (atBlock a)).trips = a.val / 4 + 1 := by decide +kernel
  exact h (i 1)
/-- Its remainder loop never runs. -/
theorem t5_trips (i : grid0.Coords) : (k0_t5_loop i).trips = 0 := by
  have h : ∀ a : Fin 128, (k0_t5_loop (atBlock a)).trips = 0 := by decide +kernel
  exact h (i 1)

end Cert.KernelIdeal.Body

end
-- ==== Proof.FrameI.lean ====
/- The frame of the attention program: its run ends, leaves every argument as it was and every
   semaphore counter at zero. What the body stores is not named here: the output window is forgotten,
   and the three scratch buffers pass from point to point at arbitrary contents. -/
module

public import proofs.«01_k».proof.Proof.BodyI
public import proofs.«01_k».proof.Proof.WordsI

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body at any point, whole staging and scratch memrefs at any contents: it gives the inputs back as they were. -/
theorem body_keeps (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f10 : BufTy.Contents (Elt F) arg10.view.ty) (f11 : BufTy.Contents (Elt F) arg11.view.ty) (f12 : BufTy.Contents (Elt F) arg12.view.ty) (E : Set ℕ) (f9 : BufTy.Contents (Elt F) arg9.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := F)) Variants.none (c : Thread nD τ) none) E (cc0_attention (F := F) i arg3 harg3 arg4 harg4 arg5 harg5 arg6 harg6 arg7 harg7 arg8 harg8 arg9 harg9 arg10 harg10 arg11 harg11 arg12 harg12)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ g9, arg9.view.loc (c : Thread nD τ) ↦[arg9.view.set]{fullShare} g9) ∗ (∃ g10, arg10.view.loc (c : Thread nD τ) ↦[arg10.view.set]{fullShare} g10) ∗ (∃ g11, arg11.view.loc (c : Thread nD τ) ↦[arg11.view.set]{fullShare} g11) ∗ (∃ g12, arg12.view.loc (c : Thread nD τ) ↦[arg12.view.set]{fullShare} g12))) := by
  by_cases h : k0_cond1 i = 1#1
  · refine (((runA (F := F) c i arg3 harg3 arg4 harg4 arg5 harg5 arg6 harg6 arg7 harg7 arg8 harg8 arg9 harg9 arg10 harg10 arg11 harg11 arg12 harg12 X3 X4 X5 X6 X7 X8 f10 f11 f12 h (t3_trips i) (t5_trips i)).2.2.2.2 E f9)).trans (wp_mono _ _ _ fun _ => ?_)
    iintro ⟨H3, H4, H5, H6, H7, H8, H9, H10, H11, H12⟩
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iexists _; iexact H12
  · refine (((runB (F := F) c i arg3 harg3 arg4 harg4 arg5 harg5 arg6 harg6 arg7 harg7 arg8 harg8 arg9 harg9 arg10 harg10 arg11 harg11 arg12 harg12 X3 X4 X5 X6 X7 X8 f10 f11 f12 h (t3_trips i) (t5_trips i)).2.2.2 E f9)).trans (wp_mono _ _ _ fun _ => ?_)
    iintro ⟨H3, H4, H5, H6, H7, H8, H9, H10, H11, H12⟩
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iexists _; iexact H12

/-- The proof data: the inputs at their blocks, the output unnamed, the scratch at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

/-- The output window alone is forgotten. -/
def fgt : Fin 7 → Bool := fun | ⟨6, _⟩ => true | _ => false

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  unfold owns
  iintro ⟨⟨⟨⟨%f10, S0⟩, ⟨%f11, S1⟩, ⟨%f12, S2⟩⟩, Hp⟩, Ho, ⟨%d0, %x3, %h3, H3⟩, ⟨%d1, %x4, %h4, H4⟩, ⟨%d2, %x5, %h5, H5⟩, ⟨%d3, %x6, %h6, H6⟩, ⟨%d4, %x7, %h7, H7⟩, ⟨%d5, %x8, %h8, H8⟩, ⟨%d6, %x9, -, H9⟩⟩
  iapply (wp_wand_r Idealize.ShloMosaic.frame (wpE (defs₀ (F := F)) Variants.none (c : Thread nD τ) none) Set.univ)
  isplitl [S0 S1 S2 H3 H4 H5 H6 H7 H8 H9]
  · iapply (body_keeps c (grid0.coords t) _ _ _ _ _ _ _ _ _ _ _ _ _ _ _ _ _ _ _ _ x3 x4 x5 x6 x7 x8 f10 f11 f12 Set.univ x9)
    isplitl [H3]; · iexact H3
    isplitl [H4]; · iexact H4
    isplitl [H5]; · iexact H5
    isplitl [H6]; · iexact H6
    isplitl [H7]; · iexact H7
    isplitl [H8]; · iexact H8
    isplitl [H9]; · iexact H9
    rw [View.set_whole, View.set_whole, View.set_whole]
    isplitl [S0]; · iexact S0
    isplitl [S1]; · iexact S1
    iexact S2
  · rw [View.set_whole, View.set_whole, View.set_whole]
    iintro %_ ⟨H3, H4, H5, H6, H7, H8, ⟨%g9, H9⟩, ⟨%g10, S0⟩, ⟨%g11, S1⟩, ⟨%g12, S2⟩⟩
    isplitl [S0 S1 S2 Hp]
    · isplitl [S0 S1 S2]
      · isplitl [S0]; · iexists g10; iexact S0
        isplitl [S1]; · iexists g11; iexact S1
        iexists g12; iexact S2
      · iexact Hp
    isplitl [Ho]; · iexact Ho
    isplitl [H3]; · iexists x3; isplitr [H3]; · ipureintro; exact h3
                    iexact H3
    isplitl [H4]; · iexists x4; isplitr [H4]; · ipureintro; exact h4
                    iexact H4
    isplitl [H5]; · iexists x5; isplitr [H5]; · ipureintro; exact h5
                    iexact H5
    isplitl [H6]; · iexists x6; isplitr [H6]; · ipureintro; exact h6
                    iexact H6
    isplitl [H7]; · iexists x7; isplitr [H7]; · ipureintro; exact h7
                    iexact H7
    isplitl [H8]; · iexists x8; isplitr [H8]; · ipureintro; exact h8
                    iexact H8
    iexists _; iexists g9; isplitr [H9]; · ipureintro; rfl
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the output window forgotten. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The run, with every array of an input window as it was and every counter at zero. -/
theorem run_main : θ_run defs (onTc (τ := τ) (main (F := F))) (s₀ m ρ) (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m)
    (hmain := hmain m Variants.none) (hA := A_eq m) (hΦ := fun _ _ => rfl)

/-- The frame claim at any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 2 rfl).trans ((A_eq m c 2).trans (V_main_arg0 m c)),
      (h.1.arr_in c 1 rfl).trans ((A_eq m c 1).trans (V_main_arg1 m c)),
      (h.1.arr_in c 3 rfl).trans ((A_eq m c 3).trans (V_main_arg2 m c)),
      (h.1.arr_in c 0 rfl).trans ((A_eq m c 0).trans (V_main_arg3 m c)),
      (h.1.arr_in c 4 rfl).trans ((A_eq m c 4).trans (V_main_arg4 m c)),
      ((h.1 c).2 main_arg5 (Pipeline.mem_restRefs_of main_arg5 (by decide) (by decide))).trans (V_main_arg5 m c)⟩, h.2⟩) (run_main m ρ)

end Cert.KernelIdeal.Body

end
-- ==== Proof.RefRun.lean ====
/- The run of the reference program: its result is the composed term of its operations (the generated run,
   with one closing step of a proof added). -/
module

public import proofs.«01_k».proof.Proof.Gen.ReferenceIdeal
public import proofs.«01_k».proof.Proof.Gen.ReferenceIdeal.Frame
public import Idealize.ShloMosaic.Lib.StableHlo.Run
public import Idealize.ShloMosaic.Lib.Pipeline.FrameSuffix

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v0_0` (window 3's): not opened here. -/
def reg_main_v0_0 (c : Dev nD) : Buf (Elt F) ((c.tc : Thread nD τ).loc main_v0_0) := (Gen.dats m 0 c).arrAt 3 cfg0.N
/-- What the kernel region leaves in its result array `main_v0_1` (window 4's): not opened here. -/
def reg_main_v0_1 (c : Dev nD) : Buf (Elt F) ((c.tc : Thread nD τ).loc main_v0_1) := (Gen.dats m 0 c).arrAt 4 cfg0.N
/-- What the kernel region leaves in its result array `main_v0_2` (window 5's): not opened here. -/
def reg_main_v0_2 (c : Dev nD) : Buf (Elt F) ((c.tc : Thread nD τ).loc main_v0_2) := (Gen.dats m 0 c).arrAt 5 cfg0.N

/-- The exit contents at argument `main_arg1`: as launched. -/
theorem exit_main_arg1 (c : Dev nD) : exitV m c (Proc.devRef .tc main_arg1) = m ((c.tc : Thread nD τ).loc main_arg1) :=
  (Pipeline.withArrays_of_ne _ c (Gen.V0 m c) _ main_arg1 (by exact (by decide : ∀ w, Pipeline.arrRef spec0 w ≠ main_arg1))).trans (Gen.V_main_arg1 m c)
/-- The exit contents at argument `main_arg3`: as launched. -/
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
/-- The exit contents at argument `main_arg5`: as launched. -/
theorem exit_main_arg5 (c : Dev nD) : exitV m c (Proc.devRef .tc main_arg5) = m ((c.tc : Thread nD τ).loc main_arg5) :=
  (Pipeline.withArrays_of_ne _ c (Gen.V0 m c) _ main_arg5 (by exact (by decide : ∀ w, Pipeline.arrRef spec0 w ≠ main_arg5))).trans (Gen.V_main_arg5 m c)
/-- The exit contents at the region's result array `main_v0_0`. -/
theorem exit_main_v0_0 (c : Dev nD) : exitV m c (Proc.devRef .tc main_v0_0) = reg_main_v0_0 m c :=
  Pipeline.withArrays_arr spec0 Gen.launch0.win.arr_inj c (Gen.V0 m c) _ 3
/-- The exit contents at the region's result array `main_v0_1`. -/
theorem exit_main_v0_1 (c : Dev nD) : exitV m c (Proc.devRef .tc main_v0_1) = reg_main_v0_1 m c :=
  Pipeline.withArrays_arr spec0 Gen.launch0.win.arr_inj c (Gen.V0 m c) _ 4
/-- The exit contents at the region's result array `main_v0_2`. -/
theorem exit_main_v0_2 (c : Dev nD) : exitV m c (Proc.devRef .tc main_v0_2) = reg_main_v0_2 m c :=
  Pipeline.withArrays_arr spec0 Gen.launch0.win.arr_inj c (Gen.V0 m c) _ 5

set_option maxRecDepth 8192 in
/-- `main_v47`'s composed term of the arguments and the region's results (named: it is long). -/
def res_main_v47 (c : Dev nD) : Buf (Elt F) ((c.tc : Thread nD τ).loc main_v47) :=
  truncf .bf16 (shapeCast _ (mulf (Host.divf (transpose S16384x8x8x128 [3, 0, 2, 1] (Host.dotGeneral dot_S8x128x16384_S8x8x16384x16384_S8x128x8x16384_2_3_1_12_0_0 none (shapeCast _ (reg_main_v0_2 m c) shapeCasts_S1024x16384_S8x128x16384) (minimumf (mulf (Host.exp (subf (select (broadcastInDim S8x8x16384x16384 ![2, 3] bcast_S16384x16384_S8x8x16384x16384_2_3 (cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0))))) (mulf (mulf (transpose S8x8x16384x16384 [0, 3, 2, 1] (Host.dotGeneral dot_S16384x8x128_S16384x8x8x128_S8x16384x16384x8_2_3_0_02_1_1 none (shapeCast _ (reg_main_v0_1 m c) shapeCasts_S16384x1024_S16384x8x128) (shapeCast _ (reg_main_v0_0 m c) shapeCasts_S16384x8192_S16384x8x8x128)) transposes_S8x16384x16384x8_S8x8x16384x16384_0_3_2_1) (broadcastInDim S8x8x16384x16384 ![0, 1, 2, 3] bcast_S8x8x16384x1_S8x8x16384x16384_0_1_2_3 (broadcastInDim S8x8x16384x1 ![0, 1, 2] bcast_S8x8x16384_S8x8x16384x1_0_1_2 (transpose S8x8x16384 [1, 2, 0] (shapeCast _ (shapeCast _ (broadcastInDim S128x128x64 ![0, 2] bcast_S128x64_S128x128x64_0_2 (m ((c.tc : Thread nD τ).loc main_arg1))) shapeCasts_S128x128x64_S16384x64) shapeCasts_S16384x64_S16384x8x8) transposes_S16384x8x8_S8x8x16384_1_2_0)))) (broadcastInDim S8x8x16384x16384 ![0, 1, 2, 3] bcast_S8x1x1x16384_S8x8x16384x16384_0_1_2_3 (broadcastInDim S8x1x1x16384 ![0, 3] bcast_S8x16384_S8x1x1x16384_0_3 (shapeCast _ (broadcastInDim S8x256x64 ![0, 1] bcast_S8x256_S8x256x64_0_1 (m ((c.tc : Thread nD τ).loc main_arg3))) shapeCasts_S8x256x64_S8x16384)))) (broadcastInDim S8x8x16384x16384 ![] bcast_S_S8x8x16384x16384 (id (constant S_ .f32 0xFF800000#32)))) (broadcastInDim S8x8x16384x16384 ![0, 1, 2, 3] bcast_S8x8x16384x1_S8x8x16384x16384_0_1_2_3 (broadcastInDim S8x8x16384x1 ![0, 1, 2] bcast_S8x8x16384_S8x8x16384x1_0_1_2 (Host.reduce FloatOps.maximumf (select (broadcastInDim S8x8x16384x16384 ![2, 3] bcast_S16384x16384_S8x8x16384x16384_2_3 (cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0))))) (mulf (mulf (transpose S8x8x16384x16384 [0, 3, 2, 1] (Host.dotGeneral dot_S16384x8x128_S16384x8x8x128_S8x16384x16384x8_2_3_0_02_1_1 none (shapeCast _ (reg_main_v0_1 m c) shapeCasts_S16384x1024_S16384x8x128) (shapeCast _ (reg_main_v0_0 m c) shapeCasts_S16384x8192_S16384x8x8x128)) transposes_S8x16384x16384x8_S8x8x16384x16384_0_3_2_1) (broadcastInDim S8x8x16384x16384 ![0, 1, 2, 3] bcast_S8x8x16384x1_S8x8x16384x16384_0_1_2_3 (broadcastInDim S8x8x16384x1 ![0, 1, 2] bcast_S8x8x16384_S8x8x16384x1_0_1_2 (transpose S8x8x16384 [1, 2, 0] (shapeCast _ (shapeCast _ (broadcastInDim S128x128x64 ![0, 2] bcast_S128x64_S128x128x64_0_2 (m ((c.tc : Thread nD τ).loc main_arg1))) shapeCasts_S128x128x64_S16384x64) shapeCasts_S16384x64_S16384x8x8) transposes_S16384x8x8_S8x8x16384_1_2_0)))) (broadcastInDim S8x8x16384x16384 ![0, 1, 2, 3] bcast_S8x1x1x16384_S8x8x16384x16384_0_1_2_3 (broadcastInDim S8x1x1x16384 ![0, 3] bcast_S8x16384_S8x1x1x16384_0_3 (shapeCast _ (broadcastInDim S8x256x64 ![0, 1] bcast_S8x256_S8x256x64_0_1 (m ((c.tc : Thread nD τ).loc main_arg3))) shapeCasts_S8x256x64_S8x16384)))) (broadcastInDim S8x8x16384x16384 ![] bcast_S_S8x8x16384x16384 (id (constant S_ .f32 0xFF800000#32)))) (constant S_ .f32 0xFF800000#32) reducesTo_S8x8x16384x16384_S8x8x16384_d3 h_S_))))) (broadcastInDim S8x8x16384x16384 ![] bcast_S_S8x8x16384x16384 (constant S_ .f32 0x43800000#32))) (broadcastInDim S8x8x16384x16384 ![] bcast_S_S8x8x16384x16384 (constant S_ .f32 0x43E00000#32)))) transposes_S8x128x8x16384_S16384x8x8x128_3_0_2_1) (broadcastInDim S16384x8x8x128 ![0, 1, 2, 3] bcast_S16384x8x8x1_S16384x8x8x128_0_1_2_3 (broadcastInDim S16384x8x8x1 ![0, 1, 2] bcast_S16384x8x8_S16384x8x8x1_0_1_2 (transpose S16384x8x8 [2, 0, 1] (Host.reduceAdd (Host.exp (subf (select (broadcastInDim S8x8x16384x16384 ![2, 3] bcast_S16384x16384_S8x8x16384x16384_2_3 (cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0))))) (mulf (mulf (transpose S8x8x16384x16384 [0, 3, 2, 1] (Host.dotGeneral dot_S16384x8x128_S16384x8x8x128_S8x16384x16384x8_2_3_0_02_1_1 none (shapeCast _ (reg_main_v0_1 m c) shapeCasts_S16384x1024_S16384x8x128) (shapeCast _ (reg_main_v0_0 m c) shapeCasts_S16384x8192_S16384x8x8x128)) transposes_S8x16384x16384x8_S8x8x16384x16384_0_3_2_1) (broadcastInDim S8x8x16384x16384 ![0, 1, 2, 3] bcast_S8x8x16384x1_S8x8x16384x16384_0_1_2_3 (broadcastInDim S8x8x16384x1 ![0, 1, 2] bcast_S8x8x16384_S8x8x16384x1_0_1_2 (transpose S8x8x16384 [1, 2, 0] (shapeCast _ (shapeCast _ (broadcastInDim S128x128x64 ![0, 2] bcast_S128x64_S128x128x64_0_2 (m ((c.tc : Thread nD τ).loc main_arg1))) shapeCasts_S128x128x64_S16384x64) shapeCasts_S16384x64_S16384x8x8) transposes_S16384x8x8_S8x8x16384_1_2_0)))) (broadcastInDim S8x8x16384x16384 ![0, 1, 2, 3] bcast_S8x1x1x16384_S8x8x16384x16384_0_1_2_3 (broadcastInDim S8x1x1x16384 ![0, 3] bcast_S8x16384_S8x1x1x16384_0_3 (shapeCast _ (broadcastInDim S8x256x64 ![0, 1] bcast_S8x256_S8x256x64_0_1 (m ((c.tc : Thread nD τ).loc main_arg3))) shapeCasts_S8x256x64_S8x16384)))) (broadcastInDim S8x8x16384x16384 ![] bcast_S_S8x8x16384x16384 (id (constant S_ .f32 0xFF800000#32)))) (broadcastInDim S8x8x16384x16384 ![0, 1, 2, 3] bcast_S8x8x16384x1_S8x8x16384x16384_0_1_2_3 (broadcastInDim S8x8x16384x1 ![0, 1, 2] bcast_S8x8x16384_S8x8x16384x1_0_1_2 (Host.reduce FloatOps.maximumf (select (broadcastInDim S8x8x16384x16384 ![2, 3] bcast_S16384x16384_S8x8x16384x16384_2_3 (cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0))))) (mulf (mulf (transpose S8x8x16384x16384 [0, 3, 2, 1] (Host.dotGeneral dot_S16384x8x128_S16384x8x8x128_S8x16384x16384x8_2_3_0_02_1_1 none (shapeCast _ (reg_main_v0_1 m c) shapeCasts_S16384x1024_S16384x8x128) (shapeCast _ (reg_main_v0_0 m c) shapeCasts_S16384x8192_S16384x8x8x128)) transposes_S8x16384x16384x8_S8x8x16384x16384_0_3_2_1) (broadcastInDim S8x8x16384x16384 ![0, 1, 2, 3] bcast_S8x8x16384x1_S8x8x16384x16384_0_1_2_3 (broadcastInDim S8x8x16384x1 ![0, 1, 2] bcast_S8x8x16384_S8x8x16384x1_0_1_2 (transpose S8x8x16384 [1, 2, 0] (shapeCast _ (shapeCast _ (broadcastInDim S128x128x64 ![0, 2] bcast_S128x64_S128x128x64_0_2 (m ((c.tc : Thread nD τ).loc main_arg1))) shapeCasts_S128x128x64_S16384x64) shapeCasts_S16384x64_S16384x8x8) transposes_S16384x8x8_S8x8x16384_1_2_0)))) (broadcastInDim S8x8x16384x16384 ![0, 1, 2, 3] bcast_S8x1x1x16384_S8x8x16384x16384_0_1_2_3 (broadcastInDim S8x1x1x16384 ![0, 3] bcast_S8x16384_S8x1x1x16384_0_3 (shapeCast _ (broadcastInDim S8x256x64 ![0, 1] bcast_S8x256_S8x256x64_0_1 (m ((c.tc : Thread nD τ).loc main_arg3))) shapeCasts_S8x256x64_S8x16384)))) (broadcastInDim S8x8x16384x16384 ![] bcast_S_S8x8x16384x16384 (id (constant S_ .f32 0xFF800000#32)))) (constant S_ .f32 0xFF800000#32) reducesTo_S8x8x16384x16384_S8x8x16384_d3 h_S_))))) (constant S_ .f32 0x00000000#32) reducesTo_S8x8x16384x16384_S8x8x16384_d3 h_S_) transposes_S8x8x16384_S16384x8x8_2_0_1)))) (broadcastInDim S16384x8x8x128 ![0, 1, 2, 3] bcast_S1x8x1x128_S16384x8x8x128_0_1_2_3 (broadcastInDim S1x8x1x128 ![1, 3] bcast_S8x128_S1x8x1x128_1_3 (mulf (broadcastInDim S8x128 ![] bcast_S_S8x128 (constant S_ .f32 0x3B800000#32)) (m ((c.tc : Thread nD τ).loc main_arg5)))))) shapeCasts_S16384x8x8x128_S16384x8192) bitsLt_bf16_f32

/-- `res_main_v47` by its position among the values @main returns, 0 counting from 0: the name for hand proofs to cite, since
    a re-print renumbers `main_v47`. An abbreviation: it unfolds to the `res_main_v47` that `run` states. -/
abbrev res_out0 (c : Dev nD) : Buf (Elt F) ((c.tc : Thread nD τ).loc main_v47) := res_main_v47 m c

set_option maxRecDepth 8192 in
set_option maxHeartbeats 2000000 in
/-- The later operations from any contents `V0`, read at result `main_v47`. -/
theorem tail_main_v47 (V0 : Valuation τ sig (Elt F)) :
    after (List.flatten [Gen.hostOps1, Gen.hostOps1_1, Gen.hostOps1_2]) V0 (Proc.devRef .tc main_v47) = truncf .bf16 (shapeCast _ (mulf (Host.divf (transpose S16384x8x8x128 [3, 0, 2, 1] (Host.dotGeneral dot_S8x128x16384_S8x8x16384x16384_S8x128x8x16384_2_3_1_12_0_0 none (shapeCast _ (V0 (Proc.devRef .tc main_v0_2)) shapeCasts_S1024x16384_S8x128x16384) (minimumf (mulf (Host.exp (subf (select (broadcastInDim S8x8x16384x16384 ![2, 3] bcast_S16384x16384_S8x8x16384x16384_2_3 (cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0))))) (mulf (mulf (transpose S8x8x16384x16384 [0, 3, 2, 1] (Host.dotGeneral dot_S16384x8x128_S16384x8x8x128_S8x16384x16384x8_2_3_0_02_1_1 none (shapeCast _ (V0 (Proc.devRef .tc main_v0_1)) shapeCasts_S16384x1024_S16384x8x128) (shapeCast _ (V0 (Proc.devRef .tc main_v0_0)) shapeCasts_S16384x8192_S16384x8x8x128)) transposes_S8x16384x16384x8_S8x8x16384x16384_0_3_2_1) (broadcastInDim S8x8x16384x16384 ![0, 1, 2, 3] bcast_S8x8x16384x1_S8x8x16384x16384_0_1_2_3 (broadcastInDim S8x8x16384x1 ![0, 1, 2] bcast_S8x8x16384_S8x8x16384x1_0_1_2 (transpose S8x8x16384 [1, 2, 0] (shapeCast _ (shapeCast _ (broadcastInDim S128x128x64 ![0, 2] bcast_S128x64_S128x128x64_0_2 (V0 (Proc.devRef .tc main_arg1))) shapeCasts_S128x128x64_S16384x64) shapeCasts_S16384x64_S16384x8x8) transposes_S16384x8x8_S8x8x16384_1_2_0)))) (broadcastInDim S8x8x16384x16384 ![0, 1, 2, 3] bcast_S8x1x1x16384_S8x8x16384x16384_0_1_2_3 (broadcastInDim S8x1x1x16384 ![0, 3] bcast_S8x16384_S8x1x1x16384_0_3 (shapeCast _ (broadcastInDim S8x256x64 ![0, 1] bcast_S8x256_S8x256x64_0_1 (V0 (Proc.devRef .tc main_arg3))) shapeCasts_S8x256x64_S8x16384)))) (broadcastInDim S8x8x16384x16384 ![] bcast_S_S8x8x16384x16384 (id (constant S_ .f32 0xFF800000#32)))) (broadcastInDim S8x8x16384x16384 ![0, 1, 2, 3] bcast_S8x8x16384x1_S8x8x16384x16384_0_1_2_3 (broadcastInDim S8x8x16384x1 ![0, 1, 2] bcast_S8x8x16384_S8x8x16384x1_0_1_2 (Host.reduce FloatOps.maximumf (select (broadcastInDim S8x8x16384x16384 ![2, 3] bcast_S16384x16384_S8x8x16384x16384_2_3 (cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0))))) (mulf (mulf (transpose S8x8x16384x16384 [0, 3, 2, 1] (Host.dotGeneral dot_S16384x8x128_S16384x8x8x128_S8x16384x16384x8_2_3_0_02_1_1 none (shapeCast _ (V0 (Proc.devRef .tc main_v0_1)) shapeCasts_S16384x1024_S16384x8x128) (shapeCast _ (V0 (Proc.devRef .tc main_v0_0)) shapeCasts_S16384x8192_S16384x8x8x128)) transposes_S8x16384x16384x8_S8x8x16384x16384_0_3_2_1) (broadcastInDim S8x8x16384x16384 ![0, 1, 2, 3] bcast_S8x8x16384x1_S8x8x16384x16384_0_1_2_3 (broadcastInDim S8x8x16384x1 ![0, 1, 2] bcast_S8x8x16384_S8x8x16384x1_0_1_2 (transpose S8x8x16384 [1, 2, 0] (shapeCast _ (shapeCast _ (broadcastInDim S128x128x64 ![0, 2] bcast_S128x64_S128x128x64_0_2 (V0 (Proc.devRef .tc main_arg1))) shapeCasts_S128x128x64_S16384x64) shapeCasts_S16384x64_S16384x8x8) transposes_S16384x8x8_S8x8x16384_1_2_0)))) (broadcastInDim S8x8x16384x16384 ![0, 1, 2, 3] bcast_S8x1x1x16384_S8x8x16384x16384_0_1_2_3 (broadcastInDim S8x1x1x16384 ![0, 3] bcast_S8x16384_S8x1x1x16384_0_3 (shapeCast _ (broadcastInDim S8x256x64 ![0, 1] bcast_S8x256_S8x256x64_0_1 (V0 (Proc.devRef .tc main_arg3))) shapeCasts_S8x256x64_S8x16384)))) (broadcastInDim S8x8x16384x16384 ![] bcast_S_S8x8x16384x16384 (id (constant S_ .f32 0xFF800000#32)))) (constant S_ .f32 0xFF800000#32) reducesTo_S8x8x16384x16384_S8x8x16384_d3 h_S_))))) (broadcastInDim S8x8x16384x16384 ![] bcast_S_S8x8x16384x16384 (constant S_ .f32 0x43800000#32))) (broadcastInDim S8x8x16384x16384 ![] bcast_S_S8x8x16384x16384 (constant S_ .f32 0x43E00000#32)))) transposes_S8x128x8x16384_S16384x8x8x128_3_0_2_1) (broadcastInDim S16384x8x8x128 ![0, 1, 2, 3] bcast_S16384x8x8x1_S16384x8x8x128_0_1_2_3 (broadcastInDim S16384x8x8x1 ![0, 1, 2] bcast_S16384x8x8_S16384x8x8x1_0_1_2 (transpose S16384x8x8 [2, 0, 1] (Host.reduceAdd (Host.exp (subf (select (broadcastInDim S8x8x16384x16384 ![2, 3] bcast_S16384x16384_S8x8x16384x16384_2_3 (cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0))))) (mulf (mulf (transpose S8x8x16384x16384 [0, 3, 2, 1] (Host.dotGeneral dot_S16384x8x128_S16384x8x8x128_S8x16384x16384x8_2_3_0_02_1_1 none (shapeCast _ (V0 (Proc.devRef .tc main_v0_1)) shapeCasts_S16384x1024_S16384x8x128) (shapeCast _ (V0 (Proc.devRef .tc main_v0_0)) shapeCasts_S16384x8192_S16384x8x8x128)) transposes_S8x16384x16384x8_S8x8x16384x16384_0_3_2_1) (broadcastInDim S8x8x16384x16384 ![0, 1, 2, 3] bcast_S8x8x16384x1_S8x8x16384x16384_0_1_2_3 (broadcastInDim S8x8x16384x1 ![0, 1, 2] bcast_S8x8x16384_S8x8x16384x1_0_1_2 (transpose S8x8x16384 [1, 2, 0] (shapeCast _ (shapeCast _ (broadcastInDim S128x128x64 ![0, 2] bcast_S128x64_S128x128x64_0_2 (V0 (Proc.devRef .tc main_arg1))) shapeCasts_S128x128x64_S16384x64) shapeCasts_S16384x64_S16384x8x8) transposes_S16384x8x8_S8x8x16384_1_2_0)))) (broadcastInDim S8x8x16384x16384 ![0, 1, 2, 3] bcast_S8x1x1x16384_S8x8x16384x16384_0_1_2_3 (broadcastInDim S8x1x1x16384 ![0, 3] bcast_S8x16384_S8x1x1x16384_0_3 (shapeCast _ (broadcastInDim S8x256x64 ![0, 1] bcast_S8x256_S8x256x64_0_1 (V0 (Proc.devRef .tc main_arg3))) shapeCasts_S8x256x64_S8x16384)))) (broadcastInDim S8x8x16384x16384 ![] bcast_S_S8x8x16384x16384 (id (constant S_ .f32 0xFF800000#32)))) (broadcastInDim S8x8x16384x16384 ![0, 1, 2, 3] bcast_S8x8x16384x1_S8x8x16384x16384_0_1_2_3 (broadcastInDim S8x8x16384x1 ![0, 1, 2] bcast_S8x8x16384_S8x8x16384x1_0_1_2 (Host.reduce FloatOps.maximumf (select (broadcastInDim S8x8x16384x16384 ![2, 3] bcast_S16384x16384_S8x8x16384x16384_2_3 (cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0))))) (mulf (mulf (transpose S8x8x16384x16384 [0, 3, 2, 1] (Host.dotGeneral dot_S16384x8x128_S16384x8x8x128_S8x16384x16384x8_2_3_0_02_1_1 none (shapeCast _ (V0 (Proc.devRef .tc main_v0_1)) shapeCasts_S16384x1024_S16384x8x128) (shapeCast _ (V0 (Proc.devRef .tc main_v0_0)) shapeCasts_S16384x8192_S16384x8x8x128)) transposes_S8x16384x16384x8_S8x8x16384x16384_0_3_2_1) (broadcastInDim S8x8x16384x16384 ![0, 1, 2, 3] bcast_S8x8x16384x1_S8x8x16384x16384_0_1_2_3 (broadcastInDim S8x8x16384x1 ![0, 1, 2] bcast_S8x8x16384_S8x8x16384x1_0_1_2 (transpose S8x8x16384 [1, 2, 0] (shapeCast _ (shapeCast _ (broadcastInDim S128x128x64 ![0, 2] bcast_S128x64_S128x128x64_0_2 (V0 (Proc.devRef .tc main_arg1))) shapeCasts_S128x128x64_S16384x64) shapeCasts_S16384x64_S16384x8x8) transposes_S16384x8x8_S8x8x16384_1_2_0)))) (broadcastInDim S8x8x16384x16384 ![0, 1, 2, 3] bcast_S8x1x1x16384_S8x8x16384x16384_0_1_2_3 (broadcastInDim S8x1x1x16384 ![0, 3] bcast_S8x16384_S8x1x1x16384_0_3 (shapeCast _ (broadcastInDim S8x256x64 ![0, 1] bcast_S8x256_S8x256x64_0_1 (V0 (Proc.devRef .tc main_arg3))) shapeCasts_S8x256x64_S8x16384)))) (broadcastInDim S8x8x16384x16384 ![] bcast_S_S8x8x16384x16384 (id (constant S_ .f32 0xFF800000#32)))) (constant S_ .f32 0xFF800000#32) reducesTo_S8x8x16384x16384_S8x8x16384_d3 h_S_))))) (constant S_ .f32 0x00000000#32) reducesTo_S8x8x16384x16384_S8x8x16384_d3 h_S_) transposes_S8x8x16384_S16384x8x8_2_0_1)))) (broadcastInDim S16384x8x8x128 ![0, 1, 2, 3] bcast_S1x8x1x128_S16384x8x8x128_0_1_2_3 (broadcastInDim S1x8x1x128 ![1, 3] bcast_S8x128_S1x8x1x128_1_3 (mulf (broadcastInDim S8x128 ![] bcast_S_S8x128 (constant S_ .f32 0x3B800000#32)) (V0 (Proc.devRef .tc main_arg5)))))) shapeCasts_S16384x8x8x128_S16384x8192) bitsLt_bf16_f32 := by
  simp only [Gen.hostOps1, Gen.hostOps1_1, Gen.hostOps1_2, TRef.ternary, TRef.unary, TRef.toBuf, TRef.ofBuf, cast_eq, List.flatten_cons, List.flatten_nil, List.append_nil, List.cons_append, List.nil_append]
  after_results_simp <;> rfl
/-- Result `main_v47` after the later operations from the region's exit contents. -/
theorem fin_main_v47 (c : Dev nD) :
    Pipeline.afterTail₀ cfgs (Gen.dats m) 0 (Gen.V0 m) [Gen.hostOps1, Gen.hostOps1_1, Gen.hostOps1_2] c main_v47 = res_main_v47 m c :=
  by unfold res_main_v47; exact (tail_main_v47 (exitV m c)).trans (by rw [exit_main_arg1, exit_main_arg3, exit_main_arg5, exit_main_v0_0, exit_main_v0_1, exit_main_v0_2]; rfl)

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v47) = res_main_v47 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v47 (Pipeline.mem_restRefs_of main_v47 (by decide) (by decide))).trans (fin_main_v47 m c),
      ((h c).1 0).trans (((Gen.dats m 0 c).arrAt_in 0 rfl _).trans ((Gen.A_eq m c 0).trans (Gen.V_main_arg0 m c))),
      ((h c).2 main_arg1 (Pipeline.mem_restRefs_of main_arg1 (by decide) (by decide))).trans (Gen.W_main_arg1 m (Gen.dats m) c),
      ((h c).1 1).trans (((Gen.dats m 0 c).arrAt_in 1 rfl _).trans ((Gen.A_eq m c 1).trans (Gen.V_main_arg2 m c))),
      ((h c).2 main_arg3 (Pipeline.mem_restRefs_of main_arg3 (by decide) (by decide))).trans (Gen.W_main_arg3 m (Gen.dats m) c),
      ((h c).1 2).trans (((Gen.dats m 0 c).arrAt_in 2 rfl _).trans ((Gen.A_eq m c 2).trans (Gen.V_main_arg4 m c))),
      ((h c).2 main_arg5 (Pipeline.mem_restRefs_of main_arg5 (by decide) (by decide))).trans (Gen.W_main_arg5 m (Gen.dats m) c)⟩) (Gen.run_main m ρ)

end Cert.ReferenceIdeal.Value

end
-- ==== Proof.RefRead.lean ====
/- The reference program read operation by operation, each value at an index from the values before it (the
   generated reading, over the run in `RefRun`). -/
module

public import proofs.«01_k».proof.Proof.RefRun
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %1 = stablehlo.reshape %0#0 : (tensor<16384x8192xbf16>) -> tensor<16384x8x8x128xbf16>
def val_main_v1 (r0 : (⟨S16384x8192, .bf16⟩ : BufTy).Contents (Elt F)) : (⟨S16384x8x8x128, .bf16⟩ : BufTy).Contents (Elt F) :=
  shapeCast _ (r0) shapeCasts_S16384x8192_S16384x8x8x128
set_option backward.proofsInPublic true in
abbrev idx_main_v1 (i : S16384x8x8x128.Idx) : S16384x8192.Idx := fun a => match a with
  | ⟨0, _⟩ => ⟨((((i 0).val * 8 + (i 1).val) * 8 + (i 2).val) * 128 + (i 3).val) / 8192, by have h0 : (i 0).val < 16384 := (i 0).isLt; have h1 : (i 1).val < 8 := (i 1).isLt; have h2 : (i 2).val < 8 := (i 2).isLt; have h3 : (i 3).val < 128 := (i 3).isLt; show ((((i 0).val * 8 + (i 1).val) * 8 + (i 2).val) * 128 + (i 3).val) / 8192 < 16384; omega⟩
  | ⟨1, _⟩ => ⟨((((i 0).val * 8 + (i 1).val) * 8 + (i 2).val) * 128 + (i 3).val) % 8192, by have h0 : (i 0).val < 16384 := (i 0).isLt; have h1 : (i 1).val < 8 := (i 1).isLt; have h2 : (i 2).val < 8 := (i 2).isLt; have h3 : (i 3).val < 128 := (i 3).isLt; show ((((i 0).val * 8 + (i 1).val) * 8 + (i 2).val) * 128 + (i 3).val) % 8192 < 8192; omega⟩
theorem val_main_v1_apply (r0 : (⟨S16384x8192, .bf16⟩ : BufTy).Contents (Elt F)) (i : S16384x8x8x128.Idx) :
    val_main_v1 (F := F) r0 i = r0 (idx_main_v1 i) := by
  unfold val_main_v1
  exact shapeCast_apply r0 shapeCasts_S16384x8192_S16384x8x8x128 i (idx_main_v1 i)
    (by rewrite [Shape.rowMajor_val_two, Shape.rowMajor_val_four]; have h0 : (i 0).val < 16384 := (i 0).isLt; have h1 : (i 1).val < 8 := (i 1).isLt; have h2 : (i 2).val < 8 := (i 2).isLt; have h3 : (i 3).val < 128 := (i 3).isLt; show ((((i 0).val * 8 + (i 1).val) * 8 + (i 2).val) * 128 + (i 3).val) / 8192 * 8192 + ((((i 0).val * 8 + (i 1).val) * 8 + (i 2).val) * 128 + (i 3).val) % 8192 = (((i 0).val * 8 + (i 1).val) * 8 + (i 2).val) * 128 + (i 3).val; omega)

-- %2 = stablehlo.reshape %0#1 : (tensor<16384x1024xbf16>) -> tensor<16384x8x128xbf16>
def val_main_v2 (r1 : (⟨S16384x1024, .bf16⟩ : BufTy).Contents (Elt F)) : (⟨S16384x8x128, .bf16⟩ : BufTy).Contents (Elt F) :=
  shapeCast _ (r1) shapeCasts_S16384x1024_S16384x8x128
set_option backward.proofsInPublic true in
abbrev idx_main_v2 (i : S16384x8x128.Idx) : S16384x1024.Idx := fun a => match a with
  | ⟨0, _⟩ => ⟨(((i 0).val * 8 + (i 1).val) * 128 + (i 2).val) / 1024, by have h0 : (i 0).val < 16384 := (i 0).isLt; have h1 : (i 1).val < 8 := (i 1).isLt; have h2 : (i 2).val < 128 := (i 2).isLt; show (((i 0).val * 8 + (i 1).val) * 128 + (i 2).val) / 1024 < 16384; omega⟩
  | ⟨1, _⟩ => ⟨(((i 0).val * 8 + (i 1).val) * 128 + (i 2).val) % 1024, by have h0 : (i 0).val < 16384 := (i 0).isLt; have h1 : (i 1).val < 8 := (i 1).isLt; have h2 : (i 2).val < 128 := (i 2).isLt; show (((i 0).val * 8 + (i 1).val) * 128 + (i 2).val) % 1024 < 1024; omega⟩
theorem val_main_v2_apply (r1 : (⟨S16384x1024, .bf16⟩ : BufTy).Contents (Elt F)) (i : S16384x8x128.Idx) :
    val_main_v2 (F := F) r1 i = r1 (idx_main_v2 i) := by
  unfold val_main_v2
  exact shapeCast_apply r1 shapeCasts_S16384x1024_S16384x8x128 i (idx_main_v2 i)
    (by rewrite [Shape.rowMajor_val_two, Shape.rowMajor_val_three]; have h0 : (i 0).val < 16384 := (i 0).isLt; have h1 : (i 1).val < 8 := (i 1).isLt; have h2 : (i 2).val < 128 := (i 2).isLt; show (((i 0).val * 8 + (i 1).val) * 128 + (i 2).val) / 1024 * 1024 + (((i 0).val * 8 + (i 1).val) * 128 + (i 2).val) % 1024 = ((i 0).val * 8 + (i 1).val) * 128 + (i 2).val; omega)

-- %3 = stablehlo.reshape %0#2 : (tensor<1024x16384xf32>) -> tensor<8x128x16384xf32>
def val_main_v3 (r2 : (⟨S1024x16384, .f32⟩ : BufTy).Contents (Elt F)) : (⟨S8x128x16384, .f32⟩ : BufTy).Contents (Elt F) :=
  shapeCast _ (r2) shapeCasts_S1024x16384_S8x128x16384
set_option backward.proofsInPublic true in
abbrev idx_main_v3 (i : S8x128x16384.Idx) : S1024x16384.Idx := fun a => match a with
  | ⟨0, _⟩ => ⟨(((i 0).val * 128 + (i 1).val) * 16384 + (i 2).val) / 16384, by have h0 : (i 0).val < 8 := (i 0).isLt; have h1 : (i 1).val < 128 := (i 1).isLt; have h2 : (i 2).val < 16384 := (i 2).isLt; show (((i 0).val * 128 + (i 1).val) * 16384 + (i 2).val) / 16384 < 1024; omega⟩
  | ⟨1, _⟩ => ⟨(((i 0).val * 128 + (i 1).val) * 16384 + (i 2).val) % 16384, by have h0 : (i 0).val < 8 := (i 0).isLt; have h1 : (i 1).val < 128 := (i 1).isLt; have h2 : (i 2).val < 16384 := (i 2).isLt; show (((i 0).val * 128 + (i 1).val) * 16384 + (i 2).val) % 16384 < 16384; omega⟩
theorem val_main_v3_apply (r2 : (⟨S1024x16384, .f32⟩ : BufTy).Contents (Elt F)) (i : S8x128x16384.Idx) :
    val_main_v3 (F := F) r2 i = r2 (idx_main_v3 i) := by
  unfold val_main_v3
  exact shapeCast_apply r2 shapeCasts_S1024x16384_S8x128x16384 i (idx_main_v3 i)
    (by rewrite [Shape.rowMajor_val_two, Shape.rowMajor_val_three]; have h0 : (i 0).val < 8 := (i 0).isLt; have h1 : (i 1).val < 128 := (i 1).isLt; have h2 : (i 2).val < 16384 := (i 2).isLt; show (((i 0).val * 128 + (i 1).val) * 16384 + (i 2).val) / 16384 * 16384 + (((i 0).val * 128 + (i 1).val) * 16384 + (i 2).val) % 16384 = ((i 0).val * 128 + (i 1).val) * 16384 + (i 2).val; omega)

-- %4 = stablehlo.broadcast_in_dim %arg1, dims = [0, 2] : (tensor<128x64xf32>) -> tensor<128x128x64xf32>
def val_main_v4 (x1 : (⟨S128x64, .f32⟩ : BufTy).Contents (Elt F)) : (⟨S128x128x64, .f32⟩ : BufTy).Contents (Elt F) :=
  broadcastInDim S128x128x64 ![0, 2] bcast_S128x64_S128x128x64_0_2 (x1)
abbrev idx_main_v4 (i : S128x128x64.Idx) : S128x64.Idx := fun a => match a with
  | ⟨0, _⟩ => ⟨(i 0).val, (i 0).isLt⟩
  | ⟨1, _⟩ => ⟨(i 2).val, (i 2).isLt⟩
theorem val_main_v4_apply (x1 : (⟨S128x64, .f32⟩ : BufTy).Contents (Elt F)) (i : S128x128x64.Idx) :
    val_main_v4 (F := F) x1 i = x1 (idx_main_v4 i) := by
  unfold val_main_v4
  exact broadcastInDim_apply _ bcast_S128x64_S128x128x64_0_2 x1 i (idx_main_v4 i) (fun a => match a with
    | ⟨0, _⟩ => by show (i 0).val = if (128 : Nat) = 1 then 0 else (i 0).val; rw [if_neg (by decide)]
    | ⟨1, _⟩ => by show (i 2).val = if (64 : Nat) = 1 then 0 else (i 2).val; rw [if_neg (by decide)])

-- %5 = stablehlo.reshape %4 : (tensor<128x128x64xf32>) -> tensor<16384x64xf32>
def val_main_v5 (x1 : (⟨S128x64, .f32⟩ : BufTy).Contents (Elt F)) : (⟨S16384x64, .f32⟩ : BufTy).Contents (Elt F) :=
  shapeCast _ (val_main_v4 (F := F) x1) shapeCasts_S128x128x64_S16384x64
set_option backward.proofsInPublic true in
abbrev idx_main_v5 (i : S16384x64.Idx) : S128x128x64.Idx := fun a => match a with
  | ⟨0, _⟩ => ⟨((i 0).val * 64 + (i 1).val) / 8192, by have h0 : (i 0).val < 16384 := (i 0).isLt; have h1 : (i 1).val < 64 := (i 1).isLt; show ((i 0).val * 64 + (i 1).val) / 8192 < 128; omega⟩
  | ⟨1, _⟩ => ⟨((i 0).val * 64 + (i 1).val) / 64 % 128, by have h0 : (i 0).val < 16384 := (i 0).isLt; have h1 : (i 1).val < 64 := (i 1).isLt; show ((i 0).val * 64 + (i 1).val) / 64 % 128 < 128; omega⟩
  | ⟨2, _⟩ => ⟨((i 0).val * 64 + (i 1).val) % 64, by have h0 : (i 0).val < 16384 := (i 0).isLt; have h1 : (i 1).val < 64 := (i 1).isLt; show ((i 0).val * 64 + (i 1).val) % 64 < 64; omega⟩
theorem val_main_v5_apply (x1 : (⟨S128x64, .f32⟩ : BufTy).Contents (Elt F)) (i : S16384x64.Idx) :
    val_main_v5 (F := F) x1 i = val_main_v4 (F := F) x1 (idx_main_v5 i) := by
  unfold val_main_v5
  generalize val_main_v4 (F := F) x1 = y
  exact shapeCast_apply y shapeCasts_S128x128x64_S16384x64 i (idx_main_v5 i)
    (by rewrite [Shape.rowMajor_val_three, Shape.rowMajor_val_two]; have h0 : (i 0).val < 16384 := (i 0).isLt; have h1 : (i 1).val < 64 := (i 1).isLt; show (((i 0).val * 64 + (i 1).val) / 8192 * 128 + ((i 0).val * 64 + (i 1).val) / 64 % 128) * 64 + ((i 0).val * 64 + (i 1).val) % 64 = (i 0).val * 64 + (i 1).val; omega)

-- %6 = stablehlo.reshape %5 : (tensor<16384x64xf32>) -> tensor<16384x8x8xf32>
def val_main_v6 (x1 : (⟨S128x64, .f32⟩ : BufTy).Contents (Elt F)) : (⟨S16384x8x8, .f32⟩ : BufTy).Contents (Elt F) :=
  shapeCast _ (val_main_v5 (F := F) x1) shapeCasts_S16384x64_S16384x8x8
set_option backward.proofsInPublic true in
abbrev idx_main_v6 (i : S16384x8x8.Idx) : S16384x64.Idx := fun a => match a with
  | ⟨0, _⟩ => ⟨(((i 0).val * 8 + (i 1).val) * 8 + (i 2).val) / 64, by have h0 : (i 0).val < 16384 := (i 0).isLt; have h1 : (i 1).val < 8 := (i 1).isLt; have h2 : (i 2).val < 8 := (i 2).isLt; show (((i 0).val * 8 + (i 1).val) * 8 + (i 2).val) / 64 < 16384; omega⟩
  | ⟨1, _⟩ => ⟨(((i 0).val * 8 + (i 1).val) * 8 + (i 2).val) % 64, by have h0 : (i 0).val < 16384 := (i 0).isLt; have h1 : (i 1).val < 8 := (i 1).isLt; have h2 : (i 2).val < 8 := (i 2).isLt; show (((i 0).val * 8 + (i 1).val) * 8 + (i 2).val) % 64 < 64; omega⟩
theorem val_main_v6_apply (x1 : (⟨S128x64, .f32⟩ : BufTy).Contents (Elt F)) (i : S16384x8x8.Idx) :
    val_main_v6 (F := F) x1 i = val_main_v5 (F := F) x1 (idx_main_v6 i) := by
  unfold val_main_v6
  generalize val_main_v5 (F := F) x1 = y
  exact shapeCast_apply y shapeCasts_S16384x64_S16384x8x8 i (idx_main_v6 i)
    (by rewrite [Shape.rowMajor_val_two, Shape.rowMajor_val_three]; have h0 : (i 0).val < 16384 := (i 0).isLt; have h1 : (i 1).val < 8 := (i 1).isLt; have h2 : (i 2).val < 8 := (i 2).isLt; show (((i 0).val * 8 + (i 1).val) * 8 + (i 2).val) / 64 * 64 + (((i 0).val * 8 + (i 1).val) * 8 + (i 2).val) % 64 = ((i 0).val * 8 + (i 1).val) * 8 + (i 2).val; omega)

-- %7 = stablehlo.transpose %6, dims = [1, 2, 0] : (tensor<16384x8x8xf32>) -> tensor<8x8x16384xf32>
def val_main_v7 (x1 : (⟨S128x64, .f32⟩ : BufTy).Contents (Elt F)) : (⟨S8x8x16384, .f32⟩ : BufTy).Contents (Elt F) :=
  transpose S8x8x16384 [1, 2, 0] (val_main_v6 (F := F) x1) transposes_S16384x8x8_S8x8x16384_1_2_0
abbrev idx_main_v7 (i : S8x8x16384.Idx) : S16384x8x8.Idx := fun a => match a with
  | ⟨0, _⟩ => ⟨(i 2).val, (i 2).isLt⟩
  | ⟨1, _⟩ => ⟨(i 0).val, (i 0).isLt⟩
  | ⟨2, _⟩ => ⟨(i 1).val, (i 1).isLt⟩
theorem val_main_v7_apply (x1 : (⟨S128x64, .f32⟩ : BufTy).Contents (Elt F)) (i : S8x8x16384.Idx) :
    val_main_v7 (F := F) x1 i = val_main_v6 (F := F) x1 (idx_main_v7 i) := by
  unfold val_main_v7
  generalize val_main_v6 (F := F) x1 = y
  exact transpose_apply [1, 2, 0] y transposes_S16384x8x8_S8x8x16384_1_2_0 i (idx_main_v7 i) (fun b => match b with
    | ⟨0, _⟩ => rfl
    | ⟨1, _⟩ => rfl
    | ⟨2, _⟩ => rfl)

-- %8 = stablehlo.broadcast_in_dim %arg3, dims = [0, 1] : (tensor<8x256xf32>) -> tensor<8x256x64xf32>
def val_main_v8 (x3 : (⟨S8x256, .f32⟩ : BufTy).Contents (Elt F)) : (⟨S8x256x64, .f32⟩ : BufTy).Contents (Elt F) :=
  broadcastInDim S8x256x64 ![0, 1] bcast_S8x256_S8x256x64_0_1 (x3)
abbrev idx_main_v8 (i : S8x256x64.Idx) : S8x256.Idx := fun a => match a with
  | ⟨0, _⟩ => ⟨(i 0).val, (i 0).isLt⟩
  | ⟨1, _⟩ => ⟨(i 1).val, (i 1).isLt⟩
theorem val_main_v8_apply (x3 : (⟨S8x256, .f32⟩ : BufTy).Contents (Elt F)) (i : S8x256x64.Idx) :
    val_main_v8 (F := F) x3 i = x3 (idx_main_v8 i) := by
  unfold val_main_v8
  exact broadcastInDim_apply _ bcast_S8x256_S8x256x64_0_1 x3 i (idx_main_v8 i) (fun a => match a with
    | ⟨0, _⟩ => by show (i 0).val = if (8 : Nat) = 1 then 0 else (i 0).val; rw [if_neg (by decide)]
    | ⟨1, _⟩ => by show (i 1).val = if (256 : Nat) = 1 then 0 else (i 1).val; rw [if_neg (by decide)])

-- %9 = stablehlo.reshape %8 : (tensor<8x256x64xf32>) -> tensor<8x16384xf32>
def val_main_v9 (x3 : (⟨S8x256, .f32⟩ : BufTy).Contents (Elt F)) : (⟨S8x16384, .f32⟩ : BufTy).Contents (Elt F) :=
  shapeCast _ (val_main_v8 (F := F) x3) shapeCasts_S8x256x64_S8x16384
set_option backward.proofsInPublic true in
abbrev idx_main_v9 (i : S8x16384.Idx) : S8x256x64.Idx := fun a => match a with
  | ⟨0, _⟩ => ⟨((i 0).val * 16384 + (i 1).val) / 16384, by have h0 : (i 0).val < 8 := (i 0).isLt; have h1 : (i 1).val < 16384 := (i 1).isLt; show ((i 0).val * 16384 + (i 1).val) / 16384 < 8; omega⟩
  | ⟨1, _⟩ => ⟨((i 0).val * 16384 + (i 1).val) / 64 % 256, by have h0 : (i 0).val < 8 := (i 0).isLt; have h1 : (i 1).val < 16384 := (i 1).isLt; show ((i 0).val * 16384 + (i 1).val) / 64 % 256 < 256; omega⟩
  | ⟨2, _⟩ => ⟨((i 0).val * 16384 + (i 1).val) % 64, by have h0 : (i 0).val < 8 := (i 0).isLt; have h1 : (i 1).val < 16384 := (i 1).isLt; show ((i 0).val * 16384 + (i 1).val) % 64 < 64; omega⟩
theorem val_main_v9_apply (x3 : (⟨S8x256, .f32⟩ : BufTy).Contents (Elt F)) (i : S8x16384.Idx) :
    val_main_v9 (F := F) x3 i = val_main_v8 (F := F) x3 (idx_main_v9 i) := by
  unfold val_main_v9
  generalize val_main_v8 (F := F) x3 = y
  exact shapeCast_apply y shapeCasts_S8x256x64_S8x16384 i (idx_main_v9 i)
    (by rewrite [Shape.rowMajor_val_three, Shape.rowMajor_val_two]; have h0 : (i 0).val < 8 := (i 0).isLt; have h1 : (i 1).val < 16384 := (i 1).isLt; show (((i 0).val * 16384 + (i 1).val) / 16384 * 256 + ((i 0).val * 16384 + (i 1).val) / 64 % 256) * 64 + ((i 0).val * 16384 + (i 1).val) % 64 = (i 0).val * 16384 + (i 1).val; omega)

-- %10 = stablehlo.dot_general %2, %1, batching_dims = [1] x [1], contracting_dims = [2] x [3], precision = [DEFAULT, DEFAULT] : (tensor<16384x8x128xbf16>, tensor<16384x8x8x128xbf16>) -> tensor<8x16384x16384x8xf32>
def val_main_v10 (r0 : (⟨S16384x8192, .bf16⟩ : BufTy).Contents (Elt F)) (r1 : (⟨S16384x1024, .bf16⟩ : BufTy).Contents (Elt F)) : (⟨S8x16384x16384x8, .f32⟩ : BufTy).Contents (Elt F) :=
  Host.dotGeneral dot_S16384x8x128_S16384x8x8x128_S8x16384x16384x8_2_3_0_02_1_1 none (val_main_v2 (F := F) r1) (val_main_v1 (F := F) r0)
theorem lhs_main_v10_0 (i : S8x16384x16384x8.Idx) (q : dot_S16384x8x128_S16384x8x8x128_S8x16384x16384x8_2_3_0_02_1_1.contr.Idx) :
    (dot_S16384x8x128_S16384x8x8x128_S8x16384x16384x8_2_3_0_02_1_1.lhsIdx i q 0).val = (i 1).val := by
  unfold DotDims.lhsIdx
  rw [dif_neg (show ¬(0 : Fin S16384x8x128.rank) ∈ dot_S16384x8x128_S16384x8x8x128_S8x16384x16384x8_2_3_0_02_1_1.lhsBatch by decide), dif_pos (show (0 : Fin S16384x8x128.rank) ∈ dot_S16384x8x128_S16384x8x8x128_S8x16384x16384x8_2_3_0_02_1_1.lhsNonContracting by decide)]
  rfl
theorem lhs_main_v10_1 (i : S8x16384x16384x8.Idx) (q : dot_S16384x8x128_S16384x8x8x128_S8x16384x16384x8_2_3_0_02_1_1.contr.Idx) :
    (dot_S16384x8x128_S16384x8x8x128_S8x16384x16384x8_2_3_0_02_1_1.lhsIdx i q 1).val = (i 0).val := by
  unfold DotDims.lhsIdx
  rw [dif_pos (show (1 : Fin S16384x8x128.rank) ∈ dot_S16384x8x128_S16384x8x8x128_S8x16384x16384x8_2_3_0_02_1_1.lhsBatch by decide)]
  rfl
theorem lhs_main_v10_2 (i : S8x16384x16384x8.Idx) (q : dot_S16384x8x128_S16384x8x8x128_S8x16384x16384x8_2_3_0_02_1_1.contr.Idx) :
    (dot_S16384x8x128_S16384x8x8x128_S8x16384x16384x8_2_3_0_02_1_1.lhsIdx i q 2).val = (q ⟨0, by decide⟩).val :=
  dot_S16384x8x128_S16384x8x8x128_S8x16384x16384x8_2_3_0_02_1_1.lhsIdx_val_of_single rfl i q
theorem rhs_main_v10_0 (i : S8x16384x16384x8.Idx) (q : dot_S16384x8x128_S16384x8x8x128_S8x16384x16384x8_2_3_0_02_1_1.contr.Idx) :
    (dot_S16384x8x128_S16384x8x8x128_S8x16384x16384x8_2_3_0_02_1_1.rhsIdx i q 0).val = (i 2).val := by
  unfold DotDims.rhsIdx
  rw [dif_neg (show ¬(0 : Fin S16384x8x8x128.rank) ∈ dot_S16384x8x128_S16384x8x8x128_S8x16384x16384x8_2_3_0_02_1_1.rhsBatch by decide), dif_pos (show (0 : Fin S16384x8x8x128.rank) ∈ dot_S16384x8x128_S16384x8x8x128_S8x16384x16384x8_2_3_0_02_1_1.rhsNonContracting by decide)]
  rfl
theorem rhs_main_v10_1 (i : S8x16384x16384x8.Idx) (q : dot_S16384x8x128_S16384x8x8x128_S8x16384x16384x8_2_3_0_02_1_1.contr.Idx) :
    (dot_S16384x8x128_S16384x8x8x128_S8x16384x16384x8_2_3_0_02_1_1.rhsIdx i q 1).val = (i 0).val := by
  unfold DotDims.rhsIdx
  rw [dif_pos (show (1 : Fin S16384x8x8x128.rank) ∈ dot_S16384x8x128_S16384x8x8x128_S8x16384x16384x8_2_3_0_02_1_1.rhsBatch by decide)]
  rfl
theorem rhs_main_v10_2 (i : S8x16384x16384x8.Idx) (q : dot_S16384x8x128_S16384x8x8x128_S8x16384x16384x8_2_3_0_02_1_1.contr.Idx) :
    (dot_S16384x8x128_S16384x8x8x128_S8x16384x16384x8_2_3_0_02_1_1.rhsIdx i q 2).val = (i 3).val := by
  unfold DotDims.rhsIdx
  rw [dif_neg (show ¬(2 : Fin S16384x8x8x128.rank) ∈ dot_S16384x8x128_S16384x8x8x128_S8x16384x16384x8_2_3_0_02_1_1.rhsBatch by decide), dif_pos (show (2 : Fin S16384x8x8x128.rank) ∈ dot_S16384x8x128_S16384x8x8x128_S8x16384x16384x8_2_3_0_02_1_1.rhsNonContracting by decide)]
  rfl
theorem rhs_main_v10_3 (i : S8x16384x16384x8.Idx) (q : dot_S16384x8x128_S16384x8x8x128_S8x16384x16384x8_2_3_0_02_1_1.contr.Idx) :
    (dot_S16384x8x128_S16384x8x8x128_S8x16384x16384x8_2_3_0_02_1_1.rhsIdx i q 3).val = (q ⟨0, by decide⟩).val :=
  dot_S16384x8x128_S16384x8x8x128_S8x16384x16384x8_2_3_0_02_1_1.rhsIdx_val_of_single rfl i q
abbrev lidx_main_v10 (i : S8x16384x16384x8.Idx) (k : Fin 128) : S16384x8x128.Idx := fun a => match a with
  | ⟨0, _⟩ => ⟨(i 1).val, (i 1).isLt⟩
  | ⟨1, _⟩ => ⟨(i 0).val, (i 0).isLt⟩
  | ⟨2, _⟩ => ⟨k.val, k.isLt⟩
abbrev ridx_main_v10 (i : S8x16384x16384x8.Idx) (k : Fin 128) : S16384x8x8x128.Idx := fun a => match a with
  | ⟨0, _⟩ => ⟨(i 2).val, (i 2).isLt⟩
  | ⟨1, _⟩ => ⟨(i 0).val, (i 0).isLt⟩
  | ⟨2, _⟩ => ⟨(i 3).val, (i 3).isLt⟩
  | ⟨3, _⟩ => ⟨k.val, k.isLt⟩
/-- Stated at `F := Ideal`, where the host's `dot_general` is this sum; at a bit-exact instance it is an opaque function of its operands. -/
theorem val_main_v10_apply (r0 : (⟨S16384x8192, .bf16⟩ : BufTy).Contents (Elt Ideal)) (r1 : (⟨S16384x1024, .bf16⟩ : BufTy).Contents (Elt Ideal)) (i : S8x16384x16384x8.Idx) :
    val_main_v10 (F := Ideal) r0 r1 i = ∑ k : Fin 128, (val_main_v2 (F := Ideal) r1) (lidx_main_v10 i k) * (val_main_v1 (F := Ideal) r0) (ridx_main_v10 i k) := by
  unfold val_main_v10
  generalize val_main_v2 (F := Ideal) r1 = y0
  generalize val_main_v1 (F := Ideal) r0 = y1
  simp only [Host.dotGeneral]
  rw [Ideal.dotGeneral_apply, ← Equiv.sum_comp (ValueIdx.contrEquiv1 dot_S16384x8x128_S16384x8x8x128_S8x16384x16384x8_2_3_0_02_1_1 128 rfl rfl).symm]
  refine Finset.sum_congr rfl fun k _ => ?_
  have hk := ValueIdx.contrEquiv1_symm_val dot_S16384x8x128_S16384x8x8x128_S8x16384x16384x8_2_3_0_02_1_1 128 rfl rfl k
  have el : dot_S16384x8x128_S16384x8x8x128_S8x16384x16384x8_2_3_0_02_1_1.lhsIdx i ((ValueIdx.contrEquiv1 dot_S16384x8x128_S16384x8x8x128_S8x16384x16384x8_2_3_0_02_1_1 128 rfl rfl).symm k) = lidx_main_v10 i k := funext fun a => Fin.ext (by
    match a with
    | ⟨0, _⟩ => exact lhs_main_v10_0 _ _
    | ⟨1, _⟩ => exact lhs_main_v10_1 _ _
    | ⟨2, _⟩ => exact (lhs_main_v10_2 _ _).trans hk)
  have er : dot_S16384x8x128_S16384x8x8x128_S8x16384x16384x8_2_3_0_02_1_1.rhsIdx i ((ValueIdx.contrEquiv1 dot_S16384x8x128_S16384x8x8x128_S8x16384x16384x8_2_3_0_02_1_1 128 rfl rfl).symm k) = ridx_main_v10 i k := funext fun a => Fin.ext (by
    match a with
    | ⟨0, _⟩ => exact rhs_main_v10_0 _ _
    | ⟨1, _⟩ => exact rhs_main_v10_1 _ _
    | ⟨2, _⟩ => exact rhs_main_v10_2 _ _
    | ⟨3, _⟩ => exact (rhs_main_v10_3 _ _).trans hk)
  rw [el, er]

-- %11 = stablehlo.transpose %10, dims = [0, 3, 2, 1] : (tensor<8x16384x16384x8xf32>) -> tensor<8x8x16384x16384xf32>
def val_main_v11 (r0 : (⟨S16384x8192, .bf16⟩ : BufTy).Contents (Elt F)) (r1 : (⟨S16384x1024, .bf16⟩ : BufTy).Contents (Elt F)) : (⟨S8x8x16384x16384, .f32⟩ : BufTy).Contents (Elt F) :=
  transpose S8x8x16384x16384 [0, 3, 2, 1] (val_main_v10 (F := F) r0 r1) transposes_S8x16384x16384x8_S8x8x16384x16384_0_3_2_1
abbrev idx_main_v11 (i : S8x8x16384x16384.Idx) : S8x16384x16384x8.Idx := fun a => match a with
  | ⟨0, _⟩ => ⟨(i 0).val, (i 0).isLt⟩
  | ⟨1, _⟩ => ⟨(i 3).val, (i 3).isLt⟩
  | ⟨2, _⟩ => ⟨(i 2).val, (i 2).isLt⟩
  | ⟨3, _⟩ => ⟨(i 1).val, (i 1).isLt⟩
theorem val_main_v11_apply (r0 : (⟨S16384x8192, .bf16⟩ : BufTy).Contents (Elt F)) (r1 : (⟨S16384x1024, .bf16⟩ : BufTy).Contents (Elt F)) (i : S8x8x16384x16384.Idx) :
    val_main_v11 (F := F) r0 r1 i = val_main_v10 (F := F) r0 r1 (idx_main_v11 i) := by
  unfold val_main_v11
  generalize val_main_v10 (F := F) r0 r1 = y
  exact transpose_apply [0, 3, 2, 1] y transposes_S8x16384x16384x8_S8x8x16384x16384_0_3_2_1 i (idx_main_v11 i) (fun b => match b with
    | ⟨0, _⟩ => rfl
    | ⟨1, _⟩ => rfl
    | ⟨2, _⟩ => rfl
    | ⟨3, _⟩ => rfl)

-- %12 = stablehlo.broadcast_in_dim %7, dims = [0, 1, 2] : (tensor<8x8x16384xf32>) -> tensor<8x8x16384x1xf32>
def val_main_v12 (x1 : (⟨S128x64, .f32⟩ : BufTy).Contents (Elt F)) : (⟨S8x8x16384x1, .f32⟩ : BufTy).Contents (Elt F) :=
  broadcastInDim S8x8x16384x1 ![0, 1, 2] bcast_S8x8x16384_S8x8x16384x1_0_1_2 (val_main_v7 (F := F) x1)
abbrev idx_main_v12 (i : S8x8x16384x1.Idx) : S8x8x16384.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v12_apply (x1 : (⟨S128x64, .f32⟩ : BufTy).Contents (Elt F)) (i : S8x8x16384x1.Idx) :
    val_main_v12 (F := F) x1 i = val_main_v7 (F := F) x1 (idx_main_v12 i) := by
  unfold val_main_v12
  generalize val_main_v7 (F := F) x1 = y
  exact broadcastInDim_apply _ bcast_S8x8x16384_S8x8x16384x1_0_1_2 y i (idx_main_v12 i) (fun a => match a with
    | ⟨0, _⟩ => by show (i 0).val = if (8 : Nat) = 1 then 0 else (i 0).val; rw [if_neg (by decide)]
    | ⟨1, _⟩ => by show (i 1).val = if (8 : Nat) = 1 then 0 else (i 1).val; rw [if_neg (by decide)]
    | ⟨2, _⟩ => by show (i 2).val = if (16384 : Nat) = 1 then 0 else (i 2).val; rw [if_neg (by decide)])

-- %13 = stablehlo.broadcast_in_dim %12, dims = [0, 1, 2, 3] : (tensor<8x8x16384x1xf32>) -> tensor<8x8x16384x16384xf32>
def val_main_v13 (x1 : (⟨S128x64, .f32⟩ : BufTy).Contents (Elt F)) : (⟨S8x8x16384x16384, .f32⟩ : BufTy).Contents (Elt F) :=
  broadcastInDim S8x8x16384x16384 ![0, 1, 2, 3] bcast_S8x8x16384x1_S8x8x16384x16384_0_1_2_3 (val_main_v12 (F := F) x1)
abbrev idx_main_v13 (i : S8x8x16384x16384.Idx) : S8x8x16384x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v13_apply (x1 : (⟨S128x64, .f32⟩ : BufTy).Contents (Elt F)) (i : S8x8x16384x16384.Idx) :
    val_main_v13 (F := F) x1 i = val_main_v12 (F := F) x1 (idx_main_v13 i) := by
  unfold val_main_v13
  generalize val_main_v12 (F := F) x1 = y
  exact broadcastInDim_apply _ bcast_S8x8x16384x1_S8x8x16384x16384_0_1_2_3 y i (idx_main_v13 i) (fun a => match a with
    | ⟨0, _⟩ => by show (i 0).val = if (8 : Nat) = 1 then 0 else (i 0).val; rw [if_neg (by decide)]
    | ⟨1, _⟩ => by show (i 1).val = if (8 : Nat) = 1 then 0 else (i 1).val; rw [if_neg (by decide)]
    | ⟨2, _⟩ => by show (i 2).val = if (16384 : Nat) = 1 then 0 else (i 2).val; rw [if_neg (by decide)]
    | ⟨3, _⟩ => by show 0 = if (1 : Nat) = 1 then 0 else (i 3).val; rw [if_pos rfl])

-- %14 = stablehlo.multiply %11, %13 : tensor<8x8x16384x16384xf32>
def val_main_v14 (x1 : (⟨S128x64, .f32⟩ : BufTy).Contents (Elt F)) (r0 : (⟨S16384x8192, .bf16⟩ : BufTy).Contents (Elt F)) (r1 : (⟨S16384x1024, .bf16⟩ : BufTy).Contents (Elt F)) : (⟨S8x8x16384x16384, .f32⟩ : BufTy).Contents (Elt F) :=
  mulf (val_main_v11 (F := F) r0 r1) (val_main_v13 (F := F) x1)
theorem val_main_v14_apply (x1 : (⟨S128x64, .f32⟩ : BufTy).Contents (Elt F)) (r0 : (⟨S16384x8192, .bf16⟩ : BufTy).Contents (Elt F)) (r1 : (⟨S16384x1024, .bf16⟩ : BufTy).Contents (Elt F)) (i : S8x8x16384x16384.Idx) :
    val_main_v14 (F := F) x1 r0 r1 i = FloatOps.mulf (val_main_v11 (F := F) r0 r1 i) (val_main_v13 (F := F) x1 i) := rfl

-- %15 = stablehlo.broadcast_in_dim %9, dims = [0, 3] : (tensor<8x16384xf32>) -> tensor<8x1x1x16384xf32>
def val_main_v15 (x3 : (⟨S8x256, .f32⟩ : BufTy).Contents (Elt F)) : (⟨S8x1x1x16384, .f32⟩ : BufTy).Contents (Elt F) :=
  broadcastInDim S8x1x1x16384 ![0, 3] bcast_S8x16384_S8x1x1x16384_0_3 (val_main_v9 (F := F) x3)
abbrev idx_main_v15 (i : S8x1x1x16384.Idx) : S8x16384.Idx := fun a => match a with
  | ⟨0, _⟩ => ⟨(i 0).val, (i 0).isLt⟩
  | ⟨1, _⟩ => ⟨(i 3).val, (i 3).isLt⟩
theorem val_main_v15_apply (x3 : (⟨S8x256, .f32⟩ : BufTy).Contents (Elt F)) (i : S8x1x1x16384.Idx) :
    val_main_v15 (F := F) x3 i = val_main_v9 (F := F) x3 (idx_main_v15 i) := by
  unfold val_main_v15
  generalize val_main_v9 (F := F) x3 = y
  exact broadcastInDim_apply _ bcast_S8x16384_S8x1x1x16384_0_3 y i (idx_main_v15 i) (fun a => match a with
    | ⟨0, _⟩ => by show (i 0).val = if (8 : Nat) = 1 then 0 else (i 0).val; rw [if_neg (by decide)]
    | ⟨1, _⟩ => by show (i 3).val = if (16384 : Nat) = 1 then 0 else (i 3).val; rw [if_neg (by decide)])

-- %16 = stablehlo.broadcast_in_dim %15, dims = [0, 1, 2, 3] : (tensor<8x1x1x16384xf32>) -> tensor<8x8x16384x16384xf32>
def val_main_v16 (x3 : (⟨S8x256, .f32⟩ : BufTy).Contents (Elt F)) : (⟨S8x8x16384x16384, .f32⟩ : BufTy).Contents (Elt F) :=
  broadcastInDim S8x8x16384x16384 ![0, 1, 2, 3] bcast_S8x1x1x16384_S8x8x16384x16384_0_1_2_3 (val_main_v15 (F := F) x3)
abbrev idx_main_v16 (i : S8x8x16384x16384.Idx) : S8x1x1x16384.Idx := fun a => match a with
  | ⟨0, _⟩ => ⟨(i 0).val, (i 0).isLt⟩
  | ⟨1, _⟩ => ⟨0, Nat.one_pos⟩
  | ⟨2, _⟩ => ⟨0, Nat.one_pos⟩
  | ⟨3, _⟩ => ⟨(i 3).val, (i 3).isLt⟩
theorem val_main_v16_apply (x3 : (⟨S8x256, .f32⟩ : BufTy).Contents (Elt F)) (i : S8x8x16384x16384.Idx) :
    val_main_v16 (F := F) x3 i = val_main_v15 (F := F) x3 (idx_main_v16 i) := by
  unfold val_main_v16
  generalize val_main_v15 (F := F) x3 = y
  exact broadcastInDim_apply _ bcast_S8x1x1x16384_S8x8x16384x16384_0_1_2_3 y i (idx_main_v16 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show (i 3).val = if (16384 : Nat) = 1 then 0 else (i 3).val; rw [if_neg (by decide)])

-- %17 = stablehlo.multiply %14, %16 : tensor<8x8x16384x16384xf32>
def val_main_v17 (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) : (⟨S8x8x16384x16384, .f32⟩ : BufTy).Contents (Elt F) :=
  mulf (val_main_v14 (F := F) x1 r0 r1) (val_main_v16 (F := F) x3)
theorem val_main_v17_apply (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) (i : S8x8x16384x16384.Idx) :
    val_main_v17 (F := F) x1 x3 r0 r1 i = FloatOps.mulf (val_main_v14 (F := F) x1 r0 r1 i) (val_main_v16 (F := F) x3 i) := rfl

-- %18 = stablehlo.iota dim = 0 : tensor<16384xi32>
def val_main_v18 : (⟨S16384, .i32⟩ : BufTy).Contents (Elt F) :=
  iotaInDim S16384 32 0
theorem val_main_v18_apply (i : S16384.Idx) :
    val_main_v18 (F := F) i = BitVec.ofNat 32 (i 0).val := rfl

-- %19 = stablehlo.broadcast_in_dim %18, dims = [0] : (tensor<16384xi32>) -> tensor<16384x1xi32>
def val_main_v19 : (⟨S16384x1, .i32⟩ : BufTy).Contents (Elt F) :=
  broadcastInDim S16384x1 ![0] bcast_S16384_S16384x1_0 (val_main_v18 (F := F))
abbrev idx_main_v19 (i : S16384x1.Idx) : S16384.Idx := fun a => match a with
  | ⟨0, _⟩ => ⟨(i 0).val, (i 0).isLt⟩
theorem val_main_v19_apply (i : S16384x1.Idx) :
    val_main_v19 (F := F) i = val_main_v18 (F := F) (idx_main_v19 i) := by
  unfold val_main_v19
  generalize val_main_v18 (F := F) = y
  exact broadcastInDim_apply _ bcast_S16384_S16384x1_0 y i (idx_main_v19 i) (fun a => match a with
    | ⟨0, _⟩ => by show (i 0).val = if (16384 : Nat) = 1 then 0 else (i 0).val; rw [if_neg (by decide)])

-- %20 = stablehlo.broadcast_in_dim %18, dims = [1] : (tensor<16384xi32>) -> tensor<1x16384xi32>
def val_main_v20 : (⟨S1x16384, .i32⟩ : BufTy).Contents (Elt F) :=
  broadcastInDim S1x16384 ![1] bcast_S16384_S1x16384_1 (val_main_v18 (F := F))
abbrev idx_main_v20 (i : S1x16384.Idx) : S16384.Idx := fun a => match a with
  | ⟨0, _⟩ => ⟨(i 1).val, (i 1).isLt⟩
theorem val_main_v20_apply (i : S1x16384.Idx) :
    val_main_v20 (F := F) i = val_main_v18 (F := F) (idx_main_v20 i) := by
  unfold val_main_v20
  generalize val_main_v18 (F := F) = y
  exact broadcastInDim_apply _ bcast_S16384_S1x16384_1 y i (idx_main_v20 i) (fun a => match a with
    | ⟨0, _⟩ => by show (i 1).val = if (16384 : Nat) = 1 then 0 else (i 1).val; rw [if_neg (by decide)])

-- %21 = stablehlo.broadcast_in_dim %19, dims = [0, 1] : (tensor<16384x1xi32>) -> tensor<16384x16384xi32>
def val_main_v21 : (⟨S16384x16384, .i32⟩ : BufTy).Contents (Elt F) :=
  broadcastInDim S16384x16384 ![0, 1] bcast_S16384x1_S16384x16384_0_1 (val_main_v19 (F := F))
abbrev idx_main_v21 (i : S16384x16384.Idx) : S16384x1.Idx := fun a => match a with
  | ⟨0, _⟩ => ⟨(i 0).val, (i 0).isLt⟩
  | ⟨1, _⟩ => ⟨0, Nat.one_pos⟩
theorem val_main_v21_apply (i : S16384x16384.Idx) :
    val_main_v21 (F := F) i = val_main_v19 (F := F) (idx_main_v21 i) := by
  unfold val_main_v21
  generalize val_main_v19 (F := F) = y
  exact broadcastInDim_apply _ bcast_S16384x1_S16384x16384_0_1 y i (idx_main_v21 i) (fun a => match a with
    | ⟨0, _⟩ => by show (i 0).val = if (16384 : Nat) = 1 then 0 else (i 0).val; rw [if_neg (by decide)]
    | ⟨1, _⟩ => by show 0 = if (1 : Nat) = 1 then 0 else (i 1).val; rw [if_pos rfl])

-- %22 = stablehlo.broadcast_in_dim %20, dims = [0, 1] : (tensor<1x16384xi32>) -> tensor<16384x16384xi32>
def val_main_v22 : (⟨S16384x16384, .i32⟩ : BufTy).Contents (Elt F) :=
  broadcastInDim S16384x16384 ![0, 1] bcast_S1x16384_S16384x16384_0_1 (val_main_v20 (F := F))
abbrev idx_main_v22 (i : S16384x16384.Idx) : S1x16384.Idx := fun a => match a with
  | ⟨0, _⟩ => ⟨0, Nat.one_pos⟩
  | ⟨1, _⟩ => ⟨(i 1).val, (i 1).isLt⟩
theorem val_main_v22_apply (i : S16384x16384.Idx) :
    val_main_v22 (F := F) i = val_main_v20 (F := F) (idx_main_v22 i) := by
  unfold val_main_v22
  generalize val_main_v20 (F := F) = y
  exact broadcastInDim_apply _ bcast_S1x16384_S16384x16384_0_1 y i (idx_main_v22 i) (fun a => match a with
    | ⟨0, _⟩ => by show 0 = if (1 : Nat) = 1 then 0 else (i 0).val; rw [if_pos rfl]
    | ⟨1, _⟩ => by show (i 1).val = if (16384 : Nat) = 1 then 0 else (i 1).val; rw [if_neg (by decide)])

-- %23 = stablehlo.compare GE, %21, %22, SIGNED : (tensor<16384x16384xi32>, tensor<16384x16384xi32>) -> tensor<16384x16384xi1>
def val_main_v23 : (⟨S16384x16384, .i1⟩ : BufTy).Contents (Elt F) :=
  cmpi .sge (val_main_v21 (F := F)) (val_main_v22 (F := F))
theorem val_main_v23_apply (i : S16384x16384.Idx) :
    val_main_v23 (F := F) i = IntOp.cmpi .sge (val_main_v21 (F := F) i) (val_main_v22 (F := F) i) := rfl

-- %cst = stablehlo.constant dense<0xFF800000> : tensor<f32>
def val_main_cst : (⟨S_, .f32⟩ : BufTy).Contents (Elt F) :=
  constant S_ .f32 0xFF800000#32
theorem val_main_cst_apply (i : S_.Idx) :
    val_main_cst (F := F) i = FloatOps.ofBits .f32 0xFF800000#32 := rfl

-- @_where's %0 = stablehlo.convert %arg2 : tensor<f32>, in %24 = func.call @_where(…) (record main_call0)
def val_main_call0_v0 : (⟨S_, .f32⟩ : BufTy).Contents (Elt F) :=
  id (val_main_cst (F := F))
theorem val_main_call0_v0_apply (i : S_.Idx) :
    val_main_call0_v0 (F := F) i = (val_main_cst (F := F) i) := rfl

-- @_where's %1 = stablehlo.broadcast_in_dim %arg0, dims = [2, 3] : (tensor<16384x16384xi1>) -> tensor<8x8x16384x16384xi1>, in %24 = func.call @_where(…) (record main_call0)
def val_main_call0_v1 : (⟨S8x8x16384x16384, .i1⟩ : BufTy).Contents (Elt F) :=
  broadcastInDim S8x8x16384x16384 ![2, 3] bcast_S16384x16384_S8x8x16384x16384_2_3 (val_main_v23 (F := F))
abbrev idx_main_call0_v1 (i : S8x8x16384x16384.Idx) : S16384x16384.Idx := fun a => match a with
  | ⟨0, _⟩ => ⟨(i 2).val, (i 2).isLt⟩
  | ⟨1, _⟩ => ⟨(i 3).val, (i 3).isLt⟩
theorem val_main_call0_v1_apply (i : S8x8x16384x16384.Idx) :
    val_main_call0_v1 (F := F) i = val_main_v23 (F := F) (idx_main_call0_v1 i) := by
  unfold val_main_call0_v1
  generalize val_main_v23 (F := F) = y
  exact broadcastInDim_apply _ bcast_S16384x16384_S8x8x16384x16384_2_3 y i (idx_main_call0_v1 i) (fun a => match a with
    | ⟨0, _⟩ => by show (i 2).val = if (16384 : Nat) = 1 then 0 else (i 2).val; rw [if_neg (by decide)]
    | ⟨1, _⟩ => by show (i 3).val = if (16384 : Nat) = 1 then 0 else (i 3).val; rw [if_neg (by decide)])

-- @_where's %2 = stablehlo.broadcast_in_dim %0, dims = [] : (tensor<f32>) -> tensor<8x8x16384x16384xf32>, in %24 = func.call @_where(…) (record main_call0)
def val_main_call0_v2 : (⟨S8x8x16384x16384, .f32⟩ : BufTy).Contents (Elt F) :=
  broadcastInDim S8x8x16384x16384 ![] bcast_S_S8x8x16384x16384 (val_main_call0_v0 (F := F))
abbrev idx_main_call0_v2 (i : S8x8x16384x16384.Idx) : S_.Idx := fun a => a.elim0
theorem val_main_call0_v2_apply (i : S8x8x16384x16384.Idx) :
    val_main_call0_v2 (F := F) i = val_main_call0_v0 (F := F) (idx_main_call0_v2 i) := by
  unfold val_main_call0_v2
  generalize val_main_call0_v0 (F := F) = y
  exact broadcastInDim_apply _ bcast_S_S8x8x16384x16384 y i (idx_main_call0_v2 i) (fun a => a.elim0)

-- %24 = func.call @_where(…) (record main_call0) result 0: @_where's %3 = stablehlo.select %1, %arg1, %2 : tensor<8x8x16384x16384xi1>, tensor<8x8x16384x16384xf32>
def val_main_v24 (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) : (⟨S8x8x16384x16384, .f32⟩ : BufTy).Contents (Elt F) :=
  select (val_main_call0_v1 (F := F)) (val_main_v17 (F := F) x1 x3 r0 r1) (val_main_call0_v2 (F := F))
theorem val_main_v24_apply (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) (i : S8x8x16384x16384.Idx) :
    val_main_v24 (F := F) x1 x3 r0 r1 i = Scalar.select (val_main_call0_v1 (F := F) i) (val_main_v17 (F := F) x1 x3 r0 r1 i) (val_main_call0_v2 (F := F) i) := rfl

-- %cst_0 = stablehlo.constant dense<0xFF800000> : tensor<f32>
def val_main_cst_0 : (⟨S_, .f32⟩ : BufTy).Contents (Elt F) :=
  constant S_ .f32 0xFF800000#32
theorem val_main_cst_0_apply (i : S_.Idx) :
    val_main_cst_0 (F := F) i = FloatOps.ofBits .f32 0xFF800000#32 := rfl

-- %25 = stablehlo.reduce(%24 init: %cst_0) applies stablehlo.maximum across dimensions = [3] : (tensor<8x8x16384x16384xf32>, tensor<f32>) -> tensor<8x8x16384xf32> {
def val_main_v25 (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) : (⟨S8x8x16384, .f32⟩ : BufTy).Contents (Elt F) :=
  Host.reduce FloatOps.maximumf (val_main_v24 (F := F) x1 x3 r0 r1) (val_main_cst_0 (F := F)) reducesTo_S8x8x16384x16384_S8x8x16384_d3 h_S_

-- %26 = stablehlo.broadcast_in_dim %25, dims = [0, 1, 2] : (tensor<8x8x16384xf32>) -> tensor<8x8x16384x1xf32>
def val_main_v26 (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) : (⟨S8x8x16384x1, .f32⟩ : BufTy).Contents (Elt F) :=
  broadcastInDim S8x8x16384x1 ![0, 1, 2] bcast_S8x8x16384_S8x8x16384x1_0_1_2 (val_main_v25 (F := F) x1 x3 r0 r1)
abbrev idx_main_v26 (i : S8x8x16384x1.Idx) : S8x8x16384.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v26_apply (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) (i : S8x8x16384x1.Idx) :
    val_main_v26 (F := F) x1 x3 r0 r1 i = val_main_v25 (F := F) x1 x3 r0 r1 (idx_main_v26 i) := by
  unfold val_main_v26
  generalize val_main_v25 (F := F) x1 x3 r0 r1 = y
  exact broadcastInDim_apply _ bcast_S8x8x16384_S8x8x16384x1_0_1_2 y i (idx_main_v26 i) (fun a => match a with
    | ⟨0, _⟩ => by show (i 0).val = if (8 : Nat) = 1 then 0 else (i 0).val; rw [if_neg (by decide)]
    | ⟨1, _⟩ => by show (i 1).val = if (8 : Nat) = 1 then 0 else (i 1).val; rw [if_neg (by decide)]
    | ⟨2, _⟩ => by show (i 2).val = if (16384 : Nat) = 1 then 0 else (i 2).val; rw [if_neg (by decide)])

-- %27 = stablehlo.broadcast_in_dim %26, dims = [0, 1, 2, 3] : (tensor<8x8x16384x1xf32>) -> tensor<8x8x16384x16384xf32>
def val_main_v27 (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) : (⟨S8x8x16384x16384, .f32⟩ : BufTy).Contents (Elt F) :=
  broadcastInDim S8x8x16384x16384 ![0, 1, 2, 3] bcast_S8x8x16384x1_S8x8x16384x16384_0_1_2_3 (val_main_v26 (F := F) x1 x3 r0 r1)
abbrev idx_main_v27 (i : S8x8x16384x16384.Idx) : S8x8x16384x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v27_apply (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) (i : S8x8x16384x16384.Idx) :
    val_main_v27 (F := F) x1 x3 r0 r1 i = val_main_v26 (F := F) x1 x3 r0 r1 (idx_main_v27 i) := by
  unfold val_main_v27
  generalize val_main_v26 (F := F) x1 x3 r0 r1 = y
  exact broadcastInDim_apply _ bcast_S8x8x16384x1_S8x8x16384x16384_0_1_2_3 y i (idx_main_v27 i) (fun a => match a with
    | ⟨0, _⟩ => by show (i 0).val = if (8 : Nat) = 1 then 0 else (i 0).val; rw [if_neg (by decide)]
    | ⟨1, _⟩ => by show (i 1).val = if (8 : Nat) = 1 then 0 else (i 1).val; rw [if_neg (by decide)]
    | ⟨2, _⟩ => by show (i 2).val = if (16384 : Nat) = 1 then 0 else (i 2).val; rw [if_neg (by decide)]
    | ⟨3, _⟩ => by show 0 = if (1 : Nat) = 1 then 0 else (i 3).val; rw [if_pos rfl])

-- %28 = stablehlo.subtract %24, %27 : tensor<8x8x16384x16384xf32>
def val_main_v28 (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) : (⟨S8x8x16384x16384, .f32⟩ : BufTy).Contents (Elt F) :=
  subf (val_main_v24 (F := F) x1 x3 r0 r1) (val_main_v27 (F := F) x1 x3 r0 r1)
theorem val_main_v28_apply (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) (i : S8x8x16384x16384.Idx) :
    val_main_v28 (F := F) x1 x3 r0 r1 i = FloatOps.subf (val_main_v24 (F := F) x1 x3 r0 r1 i) (val_main_v27 (F := F) x1 x3 r0 r1 i) := rfl

-- %29 = stablehlo.exponential %28 : tensor<8x8x16384x16384xf32>
def val_main_v29 (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) : (⟨S8x8x16384x16384, .f32⟩ : BufTy).Contents (Elt F) :=
  Host.exp (val_main_v28 (F := F) x1 x3 r0 r1)
theorem val_main_v29_apply (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) (i : S8x8x16384x16384.Idx) :
    val_main_v29 (F := F) x1 x3 r0 r1 i = FloatOps.hostUnary .exp (val_main_v28 (F := F) x1 x3 r0 r1 i) := rfl

-- %cst_1 = stablehlo.constant dense<0.000000e+00> : tensor<f32>
def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

-- %30 = stablehlo.reduce(%29 init: %cst_1) applies stablehlo.add across dimensions = [3] : (tensor<8x8x16384x16384xf32>, tensor<f32>) -> tensor<8x8x16384xf32> {
def val_main_v30 (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) : (⟨S8x8x16384, .f32⟩ : BufTy).Contents (Elt F) :=
  Host.reduceAdd (val_main_v29 (F := F) x1 x3 r0 r1) (val_main_cst_1 (F := F)) reducesTo_S8x8x16384x16384_S8x8x16384_d3 h_S_
abbrev idx_main_v30 (i : S8x8x16384.Idx) (k : Fin 16384) : S8x8x16384x16384.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
/-- Stated at `F := Ideal`, where the host's float sum is this sum; at a bit-exact instance it is an opaque function of its operand. -/
theorem val_main_v30_apply (x1 : (⟨S128x64, .f32⟩ : BufTy).Contents (Elt Ideal)) (x3 : (⟨S8x256, .f32⟩ : BufTy).Contents (Elt Ideal)) (r0 : (⟨S16384x8192, .bf16⟩ : BufTy).Contents (Elt Ideal)) (r1 : (⟨S16384x1024, .bf16⟩ : BufTy).Contents (Elt Ideal)) (i : S8x8x16384.Idx) :
    val_main_v30 (F := Ideal) x1 x3 r0 r1 i = (val_main_cst_1 (F := Ideal)) (Shape.Idx.first h_S_) + ∑ k : Fin 16384, (val_main_v29 (F := Ideal) x1 x3 r0 r1) (idx_main_v30 i k) := by
  unfold val_main_v30
  generalize val_main_v29 (F := Ideal) x1 x3 r0 r1 = y0
  simp only [Host.reduceAdd, Ideal.hostReduceAdd_def]
  rw [Ideal.hostReduceAdd_single reducesTo_S8x8x16384x16384_S8x8x16384_d3 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

-- %cst_2 = stablehlo.constant dense<2.560000e+02> : tensor<f32>
def val_main_cst_2 : (⟨S_, .f32⟩ : BufTy).Contents (Elt F) :=
  constant S_ .f32 0x43800000#32
theorem val_main_cst_2_apply (i : S_.Idx) :
    val_main_cst_2 (F := F) i = FloatOps.ofBits .f32 0x43800000#32 := rfl

-- %31 = stablehlo.broadcast_in_dim %cst_2, dims = [] : (tensor<f32>) -> tensor<8x8x16384x16384xf32>
def val_main_v31 : (⟨S8x8x16384x16384, .f32⟩ : BufTy).Contents (Elt F) :=
  broadcastInDim S8x8x16384x16384 ![] bcast_S_S8x8x16384x16384 (val_main_cst_2 (F := F))
abbrev idx_main_v31 (i : S8x8x16384x16384.Idx) : S_.Idx := fun a => a.elim0
theorem val_main_v31_apply (i : S8x8x16384x16384.Idx) :
    val_main_v31 (F := F) i = val_main_cst_2 (F := F) (idx_main_v31 i) := by
  unfold val_main_v31
  generalize val_main_cst_2 (F := F) = y
  exact broadcastInDim_apply _ bcast_S_S8x8x16384x16384 y i (idx_main_v31 i) (fun a => a.elim0)

-- %32 = stablehlo.multiply %29, %31 : tensor<8x8x16384x16384xf32>
def val_main_v32 (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) : (⟨S8x8x16384x16384, .f32⟩ : BufTy).Contents (Elt F) :=
  mulf (val_main_v29 (F := F) x1 x3 r0 r1) (val_main_v31 (F := F))
theorem val_main_v32_apply (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) (i : S8x8x16384x16384.Idx) :
    val_main_v32 (F := F) x1 x3 r0 r1 i = FloatOps.mulf (val_main_v29 (F := F) x1 x3 r0 r1 i) (val_main_v31 (F := F) i) := rfl

-- %cst_3 = stablehlo.constant dense<4.480000e+02> : tensor<f32>
def val_main_cst_3 : (⟨S_, .f32⟩ : BufTy).Contents (Elt F) :=
  constant S_ .f32 0x43E00000#32
theorem val_main_cst_3_apply (i : S_.Idx) :
    val_main_cst_3 (F := F) i = FloatOps.ofBits .f32 0x43E00000#32 := rfl

-- %33 = stablehlo.broadcast_in_dim %cst_3, dims = [] : (tensor<f32>) -> tensor<8x8x16384x16384xf32>
def val_main_v33 : (⟨S8x8x16384x16384, .f32⟩ : BufTy).Contents (Elt F) :=
  broadcastInDim S8x8x16384x16384 ![] bcast_S_S8x8x16384x16384 (val_main_cst_3 (F := F))
abbrev idx_main_v33 (i : S8x8x16384x16384.Idx) : S_.Idx := fun a => a.elim0
theorem val_main_v33_apply (i : S8x8x16384x16384.Idx) :
    val_main_v33 (F := F) i = val_main_cst_3 (F := F) (idx_main_v33 i) := by
  unfold val_main_v33
  generalize val_main_cst_3 (F := F) = y
  exact broadcastInDim_apply _ bcast_S_S8x8x16384x16384 y i (idx_main_v33 i) (fun a => a.elim0)

-- %34 = stablehlo.minimum %32, %33 : tensor<8x8x16384x16384xf32>
def val_main_v34 (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) : (⟨S8x8x16384x16384, .f32⟩ : BufTy).Contents (Elt F) :=
  minimumf (val_main_v32 (F := F) x1 x3 r0 r1) (val_main_v33 (F := F))
theorem val_main_v34_apply (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) (i : S8x8x16384x16384.Idx) :
    val_main_v34 (F := F) x1 x3 r0 r1 i = FloatOps.minimumf (val_main_v32 (F := F) x1 x3 r0 r1 i) (val_main_v33 (F := F) i) := rfl

-- %35 = stablehlo.dot_general %3, %34, batching_dims = [0] x [0], contracting_dims = [2] x [3], precision = [DEFAULT, DEFAULT] : (tensor<8x128x16384xf32>, tensor<8x8x16384x16384xf32>) -> tensor<8x128x8x16384xf32>
def val_main_v35 (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) (r2 : (⟨S1024x16384, .f32⟩ : BufTy).Contents (Elt F)) : (⟨S8x128x8x16384, .f32⟩ : BufTy).Contents (Elt F) :=
  Host.dotGeneral dot_S8x128x16384_S8x8x16384x16384_S8x128x8x16384_2_3_1_12_0_0 none (val_main_v3 (F := F) r2) (val_main_v34 (F := F) x1 x3 r0 r1)
theorem lhs_main_v35_0 (i : S8x128x8x16384.Idx) (q : dot_S8x128x16384_S8x8x16384x16384_S8x128x8x16384_2_3_1_12_0_0.contr.Idx) :
    (dot_S8x128x16384_S8x8x16384x16384_S8x128x8x16384_2_3_1_12_0_0.lhsIdx i q 0).val = (i 0).val := by
  unfold DotDims.lhsIdx
  rw [dif_pos (show (0 : Fin S8x128x16384.rank) ∈ dot_S8x128x16384_S8x8x16384x16384_S8x128x8x16384_2_3_1_12_0_0.lhsBatch by decide)]
  rfl
theorem lhs_main_v35_1 (i : S8x128x8x16384.Idx) (q : dot_S8x128x16384_S8x8x16384x16384_S8x128x8x16384_2_3_1_12_0_0.contr.Idx) :
    (dot_S8x128x16384_S8x8x16384x16384_S8x128x8x16384_2_3_1_12_0_0.lhsIdx i q 1).val = (i 1).val := by
  unfold DotDims.lhsIdx
  rw [dif_neg (show ¬(1 : Fin S8x128x16384.rank) ∈ dot_S8x128x16384_S8x8x16384x16384_S8x128x8x16384_2_3_1_12_0_0.lhsBatch by decide), dif_pos (show (1 : Fin S8x128x16384.rank) ∈ dot_S8x128x16384_S8x8x16384x16384_S8x128x8x16384_2_3_1_12_0_0.lhsNonContracting by decide)]
  rfl
theorem lhs_main_v35_2 (i : S8x128x8x16384.Idx) (q : dot_S8x128x16384_S8x8x16384x16384_S8x128x8x16384_2_3_1_12_0_0.contr.Idx) :
    (dot_S8x128x16384_S8x8x16384x16384_S8x128x8x16384_2_3_1_12_0_0.lhsIdx i q 2).val = (q ⟨0, by decide⟩).val :=
  dot_S8x128x16384_S8x8x16384x16384_S8x128x8x16384_2_3_1_12_0_0.lhsIdx_val_of_single rfl i q
theorem rhs_main_v35_0 (i : S8x128x8x16384.Idx) (q : dot_S8x128x16384_S8x8x16384x16384_S8x128x8x16384_2_3_1_12_0_0.contr.Idx) :
    (dot_S8x128x16384_S8x8x16384x16384_S8x128x8x16384_2_3_1_12_0_0.rhsIdx i q 0).val = (i 0).val := by
  unfold DotDims.rhsIdx
  rw [dif_pos (show (0 : Fin S8x8x16384x16384.rank) ∈ dot_S8x128x16384_S8x8x16384x16384_S8x128x8x16384_2_3_1_12_0_0.rhsBatch by decide)]
  rfl
theorem rhs_main_v35_1 (i : S8x128x8x16384.Idx) (q : dot_S8x128x16384_S8x8x16384x16384_S8x128x8x16384_2_3_1_12_0_0.contr.Idx) :
    (dot_S8x128x16384_S8x8x16384x16384_S8x128x8x16384_2_3_1_12_0_0.rhsIdx i q 1).val = (i 2).val := by
  unfold DotDims.rhsIdx
  rw [dif_neg (show ¬(1 : Fin S8x8x16384x16384.rank) ∈ dot_S8x128x16384_S8x8x16384x16384_S8x128x8x16384_2_3_1_12_0_0.rhsBatch by decide), dif_pos (show (1 : Fin S8x8x16384x16384.rank) ∈ dot_S8x128x16384_S8x8x16384x16384_S8x128x8x16384_2_3_1_12_0_0.rhsNonContracting by decide)]
  rfl
theorem rhs_main_v35_2 (i : S8x128x8x16384.Idx) (q : dot_S8x128x16384_S8x8x16384x16384_S8x128x8x16384_2_3_1_12_0_0.contr.Idx) :
    (dot_S8x128x16384_S8x8x16384x16384_S8x128x8x16384_2_3_1_12_0_0.rhsIdx i q 2).val = (i 3).val := by
  unfold DotDims.rhsIdx
  rw [dif_neg (show ¬(2 : Fin S8x8x16384x16384.rank) ∈ dot_S8x128x16384_S8x8x16384x16384_S8x128x8x16384_2_3_1_12_0_0.rhsBatch by decide), dif_pos (show (2 : Fin S8x8x16384x16384.rank) ∈ dot_S8x128x16384_S8x8x16384x16384_S8x128x8x16384_2_3_1_12_0_0.rhsNonContracting by decide)]
  rfl
theorem rhs_main_v35_3 (i : S8x128x8x16384.Idx) (q : dot_S8x128x16384_S8x8x16384x16384_S8x128x8x16384_2_3_1_12_0_0.contr.Idx) :
    (dot_S8x128x16384_S8x8x16384x16384_S8x128x8x16384_2_3_1_12_0_0.rhsIdx i q 3).val = (q ⟨0, by decide⟩).val :=
  dot_S8x128x16384_S8x8x16384x16384_S8x128x8x16384_2_3_1_12_0_0.rhsIdx_val_of_single rfl i q
abbrev lidx_main_v35 (i : S8x128x8x16384.Idx) (k : Fin 16384) : S8x128x16384.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v35 (i : S8x128x8x16384.Idx) (k : Fin 16384) : S8x8x16384x16384.Idx := fun a => match a with
  | ⟨0, _⟩ => ⟨(i 0).val, (i 0).isLt⟩
  | ⟨1, _⟩ => ⟨(i 2).val, (i 2).isLt⟩
  | ⟨2, _⟩ => ⟨(i 3).val, (i 3).isLt⟩
  | ⟨3, _⟩ => ⟨k.val, k.isLt⟩
/-- Stated at `F := Ideal`, where the host's `dot_general` is this sum; at a bit-exact instance it is an opaque function of its operands. -/
theorem val_main_v35_apply (x1 : (⟨S128x64, .f32⟩ : BufTy).Contents (Elt Ideal)) (x3 : (⟨S8x256, .f32⟩ : BufTy).Contents (Elt Ideal)) (r0 : (⟨S16384x8192, .bf16⟩ : BufTy).Contents (Elt Ideal)) (r1 : (⟨S16384x1024, .bf16⟩ : BufTy).Contents (Elt Ideal)) (r2 : (⟨S1024x16384, .f32⟩ : BufTy).Contents (Elt Ideal)) (i : S8x128x8x16384.Idx) :
    val_main_v35 (F := Ideal) x1 x3 r0 r1 r2 i = ∑ k : Fin 16384, (val_main_v3 (F := Ideal) r2) (lidx_main_v35 i k) * (val_main_v34 (F := Ideal) x1 x3 r0 r1) (ridx_main_v35 i k) := by
  unfold val_main_v35
  generalize val_main_v3 (F := Ideal) r2 = y0
  generalize val_main_v34 (F := Ideal) x1 x3 r0 r1 = y1
  simp only [Host.dotGeneral]
  rw [Ideal.dotGeneral_apply, ← Equiv.sum_comp (ValueIdx.contrEquiv1 dot_S8x128x16384_S8x8x16384x16384_S8x128x8x16384_2_3_1_12_0_0 16384 rfl rfl).symm]
  refine Finset.sum_congr rfl fun k _ => ?_
  have hk := ValueIdx.contrEquiv1_symm_val dot_S8x128x16384_S8x8x16384x16384_S8x128x8x16384_2_3_1_12_0_0 16384 rfl rfl k
  have el : dot_S8x128x16384_S8x8x16384x16384_S8x128x8x16384_2_3_1_12_0_0.lhsIdx i ((ValueIdx.contrEquiv1 dot_S8x128x16384_S8x8x16384x16384_S8x128x8x16384_2_3_1_12_0_0 16384 rfl rfl).symm k) = lidx_main_v35 i k := funext fun a => Fin.ext (by
    match a with
    | ⟨0, _⟩ => exact lhs_main_v35_0 _ _
    | ⟨1, _⟩ => exact lhs_main_v35_1 _ _
    | ⟨2, _⟩ => exact (lhs_main_v35_2 _ _).trans hk)
  have er : dot_S8x128x16384_S8x8x16384x16384_S8x128x8x16384_2_3_1_12_0_0.rhsIdx i ((ValueIdx.contrEquiv1 dot_S8x128x16384_S8x8x16384x16384_S8x128x8x16384_2_3_1_12_0_0 16384 rfl rfl).symm k) = ridx_main_v35 i k := funext fun a => Fin.ext (by
    match a with
    | ⟨0, _⟩ => exact rhs_main_v35_0 _ _
    | ⟨1, _⟩ => exact rhs_main_v35_1 _ _
    | ⟨2, _⟩ => exact rhs_main_v35_2 _ _
    | ⟨3, _⟩ => exact (rhs_main_v35_3 _ _).trans hk)
  rw [el, er]

-- %36 = stablehlo.transpose %35, dims = [3, 0, 2, 1] : (tensor<8x128x8x16384xf32>) -> tensor<16384x8x8x128xf32>
def val_main_v36 (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) (r2 : (⟨S1024x16384, .f32⟩ : BufTy).Contents (Elt F)) : (⟨S16384x8x8x128, .f32⟩ : BufTy).Contents (Elt F) :=
  transpose S16384x8x8x128 [3, 0, 2, 1] (val_main_v35 (F := F) x1 x3 r0 r1 r2) transposes_S8x128x8x16384_S16384x8x8x128_3_0_2_1
abbrev idx_main_v36 (i : S16384x8x8x128.Idx) : S8x128x8x16384.Idx := fun a => match a with
  | ⟨0, _⟩ => ⟨(i 1).val, (i 1).isLt⟩
  | ⟨1, _⟩ => ⟨(i 3).val, (i 3).isLt⟩
  | ⟨2, _⟩ => ⟨(i 2).val, (i 2).isLt⟩
  | ⟨3, _⟩ => ⟨(i 0).val, (i 0).isLt⟩
theorem val_main_v36_apply (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) (r2 : (⟨S1024x16384, .f32⟩ : BufTy).Contents (Elt F)) (i : S16384x8x8x128.Idx) :
    val_main_v36 (F := F) x1 x3 r0 r1 r2 i = val_main_v35 (F := F) x1 x3 r0 r1 r2 (idx_main_v36 i) := by
  unfold val_main_v36
  generalize val_main_v35 (F := F) x1 x3 r0 r1 r2 = y
  exact transpose_apply [3, 0, 2, 1] y transposes_S8x128x8x16384_S16384x8x8x128_3_0_2_1 i (idx_main_v36 i) (fun b => match b with
    | ⟨0, _⟩ => rfl
    | ⟨1, _⟩ => rfl
    | ⟨2, _⟩ => rfl
    | ⟨3, _⟩ => rfl)

-- %37 = stablehlo.transpose %30, dims = [2, 0, 1] : (tensor<8x8x16384xf32>) -> tensor<16384x8x8xf32>
def val_main_v37 (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) : (⟨S16384x8x8, .f32⟩ : BufTy).Contents (Elt F) :=
  transpose S16384x8x8 [2, 0, 1] (val_main_v30 (F := F) x1 x3 r0 r1) transposes_S8x8x16384_S16384x8x8_2_0_1
abbrev idx_main_v37 (i : S16384x8x8.Idx) : S8x8x16384.Idx := fun a => match a with
  | ⟨0, _⟩ => ⟨(i 1).val, (i 1).isLt⟩
  | ⟨1, _⟩ => ⟨(i 2).val, (i 2).isLt⟩
  | ⟨2, _⟩ => ⟨(i 0).val, (i 0).isLt⟩
theorem val_main_v37_apply (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) (i : S16384x8x8.Idx) :
    val_main_v37 (F := F) x1 x3 r0 r1 i = val_main_v30 (F := F) x1 x3 r0 r1 (idx_main_v37 i) := by
  unfold val_main_v37
  generalize val_main_v30 (F := F) x1 x3 r0 r1 = y
  exact transpose_apply [2, 0, 1] y transposes_S8x8x16384_S16384x8x8_2_0_1 i (idx_main_v37 i) (fun b => match b with
    | ⟨0, _⟩ => rfl
    | ⟨1, _⟩ => rfl
    | ⟨2, _⟩ => rfl)

-- %38 = stablehlo.broadcast_in_dim %37, dims = [0, 1, 2] : (tensor<16384x8x8xf32>) -> tensor<16384x8x8x1xf32>
def val_main_v38 (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) : (⟨S16384x8x8x1, .f32⟩ : BufTy).Contents (Elt F) :=
  broadcastInDim S16384x8x8x1 ![0, 1, 2] bcast_S16384x8x8_S16384x8x8x1_0_1_2 (val_main_v37 (F := F) x1 x3 r0 r1)
abbrev idx_main_v38 (i : S16384x8x8x1.Idx) : S16384x8x8.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v38_apply (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) (i : S16384x8x8x1.Idx) :
    val_main_v38 (F := F) x1 x3 r0 r1 i = val_main_v37 (F := F) x1 x3 r0 r1 (idx_main_v38 i) := by
  unfold val_main_v38
  generalize val_main_v37 (F := F) x1 x3 r0 r1 = y
  exact broadcastInDim_apply _ bcast_S16384x8x8_S16384x8x8x1_0_1_2 y i (idx_main_v38 i) (fun a => match a with
    | ⟨0, _⟩ => by show (i 0).val = if (16384 : Nat) = 1 then 0 else (i 0).val; rw [if_neg (by decide)]
    | ⟨1, _⟩ => by show (i 1).val = if (8 : Nat) = 1 then 0 else (i 1).val; rw [if_neg (by decide)]
    | ⟨2, _⟩ => by show (i 2).val = if (8 : Nat) = 1 then 0 else (i 2).val; rw [if_neg (by decide)])

-- %39 = stablehlo.broadcast_in_dim %38, dims = [0, 1, 2, 3] : (tensor<16384x8x8x1xf32>) -> tensor<16384x8x8x128xf32>
def val_main_v39 (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) : (⟨S16384x8x8x128, .f32⟩ : BufTy).Contents (Elt F) :=
  broadcastInDim S16384x8x8x128 ![0, 1, 2, 3] bcast_S16384x8x8x1_S16384x8x8x128_0_1_2_3 (val_main_v38 (F := F) x1 x3 r0 r1)
abbrev idx_main_v39 (i : S16384x8x8x128.Idx) : S16384x8x8x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v39_apply (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) (i : S16384x8x8x128.Idx) :
    val_main_v39 (F := F) x1 x3 r0 r1 i = val_main_v38 (F := F) x1 x3 r0 r1 (idx_main_v39 i) := by
  unfold val_main_v39
  generalize val_main_v38 (F := F) x1 x3 r0 r1 = y
  exact broadcastInDim_apply _ bcast_S16384x8x8x1_S16384x8x8x128_0_1_2_3 y i (idx_main_v39 i) (fun a => match a with
    | ⟨0, _⟩ => by show (i 0).val = if (16384 : Nat) = 1 then 0 else (i 0).val; rw [if_neg (by decide)]
    | ⟨1, _⟩ => by show (i 1).val = if (8 : Nat) = 1 then 0 else (i 1).val; rw [if_neg (by decide)]
    | ⟨2, _⟩ => by show (i 2).val = if (8 : Nat) = 1 then 0 else (i 2).val; rw [if_neg (by decide)]
    | ⟨3, _⟩ => by show 0 = if (1 : Nat) = 1 then 0 else (i 3).val; rw [if_pos rfl])

-- %40 = stablehlo.divide %36, %39 : tensor<16384x8x8x128xf32>
def val_main_v40 (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) (r2 : (⟨S1024x16384, .f32⟩ : BufTy).Contents (Elt F)) : (⟨S16384x8x8x128, .f32⟩ : BufTy).Contents (Elt F) :=
  Host.divf (val_main_v36 (F := F) x1 x3 r0 r1 r2) (val_main_v39 (F := F) x1 x3 r0 r1)
theorem val_main_v40_apply (x1 : (⟨S128x64, .f32⟩ : BufTy).Contents (Elt F)) (x3 : (⟨S8x256, .f32⟩ : BufTy).Contents (Elt F)) (r0 : (⟨S16384x8192, .bf16⟩ : BufTy).Contents (Elt F)) (r1 : (⟨S16384x1024, .bf16⟩ : BufTy).Contents (Elt F)) (r2 : (⟨S1024x16384, .f32⟩ : BufTy).Contents (Elt F)) (i : S16384x8x8x128.Idx) :
    val_main_v40 (F := F) x1 x3 r0 r1 r2 i = FloatOps.hostDivf (val_main_v36 (F := F) x1 x3 r0 r1 r2 i) (val_main_v39 (F := F) x1 x3 r0 r1 i) := rfl

-- %cst_4 = stablehlo.constant dense<3.906250e-03> : tensor<f32>
def val_main_cst_4 : (⟨S_, .f32⟩ : BufTy).Contents (Elt F) :=
  constant S_ .f32 0x3B800000#32
theorem val_main_cst_4_apply (i : S_.Idx) :
    val_main_cst_4 (F := F) i = FloatOps.ofBits .f32 0x3B800000#32 := rfl

-- %41 = stablehlo.broadcast_in_dim %cst_4, dims = [] : (tensor<f32>) -> tensor<8x128xf32>
def val_main_v41 : (⟨S8x128, .f32⟩ : BufTy).Contents (Elt F) :=
  broadcastInDim S8x128 ![] bcast_S_S8x128 (val_main_cst_4 (F := F))
abbrev idx_main_v41 (i : S8x128.Idx) : S_.Idx := fun a => a.elim0
theorem val_main_v41_apply (i : S8x128.Idx) :
    val_main_v41 (F := F) i = val_main_cst_4 (F := F) (idx_main_v41 i) := by
  unfold val_main_v41
  generalize val_main_cst_4 (F := F) = y
  exact broadcastInDim_apply _ bcast_S_S8x128 y i (idx_main_v41 i) (fun a => a.elim0)

-- %42 = stablehlo.multiply %41, %arg5 : tensor<8x128xf32>
def val_main_v42 (x5 : (⟨S8x128, .f32⟩ : BufTy).Contents (Elt F)) : (⟨S8x128, .f32⟩ : BufTy).Contents (Elt F) :=
  mulf (val_main_v41 (F := F)) (x5)
theorem val_main_v42_apply (x5 : (⟨S8x128, .f32⟩ : BufTy).Contents (Elt F)) (i : S8x128.Idx) :
    val_main_v42 (F := F) x5 i = FloatOps.mulf (val_main_v41 (F := F) i) (x5 i) := rfl

-- %43 = stablehlo.broadcast_in_dim %42, dims = [1, 3] : (tensor<8x128xf32>) -> tensor<1x8x1x128xf32>
def val_main_v43 (x5 : (⟨S8x128, .f32⟩ : BufTy).Contents (Elt F)) : (⟨S1x8x1x128, .f32⟩ : BufTy).Contents (Elt F) :=
  broadcastInDim S1x8x1x128 ![1, 3] bcast_S8x128_S1x8x1x128_1_3 (val_main_v42 (F := F) x5)
abbrev idx_main_v43 (i : S1x8x1x128.Idx) : S8x128.Idx := fun a => match a with
  | ⟨0, _⟩ => ⟨(i 1).val, (i 1).isLt⟩
  | ⟨1, _⟩ => ⟨(i 3).val, (i 3).isLt⟩
theorem val_main_v43_apply (x5 : (⟨S8x128, .f32⟩ : BufTy).Contents (Elt F)) (i : S1x8x1x128.Idx) :
    val_main_v43 (F := F) x5 i = val_main_v42 (F := F) x5 (idx_main_v43 i) := by
  unfold val_main_v43
  generalize val_main_v42 (F := F) x5 = y
  exact broadcastInDim_apply _ bcast_S8x128_S1x8x1x128_1_3 y i (idx_main_v43 i) (fun a => match a with
    | ⟨0, _⟩ => by show (i 1).val = if (8 : Nat) = 1 then 0 else (i 1).val; rw [if_neg (by decide)]
    | ⟨1, _⟩ => by show (i 3).val = if (128 : Nat) = 1 then 0 else (i 3).val; rw [if_neg (by decide)])

-- %44 = stablehlo.broadcast_in_dim %43, dims = [0, 1, 2, 3] : (tensor<1x8x1x128xf32>) -> tensor<16384x8x8x128xf32>
def val_main_v44 (x5 : (⟨S8x128, .f32⟩ : BufTy).Contents (Elt F)) : (⟨S16384x8x8x128, .f32⟩ : BufTy).Contents (Elt F) :=
  broadcastInDim S16384x8x8x128 ![0, 1, 2, 3] bcast_S1x8x1x128_S16384x8x8x128_0_1_2_3 (val_main_v43 (F := F) x5)
abbrev idx_main_v44 (i : S16384x8x8x128.Idx) : S1x8x1x128.Idx := fun a => match a with
  | ⟨0, _⟩ => ⟨0, Nat.one_pos⟩
  | ⟨1, _⟩ => ⟨(i 1).val, (i 1).isLt⟩
  | ⟨2, _⟩ => ⟨0, Nat.one_pos⟩
  | ⟨3, _⟩ => ⟨(i 3).val, (i 3).isLt⟩
theorem val_main_v44_apply (x5 : (⟨S8x128, .f32⟩ : BufTy).Contents (Elt F)) (i : S16384x8x8x128.Idx) :
    val_main_v44 (F := F) x5 i = val_main_v43 (F := F) x5 (idx_main_v44 i) := by
  unfold val_main_v44
  generalize val_main_v43 (F := F) x5 = y
  exact broadcastInDim_apply _ bcast_S1x8x1x128_S16384x8x8x128_0_1_2_3 y i (idx_main_v44 i) (fun a => match a with
    | ⟨0, _⟩ => by show 0 = if (1 : Nat) = 1 then 0 else (i 0).val; rw [if_pos rfl]
    | ⟨1, _⟩ => by show (i 1).val = if (8 : Nat) = 1 then 0 else (i 1).val; rw [if_neg (by decide)]
    | ⟨2, _⟩ => by show 0 = if (1 : Nat) = 1 then 0 else (i 2).val; rw [if_pos rfl]
    | ⟨3, _⟩ => by show (i 3).val = if (128 : Nat) = 1 then 0 else (i 3).val; rw [if_neg (by decide)])

-- %45 = stablehlo.multiply %40, %44 : tensor<16384x8x8x128xf32>
def val_main_v45 (x1 : (⟨S128x64, .f32⟩ : BufTy).Contents (Elt F)) (x3 : (⟨S8x256, .f32⟩ : BufTy).Contents (Elt F)) (x5 : (⟨S8x128, .f32⟩ : BufTy).Contents (Elt F)) (r0 : (⟨S16384x8192, .bf16⟩ : BufTy).Contents (Elt F)) (r1 : (⟨S16384x1024, .bf16⟩ : BufTy).Contents (Elt F)) (r2 : (⟨S1024x16384, .f32⟩ : BufTy).Contents (Elt F)) : (⟨S16384x8x8x128, .f32⟩ : BufTy).Contents (Elt F) :=
  mulf (val_main_v40 (F := F) x1 x3 r0 r1 r2) (val_main_v44 (F := F) x5)
theorem val_main_v45_apply (x1 : (⟨S128x64, .f32⟩ : BufTy).Contents (Elt F)) (x3 : (⟨S8x256, .f32⟩ : BufTy).Contents (Elt F)) (x5 : (⟨S8x128, .f32⟩ : BufTy).Contents (Elt F)) (r0 : (⟨S16384x8192, .bf16⟩ : BufTy).Contents (Elt F)) (r1 : (⟨S16384x1024, .bf16⟩ : BufTy).Contents (Elt F)) (r2 : (⟨S1024x16384, .f32⟩ : BufTy).Contents (Elt F)) (i : S16384x8x8x128.Idx) :
    val_main_v45 (F := F) x1 x3 x5 r0 r1 r2 i = FloatOps.mulf (val_main_v40 (F := F) x1 x3 r0 r1 r2 i) (val_main_v44 (F := F) x5 i) := rfl

-- %46 = stablehlo.reshape %45 : (tensor<16384x8x8x128xf32>) -> tensor<16384x8192xf32>
def val_main_v46 (x1 : (⟨S128x64, .f32⟩ : BufTy).Contents (Elt F)) (x3 : (⟨S8x256, .f32⟩ : BufTy).Contents (Elt F)) (x5 : (⟨S8x128, .f32⟩ : BufTy).Contents (Elt F)) (r0 : (⟨S16384x8192, .bf16⟩ : BufTy).Contents (Elt F)) (r1 : (⟨S16384x1024, .bf16⟩ : BufTy).Contents (Elt F)) (r2 : (⟨S1024x16384, .f32⟩ : BufTy).Contents (Elt F)) : (⟨S16384x8192, .f32⟩ : BufTy).Contents (Elt F) :=
  shapeCast _ (val_main_v45 (F := F) x1 x3 x5 r0 r1 r2) shapeCasts_S16384x8x8x128_S16384x8192
set_option backward.proofsInPublic true in
abbrev idx_main_v46 (i : S16384x8192.Idx) : S16384x8x8x128.Idx := fun a => match a with
  | ⟨0, _⟩ => ⟨((i 0).val * 8192 + (i 1).val) / 8192, by have h0 : (i 0).val < 16384 := (i 0).isLt; have h1 : (i 1).val < 8192 := (i 1).isLt; show ((i 0).val * 8192 + (i 1).val) / 8192 < 16384; omega⟩
  | ⟨1, _⟩ => ⟨((i 0).val * 8192 + (i 1).val) / 1024 % 8, by have h0 : (i 0).val < 16384 := (i 0).isLt; have h1 : (i 1).val < 8192 := (i 1).isLt; show ((i 0).val * 8192 + (i 1).val) / 1024 % 8 < 8; omega⟩
  | ⟨2, _⟩ => ⟨((i 0).val * 8192 + (i 1).val) / 128 % 8, by have h0 : (i 0).val < 16384 := (i 0).isLt; have h1 : (i 1).val < 8192 := (i 1).isLt; show ((i 0).val * 8192 + (i 1).val) / 128 % 8 < 8; omega⟩
  | ⟨3, _⟩ => ⟨((i 0).val * 8192 + (i 1).val) % 128, by have h0 : (i 0).val < 16384 := (i 0).isLt; have h1 : (i 1).val < 8192 := (i 1).isLt; show ((i 0).val * 8192 + (i 1).val) % 128 < 128; omega⟩
theorem val_main_v46_apply (x1 : (⟨S128x64, .f32⟩ : BufTy).Contents (Elt F)) (x3 : (⟨S8x256, .f32⟩ : BufTy).Contents (Elt F)) (x5 : (⟨S8x128, .f32⟩ : BufTy).Contents (Elt F)) (r0 : (⟨S16384x8192, .bf16⟩ : BufTy).Contents (Elt F)) (r1 : (⟨S16384x1024, .bf16⟩ : BufTy).Contents (Elt F)) (r2 : (⟨S1024x16384, .f32⟩ : BufTy).Contents (Elt F)) (i : S16384x8192.Idx) :
    val_main_v46 (F := F) x1 x3 x5 r0 r1 r2 i = val_main_v45 (F := F) x1 x3 x5 r0 r1 r2 (idx_main_v46 i) := by
  unfold val_main_v46
  generalize val_main_v45 (F := F) x1 x3 x5 r0 r1 r2 = y
  exact shapeCast_apply y shapeCasts_S16384x8x8x128_S16384x8192 i (idx_main_v46 i)
    (by rewrite [Shape.rowMajor_val_four, Shape.rowMajor_val_two]; have h0 : (i 0).val < 16384 := (i 0).isLt; have h1 : (i 1).val < 8192 := (i 1).isLt; show ((((i 0).val * 8192 + (i 1).val) / 8192 * 8 + ((i 0).val * 8192 + (i 1).val) / 1024 % 8) * 8 + ((i 0).val * 8192 + (i 1).val) / 128 % 8) * 128 + ((i 0).val * 8192 + (i 1).val) % 128 = (i 0).val * 8192 + (i 1).val; omega)

-- %47 = stablehlo.convert %46 : (tensor<16384x8192xf32>) -> tensor<16384x8192xbf16>
def val_main_v47 (x1 : (⟨S128x64, .f32⟩ : BufTy).Contents (Elt F)) (x3 : (⟨S8x256, .f32⟩ : BufTy).Contents (Elt F)) (x5 : (⟨S8x128, .f32⟩ : BufTy).Contents (Elt F)) (r0 : (⟨S16384x8192, .bf16⟩ : BufTy).Contents (Elt F)) (r1 : (⟨S16384x1024, .bf16⟩ : BufTy).Contents (Elt F)) (r2 : (⟨S1024x16384, .f32⟩ : BufTy).Contents (Elt F)) : (⟨S16384x8192, .bf16⟩ : BufTy).Contents (Elt F) :=
  truncf .bf16 (val_main_v46 (F := F) x1 x3 x5 r0 r1 r2) bitsLt_bf16_f32
theorem val_main_v47_apply (x1 : (⟨S128x64, .f32⟩ : BufTy).Contents (Elt F)) (x3 : (⟨S8x256, .f32⟩ : BufTy).Contents (Elt F)) (x5 : (⟨S8x128, .f32⟩ : BufTy).Contents (Elt F)) (r0 : (⟨S16384x8192, .bf16⟩ : BufTy).Contents (Elt F)) (r1 : (⟨S16384x1024, .bf16⟩ : BufTy).Contents (Elt F)) (r2 : (⟨S1024x16384, .f32⟩ : BufTy).Contents (Elt F)) (i : S16384x8192.Idx) :
    val_main_v47 (F := F) x1 x3 x5 r0 r1 r2 i = FloatOps.truncf .bf16 bitsLt_bf16_f32 (val_main_v46 (F := F) x1 x3 x5 r0 r1 r2 i) := rfl

/-- The term the Run module states for `main_v47` over any contents `V0` is the stage. -/
theorem val_main_v47_eq (V0 : Valuation τ sig (Elt F)) :
    truncf .bf16 (shapeCast _ (mulf (Host.divf (transpose S16384x8x8x128 [3, 0, 2, 1] (Host.dotGeneral dot_S8x128x16384_S8x8x16384x16384_S8x128x8x16384_2_3_1_12_0_0 none (shapeCast _ (V0 (Proc.devRef .tc main_v0_2)) shapeCasts_S1024x16384_S8x128x16384) (minimumf (mulf (Host.exp (subf (select (broadcastInDim S8x8x16384x16384 ![2, 3] bcast_S16384x16384_S8x8x16384x16384_2_3 (cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0))))) (mulf (mulf (transpose S8x8x16384x16384 [0, 3, 2, 1] (Host.dotGeneral dot_S16384x8x128_S16384x8x8x128_S8x16384x16384x8_2_3_0_02_1_1 none (shapeCast _ (V0 (Proc.devRef .tc main_v0_1)) shapeCasts_S16384x1024_S16384x8x128) (shapeCast _ (V0 (Proc.devRef .tc main_v0_0)) shapeCasts_S16384x8192_S16384x8x8x128)) transposes_S8x16384x16384x8_S8x8x16384x16384_0_3_2_1) (broadcastInDim S8x8x16384x16384 ![0, 1, 2, 3] bcast_S8x8x16384x1_S8x8x16384x16384_0_1_2_3 (broadcastInDim S8x8x16384x1 ![0, 1, 2] bcast_S8x8x16384_S8x8x16384x1_0_1_2 (transpose S8x8x16384 [1, 2, 0] (shapeCast _ (shapeCast _ (broadcastInDim S128x128x64 ![0, 2] bcast_S128x64_S128x128x64_0_2 (V0 (Proc.devRef .tc main_arg1))) shapeCasts_S128x128x64_S16384x64) shapeCasts_S16384x64_S16384x8x8) transposes_S16384x8x8_S8x8x16384_1_2_0)))) (broadcastInDim S8x8x16384x16384 ![0, 1, 2, 3] bcast_S8x1x1x16384_S8x8x16384x16384_0_1_2_3 (broadcastInDim S8x1x1x16384 ![0, 3] bcast_S8x16384_S8x1x1x16384_0_3 (shapeCast _ (broadcastInDim S8x256x64 ![0, 1] bcast_S8x256_S8x256x64_0_1 (V0 (Proc.devRef .tc main_arg3))) shapeCasts_S8x256x64_S8x16384)))) (broadcastInDim S8x8x16384x16384 ![] bcast_S_S8x8x16384x16384 (id (constant S_ .f32 0xFF800000#32)))) (broadcastInDim S8x8x16384x16384 ![0, 1, 2, 3] bcast_S8x8x16384x1_S8x8x16384x16384_0_1_2_3 (broadcastInDim S8x8x16384x1 ![0, 1, 2] bcast_S8x8x16384_S8x8x16384x1_0_1_2 (Host.reduce FloatOps.maximumf (select (broadcastInDim S8x8x16384x16384 ![2, 3] bcast_S16384x16384_S8x8x16384x16384_2_3 (cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0))))) (mulf (mulf (transpose S8x8x16384x16384 [0, 3, 2, 1] (Host.dotGeneral dot_S16384x8x128_S16384x8x8x128_S8x16384x16384x8_2_3_0_02_1_1 none (shapeCast _ (V0 (Proc.devRef .tc main_v0_1)) shapeCasts_S16384x1024_S16384x8x128) (shapeCast _ (V0 (Proc.devRef .tc main_v0_0)) shapeCasts_S16384x8192_S16384x8x8x128)) transposes_S8x16384x16384x8_S8x8x16384x16384_0_3_2_1) (broadcastInDim S8x8x16384x16384 ![0, 1, 2, 3] bcast_S8x8x16384x1_S8x8x16384x16384_0_1_2_3 (broadcastInDim S8x8x16384x1 ![0, 1, 2] bcast_S8x8x16384_S8x8x16384x1_0_1_2 (transpose S8x8x16384 [1, 2, 0] (shapeCast _ (shapeCast _ (broadcastInDim S128x128x64 ![0, 2] bcast_S128x64_S128x128x64_0_2 (V0 (Proc.devRef .tc main_arg1))) shapeCasts_S128x128x64_S16384x64) shapeCasts_S16384x64_S16384x8x8) transposes_S16384x8x8_S8x8x16384_1_2_0)))) (broadcastInDim S8x8x16384x16384 ![0, 1, 2, 3] bcast_S8x1x1x16384_S8x8x16384x16384_0_1_2_3 (broadcastInDim S8x1x1x16384 ![0, 3] bcast_S8x16384_S8x1x1x16384_0_3 (shapeCast _ (broadcastInDim S8x256x64 ![0, 1] bcast_S8x256_S8x256x64_0_1 (V0 (Proc.devRef .tc main_arg3))) shapeCasts_S8x256x64_S8x16384)))) (broadcastInDim S8x8x16384x16384 ![] bcast_S_S8x8x16384x16384 (id (constant S_ .f32 0xFF800000#32)))) (constant S_ .f32 0xFF800000#32) reducesTo_S8x8x16384x16384_S8x8x16384_d3 h_S_))))) (broadcastInDim S8x8x16384x16384 ![] bcast_S_S8x8x16384x16384 (constant S_ .f32 0x43800000#32))) (broadcastInDim S8x8x16384x16384 ![] bcast_S_S8x8x16384x16384 (constant S_ .f32 0x43E00000#32)))) transposes_S8x128x8x16384_S16384x8x8x128_3_0_2_1) (broadcastInDim S16384x8x8x128 ![0, 1, 2, 3] bcast_S16384x8x8x1_S16384x8x8x128_0_1_2_3 (broadcastInDim S16384x8x8x1 ![0, 1, 2] bcast_S16384x8x8_S16384x8x8x1_0_1_2 (transpose S16384x8x8 [2, 0, 1] (Host.reduceAdd (Host.exp (subf (select (broadcastInDim S8x8x16384x16384 ![2, 3] bcast_S16384x16384_S8x8x16384x16384_2_3 (cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0))))) (mulf (mulf (transpose S8x8x16384x16384 [0, 3, 2, 1] (Host.dotGeneral dot_S16384x8x128_S16384x8x8x128_S8x16384x16384x8_2_3_0_02_1_1 none (shapeCast _ (V0 (Proc.devRef .tc main_v0_1)) shapeCasts_S16384x1024_S16384x8x128) (shapeCast _ (V0 (Proc.devRef .tc main_v0_0)) shapeCasts_S16384x8192_S16384x8x8x128)) transposes_S8x16384x16384x8_S8x8x16384x16384_0_3_2_1) (broadcastInDim S8x8x16384x16384 ![0, 1, 2, 3] bcast_S8x8x16384x1_S8x8x16384x16384_0_1_2_3 (broadcastInDim S8x8x16384x1 ![0, 1, 2] bcast_S8x8x16384_S8x8x16384x1_0_1_2 (transpose S8x8x16384 [1, 2, 0] (shapeCast _ (shapeCast _ (broadcastInDim S128x128x64 ![0, 2] bcast_S128x64_S128x128x64_0_2 (V0 (Proc.devRef .tc main_arg1))) shapeCasts_S128x128x64_S16384x64) shapeCasts_S16384x64_S16384x8x8) transposes_S16384x8x8_S8x8x16384_1_2_0)))) (broadcastInDim S8x8x16384x16384 ![0, 1, 2, 3] bcast_S8x1x1x16384_S8x8x16384x16384_0_1_2_3 (broadcastInDim S8x1x1x16384 ![0, 3] bcast_S8x16384_S8x1x1x16384_0_3 (shapeCast _ (broadcastInDim S8x256x64 ![0, 1] bcast_S8x256_S8x256x64_0_1 (V0 (Proc.devRef .tc main_arg3))) shapeCasts_S8x256x64_S8x16384)))) (broadcastInDim S8x8x16384x16384 ![] bcast_S_S8x8x16384x16384 (id (constant S_ .f32 0xFF800000#32)))) (broadcastInDim S8x8x16384x16384 ![0, 1, 2, 3] bcast_S8x8x16384x1_S8x8x16384x16384_0_1_2_3 (broadcastInDim S8x8x16384x1 ![0, 1, 2] bcast_S8x8x16384_S8x8x16384x1_0_1_2 (Host.reduce FloatOps.maximumf (select (broadcastInDim S8x8x16384x16384 ![2, 3] bcast_S16384x16384_S8x8x16384x16384_2_3 (cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0))))) (mulf (mulf (transpose S8x8x16384x16384 [0, 3, 2, 1] (Host.dotGeneral dot_S16384x8x128_S16384x8x8x128_S8x16384x16384x8_2_3_0_02_1_1 none (shapeCast _ (V0 (Proc.devRef .tc main_v0_1)) shapeCasts_S16384x1024_S16384x8x128) (shapeCast _ (V0 (Proc.devRef .tc main_v0_0)) shapeCasts_S16384x8192_S16384x8x8x128)) transposes_S8x16384x16384x8_S8x8x16384x16384_0_3_2_1) (broadcastInDim S8x8x16384x16384 ![0, 1, 2, 3] bcast_S8x8x16384x1_S8x8x16384x16384_0_1_2_3 (broadcastInDim S8x8x16384x1 ![0, 1, 2] bcast_S8x8x16384_S8x8x16384x1_0_1_2 (transpose S8x8x16384 [1, 2, 0] (shapeCast _ (shapeCast _ (broadcastInDim S128x128x64 ![0, 2] bcast_S128x64_S128x128x64_0_2 (V0 (Proc.devRef .tc main_arg1))) shapeCasts_S128x128x64_S16384x64) shapeCasts_S16384x64_S16384x8x8) transposes_S16384x8x8_S8x8x16384_1_2_0)))) (broadcastInDim S8x8x16384x16384 ![0, 1, 2, 3] bcast_S8x1x1x16384_S8x8x16384x16384_0_1_2_3 (broadcastInDim S8x1x1x16384 ![0, 3] bcast_S8x16384_S8x1x1x16384_0_3 (shapeCast _ (broadcastInDim S8x256x64 ![0, 1] bcast_S8x256_S8x256x64_0_1 (V0 (Proc.devRef .tc main_arg3))) shapeCasts_S8x256x64_S8x16384)))) (broadcastInDim S8x8x16384x16384 ![] bcast_S_S8x8x16384x16384 (id (constant S_ .f32 0xFF800000#32)))) (constant S_ .f32 0xFF800000#32) reducesTo_S8x8x16384x16384_S8x8x16384_d3 h_S_))))) (constant S_ .f32 0x00000000#32) reducesTo_S8x8x16384x16384_S8x8x16384_d3 h_S_) transposes_S8x8x16384_S16384x8x8_2_0_1)))) (broadcastInDim S16384x8x8x128 ![0, 1, 2, 3] bcast_S1x8x1x128_S16384x8x8x128_0_1_2_3 (broadcastInDim S1x8x1x128 ![1, 3] bcast_S8x128_S1x8x1x128_1_3 (mulf (broadcastInDim S8x128 ![] bcast_S_S8x128 (constant S_ .f32 0x3B800000#32)) (V0 (Proc.devRef .tc main_arg5)))))) shapeCasts_S16384x8x8x128_S16384x8192) bitsLt_bf16_f32
      = val_main_v47 (F := F) (V0 (Proc.devRef .tc main_arg1)) (V0 (Proc.devRef .tc main_arg3)) (V0 (Proc.devRef .tc main_arg5)) (V0 (Proc.devRef .tc main_v0_0)) (V0 (Proc.devRef .tc main_v0_1)) (V0 (Proc.devRef .tc main_v0_2)) := rfl

end Cert.ReferenceIdeal.Read

end
-- ==== Proof.Math.lean ====
/- The mathematics of the claim, over the extended reals and away from both programs: base-two
   exponentials of scaled scores are a multiple of the natural ones, the floor under a coefficient
   drops out when the scales are not tiny, the maximum commutes with the scaling, and what lies
   beyond the causal bound adds nothing. -/
module

public import Idealize.ShloMosaic.Lib.Pointwise

@[expose] public section

noncomputable section

namespace Cert.Attn

open Idealize.ShloMosaic

/-- The change of base, `1 / ln 2`. -/
def L : ℝ := (Real.log 2)⁻¹

theorem L_pos : 0 < L := inv_pos.mpr (Real.log_pos (by norm_num))

theorem one_le_L : 1 ≤ L := by
  have h := Real.log_lt_sub_one_of_pos (x := 2) (by norm_num) (by norm_num)
  have h0 : 0 < Real.log 2 := Real.log_pos (by norm_num)
  exact (one_le_inv₀ h0).mpr (by linarith)

theorem bits_ninf : Ideal.ofBits .f32 0xFF800000#32 = ⊥ := by simp [Ideal.ofBits, Ideal.ieee]
theorem bits_8 : Ideal.ofBits .f32 0x41000000#32 = ((8 : ℝ) : EReal) := by
  simp [Ideal.ofBits, Ideal.ieee]; rw [← EReal.coe_mul]; norm_num
theorem bits_256 : Ideal.ofBits .f32 0x43800000#32 = ((256 : ℝ) : EReal) := by
  simp [Ideal.ofBits, Ideal.ieee]; rw [← EReal.coe_mul]; norm_num
theorem bits_inv256 : Ideal.ofBits .f32 0x3B800000#32 = ((256⁻¹ : ℝ) : EReal) := by
  simp [Ideal.ofBits, Ideal.ieee]; rw [← EReal.coe_mul]; norm_num

/-- The floor under a coefficient. -/
def tiny : EReal := Ideal.ofBits .f32 0x0DA24260#32

theorem tiny_pos : 0 < tiny := by
  unfold tiny
  simp [Ideal.ofBits, Ideal.ieee]
  rw [← EReal.coe_mul]
  exact_mod_cast (by positivity : (0 : ℝ) < 10633824 * (2 ^ 123)⁻¹)

theorem exp_bot : Ideal.exp ⊥ = 0 := rfl
theorem exp_top : Ideal.exp ⊤ = ⊤ := rfl
theorem exp_coe (r : ℝ) : Ideal.exp (r : EReal) = ((Real.exp r : ℝ) : EReal) := rfl
theorem exp2_bot : Ideal.exp2 ⊥ = 0 := rfl
theorem exp2_top : Ideal.exp2 ⊤ = ⊤ := rfl
theorem exp2_coe (r : ℝ) : Ideal.exp2 (r : EReal) = (((2 : ℝ) ^ r : ℝ) : EReal) := rfl

/-- A base-two exponential of scaled arguments, shifted by eight, is 256 natural ones. -/
theorem exp2_shift (x m : EReal) :
    Ideal.exp2 (x * (L : EReal) - (m * (L : EReal) - ((8 : ℝ) : EReal))) = ((256 : ℝ) : EReal) * Ideal.exp (x - m) := by
  have hL := L_pos
  have h256 : (0 : ℝ) < 256 := by norm_num
  induction x with
  | bot =>
    rw [EReal.bot_mul_coe_of_pos hL, EReal.bot_sub, EReal.bot_sub]
    rw [exp2_bot, exp_bot, mul_zero]
  | top =>
    rw [EReal.top_mul_coe_of_pos hL]
    induction m with
    | bot =>
      rw [EReal.bot_mul_coe_of_pos hL, EReal.bot_sub, EReal.top_sub_bot]
      rw [exp2_top, exp_top, EReal.coe_mul_top_of_pos h256]
    | top =>
      rw [EReal.top_mul_coe_of_pos hL, EReal.top_sub_coe]
      rw [sub_eq_add_neg, EReal.neg_top, EReal.add_bot, exp2_bot, exp_bot, mul_zero]
    | coe m =>
      rw [← EReal.coe_mul, ← EReal.coe_sub, EReal.top_sub_coe, EReal.top_sub_coe]
      rw [exp2_top, exp_top, EReal.coe_mul_top_of_pos h256]
  | coe x =>
    induction m with
    | bot =>
      rw [EReal.bot_mul_coe_of_pos hL, EReal.bot_sub, ← EReal.coe_mul, EReal.coe_sub_bot, EReal.coe_sub_bot]
      rw [exp2_top, exp_top, EReal.coe_mul_top_of_pos h256]
    | top =>
      rw [EReal.top_mul_coe_of_pos hL, EReal.top_sub_coe, EReal.sub_top, EReal.sub_top]
      rw [exp2_bot, exp_bot, mul_zero]
    | coe m =>
      rw [← EReal.coe_mul, ← EReal.coe_mul, ← EReal.coe_sub, ← EReal.coe_sub, ← EReal.coe_sub]
      rw [exp2_coe, exp_coe, ← EReal.coe_mul]
      congr 1
      have h0 : Real.log 2 ≠ 0 := (Real.log_pos (by norm_num)).ne'
      have h2 : Real.log 2 * (x * L - (m * L - 8)) = (x - m) + Real.log 2 * 8 := by
        unfold L; field_simp; ring
      rw [Real.rpow_def_of_pos (by norm_num), h2, Real.exp_add, mul_comm (Real.exp (x - m))]
      congr 1
      rw [← Real.rpow_def_of_pos (by norm_num)]
      norm_num

/-- The floor drops out when the scales' product is not below it. -/
theorem coef_eq (q k : EReal) (h : tiny ≤ q * k) : max (k * (q * (L : EReal))) tiny = (q * k) * (L : EReal) := by
  have e : k * (q * (L : EReal)) = (q * k) * (L : EReal) := by rw [← mul_assoc, mul_comm k q]
  rw [e]
  refine max_eq_left (h.trans ?_)
  have h1 : (1 : EReal) ≤ (L : EReal) := by exact_mod_cast one_le_L
  calc q * k = (q * k) * 1 := (mul_one _).symm
    _ ≤ (q * k) * (L : EReal) := mul_le_mul_of_nonneg_left h1 (tiny_pos.le.trans h)

theorem sup_mul_L (s : Finset ℕ) (f : ℕ → EReal) : (s.sup fun r => f r * (L : EReal)) = s.sup f * (L : EReal) := by
  have hL : (0 : EReal) ≤ (L : EReal) := by exact_mod_cast L_pos.le
  have hm : Monotone fun x : EReal => x * (L : EReal) := fun a b h => mul_le_mul_of_nonneg_right h hL
  exact (Finset.comp_sup_eq_sup_comp (fun x : EReal => x * (L : EReal)) (fun a b => hm.map_sup a b) (EReal.bot_mul_coe_of_pos L_pos)).symm

theorem exp_nonneg (x : EReal) : 0 ≤ Ideal.exp x := by
  induction x with
  | bot => rw [exp_bot]
  | top => rw [exp_top]; exact le_top
  | coe r => rw [exp_coe]; exact_mod_cast (Real.exp_pos r).le

theorem mul_sum_nonneg (s : Finset ℕ) (c : EReal) (f : ℕ → EReal) (h : ∀ r, 0 ≤ f r) :
    (∑ r ∈ s, c * f r) = c * ∑ r ∈ s, f r := by
  classical
  induction s using Finset.induction_on with
  | empty => simp
  | insert a s ha ih =>
    rw [Finset.sum_insert ha, Finset.sum_insert ha, ih, EReal.left_distrib_of_nonneg (h a) (Finset.sum_nonneg fun r _ => h r)]

section Row

variable (S ks v : ℕ → EReal) (q : EReal) (t N : ℕ)

/-- The masked score at key `s`, as the reference scales it. -/
def y (s : ℕ) : EReal := if s ≤ t then S s * q * ks s else ⊥

/-- The masked score at key `s`, as the kernel scales it (in base two). -/
def x (s : ℕ) : EReal := (if s ≤ t then S s else ⊥) * max (ks s * (q * (L : EReal))) tiny

theorem x_eq (s : ℕ) (h : tiny ≤ q * ks s) : x S ks q t s = y S ks q t s * (L : EReal) := by
  unfold x y
  rw [coef_eq q (ks s) h]
  by_cases hs : s ≤ t
  · rw [if_pos hs, if_pos hs, mul_assoc (S s) q, ← mul_assoc (S s)]
  · have hc : 0 < q * ks s := tiny_pos.trans_le h
    have hL : (0 : EReal) < (L : EReal) := by exact_mod_cast L_pos
    rw [if_neg hs, if_neg hs, ← mul_assoc, EReal.bot_mul_of_pos hc]

/-- The kernel's row: maximum, exponentials, their sum, the weighted values, one quotient. -/
def M : EReal := (Finset.range N).sup (x S ks q t)
def e (s : ℕ) : EReal := Ideal.exp2 (x S ks q t s - (M S ks q t N - ((8 : ℝ) : EReal)))
def kernelRow (cap w : EReal) : EReal :=
  Ideal.div (∑ s ∈ Finset.range N, v s * min (e S ks q t N s) cap)
    ((∑ s ∈ Finset.range N, e S ks q t N s) * ((256⁻¹ : ℝ) : EReal)) * w

/-- The reference's row. -/
def p (K s : ℕ) : EReal := Ideal.exp (y S ks q t s - (Finset.range K).sup (y S ks q t))
def refRow (K : ℕ) (cap w : EReal) : EReal :=
  Ideal.div (∑ s ∈ Finset.range K, v s * min (p S ks q t K s * ((256 : ℝ) : EReal)) cap)
    (∑ s ∈ Finset.range K, p S ks q t K s) * w

theorem kernelRow_eq (K : ℕ) (cap w : EReal) (hcap : 0 ≤ cap) (hq : ∀ s, s < N → tiny ≤ q * ks s) (htN : t < N) (hNK : N ≤ K) :
    kernelRow S ks v q t N cap w = refRow S ks v q t K cap w := by
  have hbot : ∀ s, N ≤ s → y S ks q t s = ⊥ := fun s hs => if_neg (by omega)
  have hsup : (Finset.range K).sup (y S ks q t) = (Finset.range N).sup (y S ks q t) := by
    refine le_antisymm (Finset.sup_le fun s _ => ?_) (Finset.sup_mono (Finset.range_mono hNK))
    by_cases hs : s < N
    · exact Finset.le_sup (Finset.mem_range.mpr hs)
    · rw [hbot s (by omega)]; exact bot_le
  have hM : M S ks q t N = (Finset.range K).sup (y S ks q t) * (L : EReal) := by
    unfold M
    rw [hsup, ← sup_mul_L]
    exact Finset.sup_congr rfl fun s hs => x_eq S ks q t s (hq s (Finset.mem_range.mp hs))
  have he : ∀ s, s < N → e S ks q t N s = ((256 : ℝ) : EReal) * p S ks q t K s := fun s hs => by
    unfold e p
    rw [hM, x_eq S ks q t s (hq s hs), exp2_shift]
  have hp : ∀ s, N ≤ s → p S ks q t K s = 0 := fun s hs => by
    unfold p
    rw [hbot s hs, EReal.bot_sub]; rfl
  have hsub : Finset.range N ⊆ Finset.range K := Finset.range_mono hNK
  have h1 : (∑ s ∈ Finset.range N, e S ks q t N s) * ((256⁻¹ : ℝ) : EReal) = ∑ s ∈ Finset.range K, p S ks q t K s := by
    rw [Finset.sum_congr rfl fun s hs => he s (Finset.mem_range.mp hs), mul_sum_nonneg _ _ (p S ks q t K) fun s => exp_nonneg _,
      mul_comm, ← mul_assoc, ← EReal.coe_mul]
    rw [show ((256⁻¹ * 256 : ℝ)) = 1 by norm_num, EReal.coe_one, one_mul]
    exact Finset.sum_subset hsub fun s _ hs => hp s (by simpa using hs)
  have h2 : (∑ s ∈ Finset.range N, v s * min (e S ks q t N s) cap) = ∑ s ∈ Finset.range K, v s * min (p S ks q t K s * ((256 : ℝ) : EReal)) cap := by
    rw [Finset.sum_congr rfl fun s hs => by rw [he s (Finset.mem_range.mp hs), mul_comm ((256 : ℝ) : EReal)]]
    refine Finset.sum_subset hsub fun s _ hs => ?_
    rw [hp s (by simpa using hs), zero_mul, min_eq_left hcap, mul_zero]
  unfold kernelRow refRow
  rw [h1, h2]

end Row

/-- A sum over rows taken chunk by chunk, group by group, eight by eight. -/
theorem sum_range_mul (f : ℕ → EReal) (a b : ℕ) : ∑ r ∈ Finset.range (a * b), f r = ∑ c ∈ Finset.range a, ∑ r ∈ Finset.range b, f (c * b + r) := by
  induction a with
  | zero => simp
  | succ a ih => rw [Finset.sum_range_succ, ← ih, Nat.succ_mul, Finset.sum_range_add]

end Cert.Attn

end
-- ==== Proof.Model.lean ====
/- The arithmetic of one chunk of 512 keys for one of the four heads, as functions of the values the
   body has loaded: the running row maximum, the exponentials, their running sum, and the matrix of
   quantised probabilities; and how each reads at an index over the extended reals. -/
module

public import proofs.«01_k».proof.Proof.Gen.KernelIdeal
public import proofs.«01_k».proof.Proof.Gen.KernelIdeal.Skeleton
public import proofs.«01_k».proof.Proof.Math
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F] [Named F]

/-- One group of 64 keys enters the running maximum: the largest score of the group's rows that are
    equal modulo eight, times the group's coefficient. -/
def mstep (s : FVec F S512x512 .f32) (r0 c0 : ℕ) (h : S512x512.Slices ![r0, c0] S64x128) (q k : F .f32)
    (acc : FVec F S8x128 .f32) : FVec F S8x128 .f32 :=
  maximumf acc (mulf (multiReduction .maximumf [0] S8x128 (shapeCast S8x8x128 (extractStridedSlice S64x128 ![r0, c0] s h) shapeCasts_S64x128_S8x8x128)
      (4286578688#32) reduces_S8x8x128_S8x128 k0_pay2._proof_1 k0_pay5._proof_2)
    (broadcast S8x128 (Scalar.maximumf (Scalar.mulf k q) (FloatOps.ofBits FTy.f32 228737632#32))))

/-- The eight groups of a chunk. -/
def mhead (s : FVec F S512x512 .f32) (c0 : ℕ) (h0 : S512x512.Slices ![0, c0] S64x128) (h1 : S512x512.Slices ![64, c0] S64x128)
    (h2 : S512x512.Slices ![128, c0] S64x128) (h3 : S512x512.Slices ![192, c0] S64x128) (h4 : S512x512.Slices ![256, c0] S64x128)
    (h5 : S512x512.Slices ![320, c0] S64x128) (h6 : S512x512.Slices ![384, c0] S64x128) (h7 : S512x512.Slices ![448, c0] S64x128)
    (q : F .f32) (k : Fin 8 → F .f32) (acc : FVec F S8x128 .f32) : FVec F S8x128 .f32 :=
  mstep s 448 c0 h7 q (k 7) (mstep s 384 c0 h6 q (k 6) (mstep s 320 c0 h5 q (k 5) (mstep s 256 c0 h4 q (k 4)
    (mstep s 192 c0 h3 q (k 3) (mstep s 128 c0 h2 q (k 2) (mstep s 64 c0 h1 q (k 1) (mstep s 0 c0 h0 q (k 0) acc)))))))

/-- The exponentials of one group of 64 keys. -/
def estep (t : FVec F S64x128 .f32) (q k : F .f32) (mb : FVec F S1x128 .f32) : FVec F S64x128 .f32 :=
  exp2 (subf (mulf t (broadcast S64x128 (Scalar.maximumf (Scalar.mulf k q) (FloatOps.ofBits FTy.f32 228737632#32))))
    (broadcastTo S64x128 mb broadcasts_S1x128_S64x128))

/-- They enter the running sum. -/
def lstep (e : FVec F S64x128 .f32) (acc : FVec F S8x128 .f32) : FVec F S8x128 .f32 :=
  addf acc (multiReduction .add [0] S8x128 (shapeCast S8x8x128 e shapeCasts_S64x128_S8x8x128) (0#32) reduces_S8x8x128_S8x128 k0_pay2._proof_1 k0_pay2._proof_2)

def lhead (t : Fin 8 → FVec F S64x128 .f32) (q : F .f32) (k : Fin 8 → F .f32) (mb : FVec F S1x128 .f32) (acc : FVec F S8x128 .f32) : FVec F S8x128 .f32 :=
  lstep (estep (t 7) q (k 7) mb) (lstep (estep (t 6) q (k 6) mb) (lstep (estep (t 5) q (k 5) mb) (lstep (estep (t 4) q (k 4) mb)
    (lstep (estep (t 3) q (k 3) mb) (lstep (estep (t 2) q (k 2) mb) (lstep (estep (t 1) q (k 1) mb) (lstep (estep (t 0) q (k 0) mb) acc)))))))

/-- The quantised probabilities of one group. -/
def pstep (e : FVec F S64x128 .f32) : FVec F S64x128 .fp8e4m3 :=
  truncf FTy.fp8e4m3 (minimumf e (broadcast S64x128 (FloatOps.ofBits FTy.f32 1138753536#32))) bitsLt_fp8e4m3_f32

def phead (t : Fin 8 → FVec F S64x128 .f32) (q : F .f32) (k : Fin 8 → F .f32) (mb : FVec F S1x128 .f32) : FVec F S512x128 .fp8e4m3 :=
  concatenate S512x128 0 [⟨S64x128, pstep (estep (t 0) q (k 0) mb)⟩, ⟨S64x128, pstep (estep (t 1) q (k 1) mb)⟩, ⟨S64x128, pstep (estep (t 2) q (k 2) mb)⟩,
    ⟨S64x128, pstep (estep (t 3) q (k 3) mb)⟩, ⟨S64x128, pstep (estep (t 4) q (k 4) mb)⟩, ⟨S64x128, pstep (estep (t 5) q (k 5) mb)⟩,
    ⟨S64x128, pstep (estep (t 6) q (k 6) mb)⟩, ⟨S64x128, pstep (estep (t 7) q (k 7) mb)⟩]
    concatenates_S64x128_S64x128_S64x128_S64x128_S64x128_S64x128_S64x128_S64x128_S512x128_d0

/-- The four heads side by side. -/
def pall (p0 p1 p2 p3 : FVec F S512x128 .fp8e4m3) : FVec F S512x512 .fp8e4m3 :=
  concatenate S512x512 1 [⟨S512x128, p0⟩, ⟨S512x128, p1⟩, ⟨S512x128, p2⟩, ⟨S512x128, p3⟩] concatenates_S512x128_S512x128_S512x128_S512x128_S512x512_d1

/-- The floored coefficient of a group. -/
def cf (q k : EReal) : EReal := max (k * q) Cert.Attn.tiny

theorem cf_pos (q k : EReal) : 0 < cf q k := lt_max_of_lt_right Cert.Attn.tiny_pos

/-- A positive factor goes through a maximum. -/
theorem fold_mul_le (c x : EReal) (hc : 0 < c) (f : Fin 8 → EReal) :
    (Finset.univ.fold max (⊥ : EReal) f) * c ≤ x ↔ ∀ g, f g * c ≤ x := by
  have hm : Monotone fun y : EReal => y * c := fun a b h => mul_le_mul_of_nonneg_right h hc.le
  have h := Finset.comp_sup_eq_sup_comp (s := (Finset.univ : Finset (Fin 8))) (f := f) (fun y : EReal => y * c) (fun a b => hm.map_sup a b) (EReal.bot_mul_of_pos hc)
  have hf : Finset.univ.fold max (⊥ : EReal) f = Finset.univ.sup f := rfl
  rw [hf, h, Finset.sup_le_iff]
  simp

theorem mstep_le (s : FVec Ideal S512x512 .f32) (r0 c0 : ℕ) (h : S512x512.Slices ![r0, c0] S64x128) (q k : Ideal .f32)
    (acc : FVec Ideal S8x128 .f32) (hr : r0 + 64 ≤ 512) (hc : c0 + 128 ≤ 512) (a : Fin 8) (b : Fin 128) (x : EReal) :
    mstep s r0 c0 h q k acc (ix2 a b) ≤ x ↔ acc (ix2 a b) ≤ x ∧
      ∀ g : Fin 8, s (ix2 (⟨r0 + (g.val * 8 + a.val), by omega⟩ : Fin 512) (⟨c0 + b.val, by omega⟩ : Fin 512)) * cf q k ≤ x := by
  have e : mstep s r0 c0 h q k acc (ix2 a b) = max (acc (ix2 a b)) ((Finset.univ.fold max (⊥ : EReal) fun g : Fin 8 =>
      s (ix2 (⟨r0 + (g.val * 8 + a.val), by omega⟩ : Fin 512) (⟨c0 + b.val, by omega⟩ : Fin 512))) * cf q k) := by
    pointwise [mstep, cf, Cert.Attn.tiny, Cert.Attn.bits_ninf]
  rw [e, max_le_iff, fold_mul_le _ _ (cf_pos q k)]

theorem estep_apply (t : FVec Ideal S64x128 .f32) (q k : Ideal .f32) (mb : FVec Ideal S1x128 .f32) (a : Fin 64) (b : Fin 128) :
    estep t q k mb (ix2 a b) = Ideal.exp2 (t (ix2 a b) * cf q k - mb (ix2 0 b)) := by
  pointwise [estep, cf, Cert.Attn.tiny]
  rfl

theorem lstep_apply (e : FVec Ideal S64x128 .f32) (acc : FVec Ideal S8x128 .f32) (a : Fin 8) (b : Fin 128) :
    lstep e acc (ix2 a b) = acc (ix2 a b) + ∑ g : Fin 8, e (ix2 (⟨g.val * 8 + a.val, by omega⟩ : Fin 64) b) := by
  pointwise [lstep]

theorem phead_apply (t : Fin 8 → FVec Ideal S64x128 .f32) (q : Ideal .f32) (k : Fin 8 → Ideal .f32) (mb : FVec Ideal S1x128 .f32) (g : Fin 8) (a : Fin 64) (b : Fin 128) :
    phead t q k mb (ix2 (⟨g.val * 64 + a.val, by omega⟩ : Fin 512) b) = min (estep (t g) q (k g) mb (ix2 a b)) (Ideal.ofBits .f32 1138753536#32) := by
  fin_cases g
  · pointwise [phead, pstep]
  · pointwise [phead, pstep]
  · pointwise [phead, pstep]
    rw [dif_neg (by omega), dif_neg (by omega), dif_pos (by omega)]
    exact congrArg (fun z : Fin 64 => min (estep (t 2) q (k 2) mb (ix2 z b)) (Ideal.ofBits .f32 1138753536#32)) (Fin.ext (by show _ = a.val; simp only []; omega))
  · pointwise [phead, pstep]
    rw [dif_neg (by omega), dif_neg (by omega), dif_neg (by omega), dif_pos (by omega)]
    exact congrArg (fun z : Fin 64 => min (estep (t 3) q (k 3) mb (ix2 z b)) (Ideal.ofBits .f32 1138753536#32)) (Fin.ext (by show _ = a.val; simp only []; omega))
  · pointwise [phead, pstep]
    rw [dif_neg (by omega), dif_neg (by omega), dif_neg (by omega), dif_neg (by omega), dif_pos (by omega)]
    exact congrArg (fun z : Fin 64 => min (estep (t 4) q (k 4) mb (ix2 z b)) (Ideal.ofBits .f32 1138753536#32)) (Fin.ext (by show _ = a.val; simp only []; omega))
  · pointwise [phead, pstep]
    rw [dif_neg (by omega), dif_neg (by omega), dif_neg (by omega), dif_neg (by omega), dif_neg (by omega), dif_pos (by omega)]
    exact congrArg (fun z : Fin 64 => min (estep (t 5) q (k 5) mb (ix2 z b)) (Ideal.ofBits .f32 1138753536#32)) (Fin.ext (by show _ = a.val; simp only []; omega))
  · pointwise [phead, pstep]
    rw [dif_neg (by omega), dif_neg (by omega), dif_neg (by omega), dif_neg (by omega), dif_neg (by omega), dif_neg (by omega), dif_pos (by omega)]
    exact congrArg (fun z : Fin 64 => min (estep (t 6) q (k 6) mb (ix2 z b)) (Ideal.ofBits .f32 1138753536#32)) (Fin.ext (by show _ = a.val; simp only []; omega))
  · pointwise [phead, pstep]
    rw [dif_neg (by omega), dif_neg (by omega), dif_neg (by omega), dif_neg (by omega), dif_neg (by omega), dif_neg (by omega), dif_neg (by omega)]
    exact congrArg (fun z : Fin 64 => min (estep (t 7) q (k 7) mb (ix2 z b)) (Ideal.ofBits .f32 1138753536#32)) (Fin.ext (by show _ = a.val; simp only []; omega))

/-- A chunk enters the running maximum: it bounds what it bounded, and every scaled score of the chunk's rows. -/
theorem mhead_le (s : FVec Ideal S512x512 .f32) (c0 : ℕ) (h0 : S512x512.Slices ![0, c0] S64x128) (h1 : S512x512.Slices ![64, c0] S64x128)
    (h2 : S512x512.Slices ![128, c0] S64x128) (h3 : S512x512.Slices ![192, c0] S64x128) (h4 : S512x512.Slices ![256, c0] S64x128)
    (h5 : S512x512.Slices ![320, c0] S64x128) (h6 : S512x512.Slices ![384, c0] S64x128) (h7 : S512x512.Slices ![448, c0] S64x128)
    (q : Ideal .f32) (k : Fin 8 → Ideal .f32) (acc : FVec Ideal S8x128 .f32) (hc : c0 + 128 ≤ 512) (a : Fin 8) (b : Fin 128) (x : EReal)
    (X : ℕ → EReal) (base : ℕ)
    (hX : ∀ (r : Fin 512) (gi : Fin 8), r.val / 64 = gi.val → s (ix2 r (⟨c0 + b.val, by omega⟩ : Fin 512)) * cf q (k gi) = X (base + r.val)) :
    mhead s c0 h0 h1 h2 h3 h4 h5 h6 h7 q k acc (ix2 a b) ≤ x ↔ acc (ix2 a b) ≤ x ∧
      ∀ gi g : Fin 8, X (base + (64 * gi.val + (g.val * 8 + a.val))) ≤ x := by
  have key : ∀ gi g : Fin 8, s (ix2 (⟨64 * gi.val + (g.val * 8 + a.val), by omega⟩ : Fin 512) (⟨c0 + b.val, by omega⟩ : Fin 512)) * cf q (k gi)
      = X (base + (64 * gi.val + (g.val * 8 + a.val))) := fun gi g => hX ⟨64 * gi.val + (g.val * 8 + a.val), by omega⟩ gi (by simp only []; omega)
  unfold mhead
  rw [mstep_le _ 448 c0 h7 q (k 7) _ (by omega) hc, mstep_le _ 384 c0 h6 q (k 6) _ (by omega) hc, mstep_le _ 320 c0 h5 q (k 5) _ (by omega) hc, mstep_le _ 256 c0 h4 q (k 4) _ (by omega) hc, mstep_le _ 192 c0 h3 q (k 3) _ (by omega) hc, mstep_le _ 128 c0 h2 q (k 2) _ (by omega) hc, mstep_le _ 64 c0 h1 q (k 1) _ (by omega) hc, mstep_le _ 0 c0 h0 q (k 0) _ (by omega) hc]
  constructor
  · rintro ⟨⟨⟨⟨⟨⟨⟨⟨h, a0⟩, a1⟩, a2⟩, a3⟩, a4⟩, a5⟩, a6⟩, a7⟩
    refine ⟨h, fun gi g => ?_⟩
    rw [← key]
    fin_cases gi
    exacts [a0 g, a1 g, a2 g, a3 g, a4 g, a5 g, a6 g, a7 g]
  · rintro ⟨h, H⟩
    exact ⟨⟨⟨⟨⟨⟨⟨⟨h, fun g => (key 0 g).le.trans (H 0 g)⟩, fun g => (key 1 g).le.trans (H 1 g)⟩, fun g => (key 2 g).le.trans (H 2 g)⟩,
      fun g => (key 3 g).le.trans (H 3 g)⟩, fun g => (key 4 g).le.trans (H 4 g)⟩, fun g => (key 5 g).le.trans (H 5 g)⟩,
      fun g => (key 6 g).le.trans (H 6 g)⟩, fun g => (key 7 g).le.trans (H 7 g)⟩

/-- A chunk enters the running sum. -/
theorem lhead_apply (t : Fin 8 → FVec Ideal S64x128 .f32) (q : Ideal .f32) (k : Fin 8 → Ideal .f32) (mb : FVec Ideal S1x128 .f32)
    (acc : FVec Ideal S8x128 .f32) (a : Fin 8) (b : Fin 128) (E : ℕ → EReal) (base : ℕ)
    (hE : ∀ (gi : Fin 8) (r : Fin 64), Ideal.exp2 (t gi (ix2 r b) * cf q (k gi) - mb (ix2 0 b)) = E (base + (64 * gi.val + r.val))) :
    lhead t q k mb acc (ix2 a b) = acc (ix2 a b) + ∑ gi : Fin 8, ∑ g : Fin 8, E (base + (64 * gi.val + (g.val * 8 + a.val))) := by
  unfold lhead
  simp only [lstep_apply, estep_apply, hE]
  rw [Fin.sum_univ_eight (fun gi : Fin 8 => ∑ g : Fin 8, E (base + (64 * gi.val + (g.val * 8 + a.val))))]
  simp only [add_assoc]

theorem phead_row (t : Fin 8 → FVec Ideal S64x128 .f32) (q : Ideal .f32) (k : Fin 8 → Ideal .f32) (mb : FVec Ideal S1x128 .f32) (r : Fin 512) (b : Fin 128)
    (E : ℕ → EReal) (base : ℕ)
    (hE : ∀ (gi : Fin 8) (r : Fin 64), Ideal.exp2 (t gi (ix2 r b) * cf q (k gi) - mb (ix2 0 b)) = E (base + (64 * gi.val + r.val))) :
    phead t q k mb (ix2 r b) = min (E (base + r.val)) (Ideal.ofBits .f32 1138753536#32) := by
  have e : r = (⟨(⟨r.val / 64, by omega⟩ : Fin 8).val * 64 + (⟨r.val % 64, by omega⟩ : Fin 64).val, by simp only []; omega⟩ : Fin 512) := Fin.ext (by simp only []; omega)
  have h := phead_apply t q k mb ⟨r.val / 64, by omega⟩ ⟨r.val % 64, by omega⟩ b
  rw [← e] at h
  rw [h, estep_apply, hE]
  have e2 : 64 * (r.val / 64) + r.val % 64 = r.val := by omega
  simp only [e2]

theorem pall_apply (p : Fin 4 → FVec Ideal S512x128 .fp8e4m3) (n : Fin 4) (r : Fin 512) (b : Fin 128) :
    pall (p 0) (p 1) (p 2) (p 3) (ix2 r (⟨128 * n.val + b.val, by omega⟩ : Fin 512)) = p n (ix2 r b) := by
  fin_cases n
  · pointwise [pall]
  · pointwise [pall]
  · pointwise [pall]
    rw [dif_neg (by omega), dif_neg (by omega), dif_pos (by omega)]
    exact congrArg (fun z => p 2 (ix2 r z)) (Fin.ext (by simp only []; omega))
  · pointwise [pall]
    rw [dif_neg (by omega), dif_neg (by omega), dif_neg (by omega)]
    exact congrArg (fun z => p 3 (ix2 r z)) (Fin.ext (by simp only []; omega))

/-- The values accumulate one chunk's products. -/
theorem oacc_apply (P : FVec Ideal S512x512 .fp8e4m3) (o : FVec Ideal S128x512 .f32) (v : FVec Ideal S128x512 .fp8e4m3) (d : Fin 128) (j : Fin 512) :
    k0_pay283 P o v (ix2 d j) = o (ix2 d j) + ∑ r : Fin 512, v (ix2 d r) * P (ix2 r j) := by
  pointwise [k0_pay283]

/-- The four heads' query codes, one under another. -/
theorem qt_apply (v : Vec Ideal S128x512 .i8) (n : Fin 4) (b d : Fin 128) :
    k0_pay236 (F := Ideal) v (ix2 (⟨128 * n.val + b.val, by omega⟩ : Fin 512) d) = (((v (ix2 b (⟨128 * n.val + d.val, by omega⟩ : Fin 512)) : BitVec 8).toInt : ℝ) : EReal) := by
  fin_cases n
  · pointwise [k0_pay236]
    rfl
  · pointwise [k0_pay236]
    rfl
  · pointwise [k0_pay236]
    rw [dif_neg (by omega), dif_neg (by omega), dif_pos (by omega)]
    exact congrArg (fun z => (((v (ix2 z (⟨256 + d.val, by omega⟩ : Fin 512)) : BitVec 8).toInt : ℝ) : EReal)) (Fin.ext (by simp only []; omega))
  · pointwise [k0_pay236]
    rw [dif_neg (by omega), dif_neg (by omega), dif_neg (by omega)]
    exact congrArg (fun z => (((v (ix2 z (⟨384 + d.val, by omega⟩ : Fin 512)) : BitVec 8).toInt : ℝ) : EReal)) (Fin.ext (by simp only []; omega))

/-- The scores of a chunk. -/
theorem score_apply (q k : FVec Ideal S512x128 .bf16) (r j : Fin 512) :
    k0_pay3 q k (ix2 r j) = ∑ d : Fin 128, k (ix2 r d) * q (ix2 j d) := by
  pointwise [k0_pay3]

/-- The row maximum, moved down by eight. -/
theorem mb_apply (v : FVec Ideal S8x128 .f32) (b : Fin 128) :
    k0_pay274 v (ix2 0 b) = (Finset.univ.sup fun a : Fin 8 => v (ix2 a b)) - ((8 : ℝ) : EReal) := by
  pointwise [k0_pay274, Cert.Attn.bits_ninf, Cert.Attn.bits_8]
  rfl

/-- One head's part of the output block. -/
def outb (l : FVec F S8x128 .f32) (o : FVec F S128x128 .f32) (w : FVec F S1x128 .f32) : FVec F S128x128 .bf16 :=
  truncf FTy.bf16 (mulf (transpose S128x128 [1, 0] (divf o (broadcastTo S128x128 (mulf (shapeCast S1x128
    (multiReduction .add [0] S128 l (0#32) reduces_S8x128_S128 k0_pay2._proof_1 k0_pay2._proof_2) shapeCasts_S128_S1x128)
      (broadcast S1x128 (FloatOps.ofBits FTy.f32 998244352#32))) broadcasts_S1x128_S128x128)) transposes_S128x128_p1_0_S128x128)
    (broadcastTo S128x128 w broadcasts_S1x128_S128x128)) bitsLt_bf16_f32

theorem outb_apply (l : FVec Ideal S8x128 .f32) (o : FVec Ideal S128x128 .f32) (w : FVec Ideal S1x128 .f32) (r d : Fin 128) :
    outb l o w (ix2 r d) = Ideal.div (o (ix2 d r)) ((∑ a : Fin 8, l (ix2 a r)) * ((256⁻¹ : ℝ) : EReal)) * w (ix2 0 d) := by
  pointwise [outb, Cert.Attn.bits_inv256]

theorem w_apply (v : FVec Ideal S1x1x128 .f32) (d : Fin 128) :
    k0_pay285 (F := Ideal) v (ix2 0 d) = ((256⁻¹ : ℝ) : EReal) * v (ix3 0 0 d) := by
  pointwise [k0_pay285, Cert.Attn.bits_inv256]

end Cert.KernelIdeal.Body

end
-- ==== Proof.TripI.lean ====
/- What one grid point of the attention kernel stores, as a function of what it is given: the two loops'
   trips and the straight line around them, in terms of the chunk arithmetic of `Model`. -/
module

public import proofs.«01_k».proof.Proof.BodyI
public import proofs.«01_k».proof.Proof.Model

@[expose] public section

set_option maxRecDepth 65536

noncomputable section

namespace Cert.KernelIdeal.Body

open Cert.KernelIdeal Cert.KernelIdeal.Gen
open Idealize.ShloMosaic Idealize.ShloMosaic.TcCoe Idealize.ShloMosaic.Tactic

variable {F : FTy → Type} [FloatOps F] [Named F]

/-- Eight scalars of the key scales. -/
def ksa (arg3 : Memref sig .tc .smem S8x256 .f32) (X3 : BufTy.Contents (Elt F) arg3.view.ty) (off : Fin 8 → Fin 2 → ℕ)
    (inb : ∀ (r : Fin 8) a, off r a + S1x1.size a ≤ S8x256.size a) (r : Fin 8) : F .f32 :=
  View.readAt (Elt F) arg3.view (Rect.unit (s := S8x256) (off r) S1x1.size (inb r)).toLoadRect X3 (Shape.Idx.first (by show 0 < S1x1.numel; rw [numel1_S1x1]; exact Nat.one_pos))

/-- Eight groups of 64 rows of the stored scores. -/
def tga (arg11 : Memref sig .tc .vmem S16384x512 .f32) (X11 : BufTy.Contents (Elt F) arg11.view.ty) (off : Fin 8 → Fin 2 → ℕ)
    (inb : ∀ (r : Fin 8) a, off r a + S64x128.size a ≤ S16384x512.size a) (r : Fin 8) : FVec F S64x128 .f32 :=
  View.readAt (Elt F) arg11.view (Rect.unit (s := S16384x512) (off r) S64x128.size (inb r)).toLoadRect X11

/-- The scores of 512 rows of the key scratch. -/
def sca (arg10 : Memref sig .tc .vmem S16384x128 .bf16) (X10 : BufTy.Contents (Elt F) arg10.view.ty) (q : FVec F S512x128 .bf16) (off : Fin 2 → ℕ)
    (inb : ∀ a, off a + S512x128.size a ≤ S16384x128.size a) : FVec F S512x512 .f32 :=
  k0_pay3 q (View.readAt (Elt F) arg10.view (Rect.unit (s := S16384x128) off S512x128.size inb).toLoadRect X10)

/-- One trip of the score loop: the four running maxima. -/
theorem trip2R (𝒱 : Variants) (c : Dev nD) (bd : Option 𝒱.V) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (arg0 arg1 : BitVec 32) (v14 : FVec F S512x128 .bf16) (q0 q1 q2 q3 : F .f32) (v35 c512 v36 : BitVec 32) (v37 : BitVec 1) (X3 : BufTy.Contents (Elt F) arg3.view.ty) (X10 : BufTy.Contents (Elt F) arg10.view.ty) (k : Fin (k0_t2_loop i).trips) (acc : FVec F S8x128 .f32 × FVec F S8x128 .f32 × FVec F S8x128 .f32 × FVec F S8x128 .f32) :
    tripR_k0_t2 𝒱 c bd i arg3 harg3 arg4 harg4 arg5 harg5 arg6 harg6 arg7 harg7 arg8 harg8 arg9 harg9 arg10 harg10 arg11 harg11 arg12 harg12 arg0 arg1 v14 q0 q1 q2 q3 v35 c512 v36 v37 X3 X10 k acc
      = (mhead (sca arg10 X10 v14 (k0_off3 i k) (k0_off3_inb i k)) 0 slices_S512x512_o0_0_S64x128 slices_S512x512_o64_0_S64x128 slices_S512x512_o128_0_S64x128 slices_S512x512_o192_0_S64x128 slices_S512x512_o256_0_S64x128 slices_S512x512_o320_0_S64x128 slices_S512x512_o384_0_S64x128 slices_S512x512_o448_0_S64x128 q0 (ksa arg3 X3 (fun r => k0_off5 i k (BitVec.ofNat 32 r.val)) (k0_off5_inb i k)) acc.1, mhead (sca arg10 X10 v14 (k0_off3 i k) (k0_off3_inb i k)) 128 slices_S512x512_o0_128_S64x128 slices_S512x512_o64_128_S64x128 slices_S512x512_o128_128_S64x128 slices_S512x512_o192_128_S64x128 slices_S512x512_o256_128_S64x128 slices_S512x512_o320_128_S64x128 slices_S512x512_o384_128_S64x128 slices_S512x512_o448_128_S64x128 q1 (ksa arg3 X3 (fun r => k0_off5 i k (BitVec.ofNat 32 r.val)) (k0_off5_inb i k)) acc.2.1, mhead (sca arg10 X10 v14 (k0_off3 i k) (k0_off3_inb i k)) 256 slices_S512x512_o0_256_S64x128 slices_S512x512_o64_256_S64x128 slices_S512x512_o128_256_S64x128 slices_S512x512_o192_256_S64x128 slices_S512x512_o256_256_S64x128 slices_S512x512_o320_256_S64x128 slices_S512x512_o384_256_S64x128 slices_S512x512_o448_256_S64x128 q2 (ksa arg3 X3 (fun r => k0_off5 i k (BitVec.ofNat 32 r.val)) (k0_off5_inb i k)) acc.2.2.1, mhead (sca arg10 X10 v14 (k0_off3 i k) (k0_off3_inb i k)) 384 slices_S512x512_o0_384_S64x128 slices_S512x512_o64_384_S64x128 slices_S512x512_o128_384_S64x128 slices_S512x512_o192_384_S64x128 slices_S512x512_o256_384_S64x128 slices_S512x512_o320_384_S64x128 slices_S512x512_o384_384_S64x128 slices_S512x512_o448_384_S64x128 q3 (ksa arg3 X3 (fun r => k0_off5 i k (BitVec.ofNat 32 r.val)) (k0_off5_inb i k)) acc.2.2.2) := by
  unfold tripR_k0_t2 trip_k0_t2
  rfl

/-- One trip of the score loop: the scores it stores. -/
theorem trip2L (𝒱 : Variants) (c : Dev nD) (bd : Option 𝒱.V) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (arg0 arg1 : BitVec 32) (v14 : FVec F S512x128 .bf16) (q0 q1 q2 q3 : F .f32) (v35 c512 v36 : BitVec 32) (v37 : BitVec 1) (X3 : BufTy.Contents (Elt F) arg3.view.ty) (X10 : BufTy.Contents (Elt F) arg10.view.ty) (k : Fin (k0_t2_loop i).trips) (acc : FVec F S8x128 .f32 × FVec F S8x128 .f32 × FVec F S8x128 .f32 × FVec F S8x128 .f32) :
    tripL_k0_t2 𝒱 c bd i arg3 harg3 arg4 harg4 arg5 harg5 arg6 harg6 arg7 harg7 arg8 harg8 arg9 harg9 arg10 harg10 arg11 harg11 arg12 harg12 arg0 arg1 v14 q0 q1 q2 q3 v35 c512 v36 v37 X3 X10 k acc
      = [⟨Rect.unit (k0_off4 i k) S512x512.size (k0_off4_inb i k), shapeCast S512x512 (sca arg10 X10 v14 (k0_off3 i k) (k0_off3_inb i k)) shapeCasts_S512x512_S512x512⟩] := by
  unfold tripL_k0_t2 trip_k0_t2
  rfl

/-- One trip of the value loop: the four running sums. -/
theorem trip4R (𝒱 : Variants) (c : Dev nD) (bd : Option 𝒱.V) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (arg0 : BitVec 32) (q0 q1 q2 q3 : F .f32) (v53 : BitVec 32) (mb0 mb1 mb2 mb3 : FVec F S1x128 .f32) (l0 l1 l2 l3 : FVec F S8x128 .f32) (X3 : BufTy.Contents (Elt F) arg3.view.ty) (X7 : BufTy.Contents (Elt F) arg7.view.ty) (X11 : BufTy.Contents (Elt F) arg11.view.ty) (k : Fin (k0_t4_loop i).trips) (acc : FVec F S8x128 .f32 × FVec F S8x128 .f32 × FVec F S8x128 .f32 × FVec F S8x128 .f32) (f12 : BufTy.Contents (Elt F) arg12.view.ty) :
    tripR_k0_t4 𝒱 c bd i arg3 harg3 arg4 harg4 arg5 harg5 arg6 harg6 arg7 harg7 arg8 harg8 arg9 harg9 arg10 harg10 arg11 harg11 arg12 harg12 arg0 q0 q1 q2 q3 v53 mb0 mb1 mb2 mb3 l0 l1 l2 l3 X3 X7 X11 k acc f12
      = (lhead (tga arg11 X11 (fun r => k0_off12 i k (BitVec.ofNat 32 (64 * r.val))) (k0_off12_inb i k)) q0 (ksa arg3 X3 (fun r => k0_off13 i k (BitVec.ofNat 32 r.val)) (k0_off13_inb i k)) mb0 acc.1, lhead (tga arg11 X11 (fun r => k0_off14 i k (BitVec.ofNat 32 (64 * r.val))) (k0_off14_inb i k)) q1 (ksa arg3 X3 (fun r => k0_off13 i k (BitVec.ofNat 32 r.val)) (k0_off13_inb i k)) mb1 acc.2.1, lhead (tga arg11 X11 (fun r => k0_off15 i k (BitVec.ofNat 32 (64 * r.val))) (k0_off15_inb i k)) q2 (ksa arg3 X3 (fun r => k0_off13 i k (BitVec.ofNat 32 r.val)) (k0_off13_inb i k)) mb2 acc.2.2.1, lhead (tga arg11 X11 (fun r => k0_off16 i k (BitVec.ofNat 32 (64 * r.val))) (k0_off16_inb i k)) q3 (ksa arg3 X3 (fun r => k0_off13 i k (BitVec.ofNat 32 r.val)) (k0_off13_inb i k)) mb3 acc.2.2.2) := by
  unfold tripR_k0_t4 trip_k0_t4
  rfl

/-- One trip of the value loop: the accumulator it stores. -/
theorem trip4L (𝒱 : Variants) (c : Dev nD) (bd : Option 𝒱.V) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (arg0 : BitVec 32) (q0 q1 q2 q3 : F .f32) (v53 : BitVec 32) (mb0 mb1 mb2 mb3 : FVec F S1x128 .f32) (l0 l1 l2 l3 : FVec F S8x128 .f32) (X3 : BufTy.Contents (Elt F) arg3.view.ty) (X7 : BufTy.Contents (Elt F) arg7.view.ty) (X11 : BufTy.Contents (Elt F) arg11.view.ty) (k : Fin (k0_t4_loop i).trips) (acc : FVec F S8x128 .f32 × FVec F S8x128 .f32 × FVec F S8x128 .f32 × FVec F S8x128 .f32) (f12 : BufTy.Contents (Elt F) arg12.view.ty) :
    tripL_k0_t4 𝒱 c bd i arg3 harg3 arg4 harg4 arg5 harg5 arg6 harg6 arg7 harg7 arg8 harg8 arg9 harg9 arg10 harg10 arg11 harg11 arg12 harg12 arg0 q0 q1 q2 q3 v53 mb0 mb1 mb2 mb3 l0 l1 l2 l3 X3 X7 X11 k acc f12
      = [⟨Rect.unit ![0, 0] S128x512.size inb_S128x512_S128x512_0_0, k0_pay283 (pall (phead (tga arg11 X11 (fun r => k0_off12 i k (BitVec.ofNat 32 (64 * r.val))) (k0_off12_inb i k)) q0 (ksa arg3 X3 (fun r => k0_off13 i k (BitVec.ofNat 32 r.val)) (k0_off13_inb i k)) mb0) (phead (tga arg11 X11 (fun r => k0_off14 i k (BitVec.ofNat 32 (64 * r.val))) (k0_off14_inb i k)) q1 (ksa arg3 X3 (fun r => k0_off13 i k (BitVec.ofNat 32 r.val)) (k0_off13_inb i k)) mb1) (phead (tga arg11 X11 (fun r => k0_off15 i k (BitVec.ofNat 32 (64 * r.val))) (k0_off15_inb i k)) q2 (ksa arg3 X3 (fun r => k0_off13 i k (BitVec.ofNat 32 r.val)) (k0_off13_inb i k)) mb2) (phead (tga arg11 X11 (fun r => k0_off16 i k (BitVec.ofNat 32 (64 * r.val))) (k0_off16_inb i k)) q3 (ksa arg3 X3 (fun r => k0_off13 i k (BitVec.ofNat 32 r.val)) (k0_off13_inb i k)) mb3))
          (View.readAt (Elt F) arg12.view (Rect.unit ![0, 0] S128x512.size inb_S128x512_S128x512_0_0).toLoadRect f12)
          (View.readAt (Elt F) arg7.view (Rect.unit (s := S128x16384) (k0_off17 i k) S128x512.size (k0_off17_inb i k)).toLoadRect X7)⟩] := by
  unfold tripL_k0_t4 trip_k0_t4
  rfl

end Cert.KernelIdeal.Body

end
-- ==== Proof.PointI.lean ====
/- What one grid point of the attention kernel stores, as a function of what it is given: the two loops'
   trips and the straight line around them, in terms of the chunk arithmetic of `Model`. -/
module

public import proofs.«01_k».proof.Proof.BodyI
public import proofs.«01_k».proof.Proof.TripI
public import proofs.«01_k».proof.Proof.Model

@[expose] public section

set_option maxRecDepth 65536

noncomputable section

namespace Cert.KernelIdeal.Body

open Cert.KernelIdeal Cert.KernelIdeal.Gen
open Idealize.ShloMosaic Idealize.ShloMosaic.TcCoe Idealize.ShloMosaic.Tactic

variable {F : FTy → Type} [FloatOps F] [Named F]

/-- The scaled query codes of the four heads. -/
def pqt (arg5 : Memref sig .tc .vmem S128x512 .i8) (X5 : BufTy.Contents (Elt F) arg5.view.ty) : FVec F S512x128 .bf16 :=
  k0_pay236 (View.readAt (Elt F) arg5.view (Rect.unit ![0, 0] S128x512.size inb_S128x512_S128x512_0_0).toLoadRect X5)

/-- A head's query scale, times log₂ e. -/
def pq (i : grid0.Coords) (arg4 : Memref sig .tc .smem S128x64 .f32) (X4 : BufTy.Contents (Elt F) arg4.view.ty) (n : Fin 4) : F .f32 :=
  k0_pay237 (View.readAt (Elt F) arg4.view (Rect.unit (s := S128x64) (k0_off2 i (BitVec.ofNat 32 n.val)) S1x1.size (k0_off2_inb i n)).toLoadRect X4 (Shape.Idx.first (by show 0 < S1x1.numel; rw [numel1_S1x1]; exact Nat.one_pos)))

/-- The last chunk's scores, masked. -/
def psm (i : grid0.Coords) (arg5 : Memref sig .tc .vmem S128x512 .i8) (arg10 : Memref sig .tc .vmem S16384x128 .bf16)
    (X5 : BufTy.Contents (Elt F) arg5.view.ty) (X10 : BufTy.Contents (Elt F) arg10.view.ty) : FVec F S512x512 .f32 :=
  select (cmpi .sle (addi (broadcast S512x512 (k0_mult4 i)) (iota .tc S512x512 32 [0] (by decide)))
      (addi (broadcast S512x512 (Scalar.muli (BitVec.ofNat 32 (i 1).val) 128#32)) (andi (iota .tc S512x512 32 [1] (by decide)) (broadcast S512x512 127#32))))
    (sca arg10 X10 (pqt arg5 X5) (k0_off9 i) (k0_off9_inb i)) (broadcast S512x512 (FloatOps.ofBits FTy.f32 4286578688#32))

/-- The score loop's state before trip `k`. -/
abbrev pS2 (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X10 : BufTy.Contents (Elt F) arg10.view.ty) (f11 : BufTy.Contents (Elt F) arg11.view.ty) (k : ℕ) :=
  st_k0_t2 (F := F) Variants.none c none i arg3 harg3 arg4 harg4 arg5 harg5 arg6 harg6 arg7 harg7 arg8 harg8 arg9 harg9 arg10 harg10 arg11 harg11 arg12 harg12 (BitVec.ofNat 32 (i 0).val) (0#32) (pqt arg5 X5) (pq i arg4 X4 0) (pq i arg4 X4 1) (pq i arg4 X4 2) (pq i arg4 X4 3)
    (0#32) (0#32) (0#32) (0#1) X3 X10 (k0_pay241, k0_pay241, k0_pay241, k0_pay241) k

/-- The running maxima of head 0 after the last chunk. -/
def pM0 (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X10 : BufTy.Contents (Elt F) arg10.view.ty) (f11 : BufTy.Contents (Elt F) arg11.view.ty) : FVec F S8x128 .f32 :=
  mhead (psm i arg5 arg10 X5 X10) 0 slices_S512x512_o0_0_S64x128 slices_S512x512_o64_0_S64x128 slices_S512x512_o128_0_S64x128 slices_S512x512_o192_0_S64x128 slices_S512x512_o256_0_S64x128 slices_S512x512_o320_0_S64x128 slices_S512x512_o384_0_S64x128 slices_S512x512_o448_0_S64x128 (pq i arg4 X4 0) (ksa arg3 X3 (fun r => k0_off11 i (BitVec.ofNat 32 r.val)) (k0_off11_inb i)) (pS2 c i arg3 harg3 arg4 harg4 arg5 harg5 arg6 harg6 arg7 harg7 arg8 harg8 arg9 harg9 arg10 harg10 arg11 harg11 arg12 harg12 X3 X4 X5 X7 X8 X10 f11 (Scf.trips (k0_t2_loop i).lb (k0_t2_loop i).ub (k0_t2_loop i).st)).1.1

/-- The running maxima of head 1 after the last chunk. -/
def pM1 (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X10 : BufTy.Contents (Elt F) arg10.view.ty) (f11 : BufTy.Contents (Elt F) arg11.view.ty) : FVec F S8x128 .f32 :=
  mhead (psm i arg5 arg10 X5 X10) 128 slices_S512x512_o0_128_S64x128 slices_S512x512_o64_128_S64x128 slices_S512x512_o128_128_S64x128 slices_S512x512_o192_128_S64x128 slices_S512x512_o256_128_S64x128 slices_S512x512_o320_128_S64x128 slices_S512x512_o384_128_S64x128 slices_S512x512_o448_128_S64x128 (pq i arg4 X4 1) (ksa arg3 X3 (fun r => k0_off11 i (BitVec.ofNat 32 r.val)) (k0_off11_inb i)) (pS2 c i arg3 harg3 arg4 harg4 arg5 harg5 arg6 harg6 arg7 harg7 arg8 harg8 arg9 harg9 arg10 harg10 arg11 harg11 arg12 harg12 X3 X4 X5 X7 X8 X10 f11 (Scf.trips (k0_t2_loop i).lb (k0_t2_loop i).ub (k0_t2_loop i).st)).1.2.1

/-- The running maxima of head 2 after the last chunk. -/
def pM2 (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X10 : BufTy.Contents (Elt F) arg10.view.ty) (f11 : BufTy.Contents (Elt F) arg11.view.ty) : FVec F S8x128 .f32 :=
  mhead (psm i arg5 arg10 X5 X10) 256 slices_S512x512_o0_256_S64x128 slices_S512x512_o64_256_S64x128 slices_S512x512_o128_256_S64x128 slices_S512x512_o192_256_S64x128 slices_S512x512_o256_256_S64x128 slices_S512x512_o320_256_S64x128 slices_S512x512_o384_256_S64x128 slices_S512x512_o448_256_S64x128 (pq i arg4 X4 2) (ksa arg3 X3 (fun r => k0_off11 i (BitVec.ofNat 32 r.val)) (k0_off11_inb i)) (pS2 c i arg3 harg3 arg4 harg4 arg5 harg5 arg6 harg6 arg7 harg7 arg8 harg8 arg9 harg9 arg10 harg10 arg11 harg11 arg12 harg12 X3 X4 X5 X7 X8 X10 f11 (Scf.trips (k0_t2_loop i).lb (k0_t2_loop i).ub (k0_t2_loop i).st)).1.2.2.1

/-- The running maxima of head 3 after the last chunk. -/
def pM3 (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X10 : BufTy.Contents (Elt F) arg10.view.ty) (f11 : BufTy.Contents (Elt F) arg11.view.ty) : FVec F S8x128 .f32 :=
  mhead (psm i arg5 arg10 X5 X10) 384 slices_S512x512_o0_384_S64x128 slices_S512x512_o64_384_S64x128 slices_S512x512_o128_384_S64x128 slices_S512x512_o192_384_S64x128 slices_S512x512_o256_384_S64x128 slices_S512x512_o320_384_S64x128 slices_S512x512_o384_384_S64x128 slices_S512x512_o448_384_S64x128 (pq i arg4 X4 3) (ksa arg3 X3 (fun r => k0_off11 i (BitVec.ofNat 32 r.val)) (k0_off11_inb i)) (pS2 c i arg3 harg3 arg4 harg4 arg5 harg5 arg6 harg6 arg7 harg7 arg8 harg8 arg9 harg9 arg10 harg10 arg11 harg11 arg12 harg12 X3 X4 X5 X7 X8 X10 f11 (Scf.trips (k0_t2_loop i).lb (k0_t2_loop i).ub (k0_t2_loop i).st)).1.2.2.2

/-- All the stored scores. -/
def pX11 (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X10 : BufTy.Contents (Elt F) arg10.view.ty) (f11 : BufTy.Contents (Elt F) arg11.view.ty) : BufTy.Contents (Elt F) arg11.view.ty :=
  arg11.view.writes (Elt F) f11 (⟨Rect.unit (k0_off10 i) S512x512.size (k0_off10_inb i), shapeCast S512x512 (psm i arg5 arg10 X5 X10) shapeCasts_S512x512_S512x512⟩
    :: (pS2 c i arg3 harg3 arg4 harg4 arg5 harg5 arg6 harg6 arg7 harg7 arg8 harg8 arg9 harg9 arg10 harg10 arg11 harg11 arg12 harg12 X3 X4 X5 X7 X8 X10 f11 (Scf.trips (k0_t2_loop i).lb (k0_t2_loop i).ub (k0_t2_loop i).st)).2)

/-- The zero accumulator. -/
def pZ : List (View.Piece (Elt F) S128x512 .f32) :=
  [⟨Rect.unit ![0, 0] S128x512.size inb_S128x512_S128x512_0_0, shapeCast S128x512 (broadcast S128x512 (FloatOps.ofBits FTy.f32 0#32)) (by decide)⟩]

/-- The zero sums. -/
def pL0 : FVec F S8x128 .f32 := broadcast S8x128 (FloatOps.ofBits FTy.f32 0#32)

/-- The value loop's state before trip `k`. -/
abbrev pS4 (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X10 : BufTy.Contents (Elt F) arg10.view.ty) (f11 : BufTy.Contents (Elt F) arg11.view.ty) (k : ℕ) :=
  st_k0_t4 (F := F) Variants.none c none i arg3 harg3 arg4 harg4 arg5 harg5 arg6 harg6 arg7 harg7 arg8 harg8 arg9 harg9 arg10 harg10 arg11 harg11 arg12 harg12 (BitVec.ofNat 32 (i 0).val) (pq i arg4 X4 0) (pq i arg4 X4 1) (pq i arg4 X4 2) (pq i arg4 X4 3) (0#32)
    (k0_pay274 (pM0 c i arg3 harg3 arg4 harg4 arg5 harg5 arg6 harg6 arg7 harg7 arg8 harg8 arg9 harg9 arg10 harg10 arg11 harg11 arg12 harg12 X3 X4 X5 X7 X8 X10 f11)) (k0_pay274 (pM1 c i arg3 harg3 arg4 harg4 arg5 harg5 arg6 harg6 arg7 harg7 arg8 harg8 arg9 harg9 arg10 harg10 arg11 harg11 arg12 harg12 X3 X4 X5 X7 X8 X10 f11)) (k0_pay274 (pM2 c i arg3 harg3 arg4 harg4 arg5 harg5 arg6 harg6 arg7 harg7 arg8 harg8 arg9 harg9 arg10 harg10 arg11 harg11 arg12 harg12 X3 X4 X5 X7 X8 X10 f11)) (k0_pay274 (pM3 c i arg3 harg3 arg4 harg4 arg5 harg5 arg6 harg6 arg7 harg7 arg8 harg8 arg9 harg9 arg10 harg10 arg11 harg11 arg12 harg12 X3 X4 X5 X7 X8 X10 f11)) pL0 pL0 pL0 pL0 X3 X7 (pX11 c i arg3 harg3 arg4 harg4 arg5 harg5 arg6 harg6 arg7 harg7 arg8 harg8 arg9 harg9 arg10 harg10 arg11 harg11 arg12 harg12 X3 X4 X5 X7 X8 X10 f11)
    (arg12.view.writes (Elt F) arg12.view.junk pZ) (pL0, pL0, pL0, pL0) k

/-- Head 0's part of the output block. -/
def pO0 (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X10 : BufTy.Contents (Elt F) arg10.view.ty) (f11 : BufTy.Contents (Elt F) arg11.view.ty) : FVec F S128x128 .bf16 :=
  outb (pS4 c i arg3 harg3 arg4 harg4 arg5 harg5 arg6 harg6 arg7 harg7 arg8 harg8 arg9 harg9 arg10 harg10 arg11 harg11 arg12 harg12 X3 X4 X5 X7 X8 X10 f11 (Scf.trips (k0_t4_loop i).lb (k0_t4_loop i).ub (k0_t4_loop i).st)).1.1
    (arg12.view.readCov ((pS4 c i arg3 harg3 arg4 harg4 arg5 harg5 arg6 harg6 arg7 harg7 arg8 harg8 arg9 harg9 arg10 harg10 arg11 harg11 arg12 harg12 X3 X4 X5 X7 X8 X10 f11 (Scf.trips (k0_t4_loop i).lb (k0_t4_loop i).ub (k0_t4_loop i).st)).2 ++ pZ) (Rect.unit (s := S128x512) ![0, 0] S128x128.size inb_S128x512_S128x128_0_0).toLoadRect)
    (k0_pay285 (View.readAt (Elt F) arg8.view (Rect.unit ![0, 0, 0] S1x1x128.size inb_S1x1x128_S1x1x128_0_0_0).toLoadRect X8))

/-- Head 1's part of the output block. -/
def pO1 (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X10 : BufTy.Contents (Elt F) arg10.view.ty) (f11 : BufTy.Contents (Elt F) arg11.view.ty) : FVec F S128x128 .bf16 :=
  outb (pS4 c i arg3 harg3 arg4 harg4 arg5 harg5 arg6 harg6 arg7 harg7 arg8 harg8 arg9 harg9 arg10 harg10 arg11 harg11 arg12 harg12 X3 X4 X5 X7 X8 X10 f11 (Scf.trips (k0_t4_loop i).lb (k0_t4_loop i).ub (k0_t4_loop i).st)).1.2.1
    (arg12.view.readCov ((pS4 c i arg3 harg3 arg4 harg4 arg5 harg5 arg6 harg6 arg7 harg7 arg8 harg8 arg9 harg9 arg10 harg10 arg11 harg11 arg12 harg12 X3 X4 X5 X7 X8 X10 f11 (Scf.trips (k0_t4_loop i).lb (k0_t4_loop i).ub (k0_t4_loop i).st)).2 ++ pZ) (Rect.unit (s := S128x512) ![0, 128] S128x128.size inb_S128x512_S128x128_0_128).toLoadRect)
    (k0_pay285 (View.readAt (Elt F) arg8.view (Rect.unit ![0, 0, 0] S1x1x128.size inb_S1x1x128_S1x1x128_0_0_0).toLoadRect X8))

/-- Head 2's part of the output block. -/
def pO2 (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X10 : BufTy.Contents (Elt F) arg10.view.ty) (f11 : BufTy.Contents (Elt F) arg11.view.ty) : FVec F S128x128 .bf16 :=
  outb (pS4 c i arg3 harg3 arg4 harg4 arg5 harg5 arg6 harg6 arg7 harg7 arg8 harg8 arg9 harg9 arg10 harg10 arg11 harg11 arg12 harg12 X3 X4 X5 X7 X8 X10 f11 (Scf.trips (k0_t4_loop i).lb (k0_t4_loop i).ub (k0_t4_loop i).st)).1.2.2.1
    (arg12.view.readCov ((pS4 c i arg3 harg3 arg4 harg4 arg5 harg5 arg6 harg6 arg7 harg7 arg8 harg8 arg9 harg9 arg10 harg10 arg11 harg11 arg12 harg12 X3 X4 X5 X7 X8 X10 f11 (Scf.trips (k0_t4_loop i).lb (k0_t4_loop i).ub (k0_t4_loop i).st)).2 ++ pZ) (Rect.unit (s := S128x512) ![0, 256] S128x128.size inb_S128x512_S128x128_0_256).toLoadRect)
    (k0_pay285 (View.readAt (Elt F) arg8.view (Rect.unit ![0, 0, 0] S1x1x128.size inb_S1x1x128_S1x1x128_0_0_0).toLoadRect X8))

/-- Head 3's part of the output block. -/
def pO3 (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X10 : BufTy.Contents (Elt F) arg10.view.ty) (f11 : BufTy.Contents (Elt F) arg11.view.ty) : FVec F S128x128 .bf16 :=
  outb (pS4 c i arg3 harg3 arg4 harg4 arg5 harg5 arg6 harg6 arg7 harg7 arg8 harg8 arg9 harg9 arg10 harg10 arg11 harg11 arg12 harg12 X3 X4 X5 X7 X8 X10 f11 (Scf.trips (k0_t4_loop i).lb (k0_t4_loop i).ub (k0_t4_loop i).st)).1.2.2.2
    (arg12.view.readCov ((pS4 c i arg3 harg3 arg4 harg4 arg5 harg5 arg6 harg6 arg7 harg7 arg8 harg8 arg9 harg9 arg10 harg10 arg11 harg11 arg12 harg12 X3 X4 X5 X7 X8 X10 f11 (Scf.trips (k0_t4_loop i).lb (k0_t4_loop i).ub (k0_t4_loop i).st)).2 ++ pZ) (Rect.unit (s := S128x512) ![0, 384] S128x128.size inb_S128x512_S128x128_0_384).toLoadRect)
    (k0_pay285 (View.readAt (Elt F) arg8.view (Rect.unit ![0, 0, 0] S1x1x128.size inb_S1x1x128_S1x1x128_0_0_0).toLoadRect X8))

/-- The four parts. -/
def pL9 (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X10 : BufTy.Contents (Elt F) arg10.view.ty) (f11 : BufTy.Contents (Elt F) arg11.view.ty) : List (View.Piece (Elt F) S128x512 .bf16) :=
  [⟨Rect.unit ![0, 384] S128x128.size inb_S128x512_S128x128_0_384, pO3 c i arg3 harg3 arg4 harg4 arg5 harg5 arg6 harg6 arg7 harg7 arg8 harg8 arg9 harg9 arg10 harg10 arg11 harg11 arg12 harg12 X3 X4 X5 X7 X8 X10 f11⟩, ⟨Rect.unit ![0, 256] S128x128.size inb_S128x512_S128x128_0_256, pO2 c i arg3 harg3 arg4 harg4 arg5 harg5 arg6 harg6 arg7 harg7 arg8 harg8 arg9 harg9 arg10 harg10 arg11 harg11 arg12 harg12 X3 X4 X5 X7 X8 X10 f11⟩, ⟨Rect.unit ![0, 128] S128x128.size inb_S128x512_S128x128_0_128, pO1 c i arg3 harg3 arg4 harg4 arg5 harg5 arg6 harg6 arg7 harg7 arg8 harg8 arg9 harg9 arg10 harg10 arg11 harg11 arg12 harg12 X3 X4 X5 X7 X8 X10 f11⟩, ⟨Rect.unit ![0, 0] S128x128.size inb_S128x512_S128x128_0_0, pO0 c i arg3 harg3 arg4 harg4 arg5 harg5 arg6 harg6 arg7 harg7 arg8 harg8 arg9 harg9 arg10 harg10 arg11 harg11 arg12 harg12 X3 X4 X5 X7 X8 X10 f11⟩]

set_option maxHeartbeats 4000000 in
theorem runB_L9 (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f10 : BufTy.Contents (Elt F) arg10.view.ty) (f11 : BufTy.Contents (Elt F) arg11.view.ty) (f12 : BufTy.Contents (Elt F) arg12.view.ty) (h : ¬ k0_cond1 i = 1#1) (ht3 : (k0_t3_loop i).trips = 0) (ht5 : (k0_t5_loop i).trips = 0) : (runB c i arg3 harg3 arg4 harg4 arg5 harg5 arg6 harg6 arg7 harg7 arg8 harg8 arg9 harg9 arg10 harg10 arg11 harg11 arg12 harg12 X3 X4 X5 X6 X7 X8 f10 f11 f12 h ht3 ht5).1 = pL9 c i arg3 harg3 arg4 harg4 arg5 harg5 arg6 harg6 arg7 harg7 arg8 harg8 arg9 harg9 arg10 harg10 arg11 harg11 arg12 harg12 X3 X4 X5 X7 X8 f10 f11 := by
  unfold runB
  rfl

set_option maxHeartbeats 4000000 in
theorem runA_L9 (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f10 : BufTy.Contents (Elt F) arg10.view.ty) (f11 : BufTy.Contents (Elt F) arg11.view.ty) (f12 : BufTy.Contents (Elt F) arg12.view.ty) (h : k0_cond1 i = 1#1) (ht3 : (k0_t3_loop i).trips = 0) (ht5 : (k0_t5_loop i).trips = 0) : (runA c i arg3 harg3 arg4 harg4 arg5 harg5 arg6 harg6 arg7 harg7 arg8 harg8 arg9 harg9 arg10 harg10 arg11 harg11 arg12 harg12 X3 X4 X5 X6 X7 X8 f10 f11 f12 h ht3 ht5).1 = pL9 c i arg3 harg3 arg4 harg4 arg5 harg5 arg6 harg6 arg7 harg7 arg8 harg8 arg9 harg9 arg10 harg10 arg11 harg11 arg12 harg12 X3 X4 X5 X7 X8 (arg10.view.writes (Elt F) f10 (runA c i arg3 harg3 arg4 harg4 arg5 harg5 arg6 harg6 arg7 harg7 arg8 harg8 arg9 harg9 arg10 harg10 arg11 harg11 arg12 harg12 X3 X4 X5 X6 X7 X8 f10 f11 f12 h ht3 ht5).2.1) f11 := by
  unfold runA
  rfl

end Cert.KernelIdeal.Body

end
-- ==== Proof.OffI.lean ====
/- Where the attention kernel reads and stores at a grid point, in closed form. -/
module

public import proofs.«01_k».proof.Proof.WordsI

@[expose] public section

set_option maxRecDepth 16384

noncomputable section

namespace Cert.KernelIdeal.Body

open Cert.KernelIdeal Cert.KernelIdeal.Gen
open Idealize.ShloMosaic

theorem i0_lt (i : grid0.Coords) : (i 0).val < 8 := (i 0).isLt
theorem i1_lt (i : grid0.Coords) : (i 1).val < 128 := (i 1).isLt
theorem i2_lt (i : grid0.Coords) : (i 2).val < 2 := (i 2).isLt

theorem k2_lt (i : grid0.Coords) (k : Fin (k0_t2_loop i).trips) : k.val < (i 1).val / 4 := lt_of_lt_of_eq k.isLt (t2_trips i)
theorem k4_lt (i : grid0.Coords) (k : Fin (k0_t4_loop i).trips) : k.val < (i 1).val / 4 + 1 := lt_of_lt_of_eq k.isLt (t4_trips i)

theorem w512 (k : ℕ) (h : k < 32) : (Scalar.indexCast (Scalar.muli (Scf.iv 0#32 1#32 k) 512#32)).toNat = 512 * k := by
  have e : ∀ a : Fin 32, (Scalar.indexCast (Scalar.muli (Scf.iv 0#32 1#32 a.val) 512#32)).toNat = 512 * a.val := by decide +kernel
  exact e ⟨k, h⟩
theorem w8 (k : ℕ) (h : k < 32) (r : Fin 8) : (Scalar.indexCast (Scalar.addi (Scalar.muli (Scf.iv 0#32 1#32 k) 8#32) (BitVec.ofNat 32 r.val))).toNat = 8 * k + r.val := by
  have e : ∀ (a : Fin 32) (r : Fin 8), (Scalar.indexCast (Scalar.addi (Scalar.muli (Scf.iv 0#32 1#32 a.val) 8#32) (BitVec.ofNat 32 r.val))).toNat = 8 * a.val + r.val := by decide +kernel
  exact e ⟨k, h⟩ r
theorem w64 (k : ℕ) (h : k < 32) (r : Fin 8) : (Scalar.indexCast (Scalar.addi (Scalar.muli (Scf.iv 0#32 1#32 k) 512#32) (BitVec.ofNat 32 (64 * r.val)))).toNat = 512 * k + 64 * r.val := by
  have e : ∀ (a : Fin 32) (r : Fin 8), (Scalar.indexCast (Scalar.addi (Scalar.muli (Scf.iv 0#32 1#32 a.val) 512#32) (BitVec.ofNat 32 (64 * r.val)))).toNat = 512 * a.val + 64 * r.val := by decide +kernel
  exact e ⟨k, h⟩ r
theorem wi0 (i : grid0.Coords) : (Scalar.indexCast (BitVec.ofNat 32 (i 0).val)).toNat = (i 0).val := by
  have e : ∀ a : Fin 8, (Scalar.indexCast (BitVec.ofNat 32 a.val)).toNat = a.val := by decide +kernel
  exact e (i 0)

theorem off3_eq (i : grid0.Coords) (k : Fin (k0_t2_loop i).trips) : k0_off3 i k = ![512 * k.val, 0] :=
  funext (Fin.forall_fin_two.mpr ⟨w512 k.val (by have := k2_lt i k; have := i1_lt i; omega), rfl⟩)
theorem off4_eq (i : grid0.Coords) (k : Fin (k0_t2_loop i).trips) : k0_off4 i k = ![512 * k.val, 0] :=
  funext (Fin.forall_fin_two.mpr ⟨w512 k.val (by have := k2_lt i k; have := i1_lt i; omega), rfl⟩)
theorem off5_eq (i : grid0.Coords) (k : Fin (k0_t2_loop i).trips) (r : Fin 8) : k0_off5 i k (BitVec.ofNat 32 r.val) = ![(i 0).val, 8 * k.val + r.val] :=
  funext (Fin.forall_fin_two.mpr ⟨wi0 i, w8 k.val (by have := k2_lt i k; have := i1_lt i; omega) r⟩)
theorem off13_eq (i : grid0.Coords) (k : Fin (k0_t4_loop i).trips) (r : Fin 8) : k0_off13 i k (BitVec.ofNat 32 r.val) = ![(i 0).val, 8 * k.val + r.val] :=
  funext (Fin.forall_fin_two.mpr ⟨wi0 i, w8 k.val (by have := k4_lt i k; have := i1_lt i; omega) r⟩)
theorem off12_eq (i : grid0.Coords) (k : Fin (k0_t4_loop i).trips) (r : Fin 8) : k0_off12 i k (BitVec.ofNat 32 (64 * r.val)) = ![512 * k.val + 64 * r.val, 0] :=
  funext (Fin.forall_fin_two.mpr ⟨w64 k.val (by have := k4_lt i k; have := i1_lt i; omega) r, rfl⟩)
theorem off14_eq (i : grid0.Coords) (k : Fin (k0_t4_loop i).trips) (r : Fin 8) : k0_off14 i k (BitVec.ofNat 32 (64 * r.val)) = ![512 * k.val + 64 * r.val, 128] :=
  funext (Fin.forall_fin_two.mpr ⟨w64 k.val (by have := k4_lt i k; have := i1_lt i; omega) r, rfl⟩)
theorem off15_eq (i : grid0.Coords) (k : Fin (k0_t4_loop i).trips) (r : Fin 8) : k0_off15 i k (BitVec.ofNat 32 (64 * r.val)) = ![512 * k.val + 64 * r.val, 256] :=
  funext (Fin.forall_fin_two.mpr ⟨w64 k.val (by have := k4_lt i k; have := i1_lt i; omega) r, rfl⟩)
theorem off16_eq (i : grid0.Coords) (k : Fin (k0_t4_loop i).trips) (r : Fin 8) : k0_off16 i k (BitVec.ofNat 32 (64 * r.val)) = ![512 * k.val + 64 * r.val, 384] :=
  funext (Fin.forall_fin_two.mpr ⟨w64 k.val (by have := k4_lt i k; have := i1_lt i; omega) r, rfl⟩)
theorem off17_eq (i : grid0.Coords) (k : Fin (k0_t4_loop i).trips) : k0_off17 i k = ![0, 512 * k.val] :=
  funext (Fin.forall_fin_two.mpr ⟨rfl, w512 k.val (by have := k4_lt i k; have := i1_lt i; omega)⟩)
theorem off9_eq (i : grid0.Coords) : k0_off9 i = ![512 * ((i 1).val / 4), 0] := by
  have h : ∀ a : Fin 128, k0_off9 (atBlock a) = ![512 * (a.val / 4), 0] := by decide +kernel
  exact h (i 1)
theorem off10_eq (i : grid0.Coords) : k0_off10 i = ![512 * ((i 1).val / 4), 0] := by
  have h : ∀ a : Fin 128, k0_off10 (atBlock a) = ![512 * (a.val / 4), 0] := by decide +kernel
  exact h (i 1)
theorem off11_eq (i : grid0.Coords) (r : Fin 8) : k0_off11 i (BitVec.ofNat 32 r.val) = ![(i 0).val, 8 * ((i 1).val / 4) + r.val] := by
  have h : ∀ (a : Fin 128) (r : Fin 8), k0_off11 (atBlock a) (BitVec.ofNat 32 r.val) 1 = 8 * (a.val / 4) + r.val := by decide +kernel
  exact funext (Fin.forall_fin_two.mpr ⟨wi0 i, h (i 1) r⟩)
theorem mult4_eq (i : grid0.Coords) : k0_mult4 i = BitVec.ofNat 32 (512 * ((i 1).val / 4)) := by
  have h : ∀ a : Fin 128, k0_mult4 (atBlock a) = BitVec.ofNat 32 (512 * (a.val / 4)) := by decide +kernel
  exact h (i 1)
theorem off2_eq (i : grid0.Coords) (n : Fin 4) : k0_off2 i (BitVec.ofNat 32 n.val) = ![(i 1).val, 8 * (i 0).val + 4 * (i 2).val + n.val] := by
  have e : ∀ a : Fin 128, (Scalar.indexCast (BitVec.ofNat 32 a.val)).toNat = a.val := by decide +kernel
  have h : ∀ (a : Fin 8) (b : Fin 2) (n : Fin 4), (Scalar.indexCast (Scalar.addi (Scalar.addi (Scalar.muli (BitVec.ofNat 32 a.val) 8#32) (Scalar.muli (BitVec.ofNat 32 b.val) 4#32)) (BitVec.ofNat 32 n.val))).toNat = 8 * a.val + 4 * b.val + n.val := by decide +kernel
  exact funext (Fin.forall_fin_two.mpr ⟨e (i 1), h (i 0) (i 2) n⟩)

/-- The causal mask's comparison of words is the comparison of positions. -/
theorem mask_word (i : grid0.Coords) (r j : Fin 512) :
    (BitVec.sle (BitVec.ofNat 32 (512 * ((i 1).val / 4)) + BitVec.ofNat 32 r.val)
      (Scalar.muli (BitVec.ofNat 32 (i 1).val) 128#32 + (BitVec.ofNat 32 j.val &&& 127#32))) = decide (512 * ((i 1).val / 4) + r.val ≤ 128 * (i 1).val + j.val % 128) := by
  have h1 := i1_lt i
  have e1 : BitVec.ofNat 32 (512 * ((i 1).val / 4)) + BitVec.ofNat 32 r.val = BitVec.ofNat 32 (512 * ((i 1).val / 4) + r.val) := (BitVec.ofNat_add ..).symm
  have e2 : Scalar.muli (BitVec.ofNat 32 (i 1).val) 128#32 = BitVec.ofNat 32 (128 * (i 1).val) := by
    have e : ∀ a : Fin 128, Scalar.muli (BitVec.ofNat 32 a.val) 128#32 = BitVec.ofNat 32 (128 * a.val) := by decide +kernel
    exact e (i 1)
  have e3 : BitVec.ofNat 32 j.val &&& 127#32 = BitVec.ofNat 32 (j.val % 128) := by
    have e : ∀ a : Fin 512, BitVec.ofNat 32 a.val &&& 127#32 = BitVec.ofNat 32 (a.val % 128) := by decide +kernel
    exact e j
  rw [e1, e2, e3, ← BitVec.ofNat_add]
  have t : ∀ n : ℕ, n < 2 ^ 31 → (BitVec.ofNat 32 n).toInt = n := fun n hn => by
    rw [BitVec.toInt_ofNat', Int.bmod_eq_of_le] <;> omega
  rw [BitVec.sle_eq_decide, t _ (by omega), t _ (by omega)]
  simp only [Nat.cast_le]

end Cert.KernelIdeal.Body

end
-- ==== Proof.ChunkI.lean ====
/- What one grid point of the attention kernel stores, index by index over the extended reals: the loops'
   running maxima, stored scores, running sums and accumulator in closed form, and from them each output
   element as one row of the streaming softmax. -/
module

public import proofs.«01_k».proof.Proof.PointI
public import proofs.«01_k».proof.Proof.OffI
public import Idealize.ShloMosaic.Lib.WritesUnit

@[expose] public section

set_option maxRecDepth 65536

noncomputable section

namespace Cert.KernelIdeal.Body

open Cert.KernelIdeal Cert.KernelIdeal.Gen
open Idealize.ShloMosaic Idealize.ShloMosaic.TcCoe Idealize.ShloMosaic.Tactic

/-- Reading a block at an offset reads the buffer at the shifted index. -/
theorem readAt_off {sp : Space} {s : Shape} {e : EltTy} (m : Memref sig .tc sp s e) (X : BufTy.Contents (Elt Ideal) m.view.ty)
    (off size off' : Fin s.rank → ℕ) (inb : ∀ a, off a + size a ≤ s.size a) (x : (Rect.unit off size inb).toLoadRect.shape.Idx) (y : s.Idx)
    (he : off = off') (h : ∀ a, (y a).val = off' a + (x a).val) :
    View.readAt (Elt Ideal) m.view (Rect.unit off size inb).toLoadRect X x = m.view.read (Elt Ideal) X y :=
  congrArg (m.view.read (Elt Ideal) X) (funext fun a => Fin.ext (by
    show off a + 1 * (x a).val = _
    subst he
    rw [h a, Nat.one_mul]))

theorem ksa_apply (arg3 : Memref sig .tc .smem S8x256 .f32) (X3 : BufTy.Contents (Elt Ideal) arg3.view.ty) (off : Fin 8 → Fin 2 → ℕ)
    (inb : ∀ (r : Fin 8) a, off r a + S1x1.size a ≤ S8x256.size a) (r : Fin 8) (a : Fin 8) (b : Fin 256) (h : off r = ![a.val, b.val]) :
    ksa arg3 X3 off inb r = arg3.view.read (Elt Ideal) X3 (ix2 a b) := by
  unfold ksa
  exact readAt_off arg3 X3 _ _ _ _ _ (ix2 a b) h <| Fin.forall_fin_two.mpr ⟨rfl, rfl⟩

theorem tga_apply (arg11 : Memref sig .tc .vmem S16384x512 .f32) (X11 : BufTy.Contents (Elt Ideal) arg11.view.ty) (off : Fin 8 → Fin 2 → ℕ)
    (inb : ∀ (r : Fin 8) a, off r a + S64x128.size a ≤ S16384x512.size a) (r : Fin 8) (p q : ℕ) (h : off r = ![p, q]) (a : Fin 64) (b : Fin 128)
    (ha : p + a.val < 16384) (hb : q + b.val < 512) :
    tga arg11 X11 off inb r (ix2 a b) = arg11.view.read (Elt Ideal) X11 (ix2 ⟨p + a.val, ha⟩ ⟨q + b.val, hb⟩) := by
  unfold tga
  exact readAt_off arg11 X11 _ _ _ _ _ _ h <| Fin.forall_fin_two.mpr ⟨rfl, rfl⟩

/-- The four components of a loop's carried value. -/
def proj4 {α : Type} (p : α × α × α × α) : Fin 4 → α := ![p.1, p.2.1, p.2.2.1, p.2.2.2]

/-- The masked score of column `j` (a head and a query row) at key `s`. -/
def Sm (i : grid0.Coords) (S : ℕ → ℕ → EReal) (j s : ℕ) : EReal := if s ≤ 128 * (i 1).val + j % 128 then S j s else ⊥

/-- The number of keys visited. -/
def NK (i : grid0.Coords) : ℕ := ((i 1).val / 4 + 1) * 512

variable (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole)
  (X3 : BufTy.Contents (Elt Ideal) arg3.view.ty) (X4 : BufTy.Contents (Elt Ideal) arg4.view.ty) (X5 : BufTy.Contents (Elt Ideal) arg5.view.ty) (X7 : BufTy.Contents (Elt Ideal) arg7.view.ty) (X8 : BufTy.Contents (Elt Ideal) arg8.view.ty) (X10 : BufTy.Contents (Elt Ideal) arg10.view.ty) (f11 : BufTy.Contents (Elt Ideal) arg11.view.ty)
  (S : ℕ → ℕ → EReal) (kf : ℕ → EReal) (V : ℕ → ℕ → EReal)

/-- The scaled masked score. -/
def Xs (n b s : ℕ) (q : EReal) : EReal := Sm i S (128 * n + b) s * cf q (kf (s / 64))

theorem sca_at (hS : ∀ (s : Fin 16384) (j : Fin 512), ∑ d : Fin 128, arg10.view.read (Elt Ideal) X10 (ix2 s d) * pqt arg5 X5 (ix2 j d) = S j.val s.val)
    (off : Fin 2 → ℕ) (inb : ∀ a, off a + S512x128.size a ≤ S16384x128.size a) (p : ℕ) (hoff : off = ![p, 0]) (hp : p + 512 ≤ 16384) (r j : Fin 512) :
    sca arg10 X10 (pqt arg5 X5) off inb (ix2 r j) = S j.val (p + r.val) := by
  unfold sca
  rw [score_apply, ← hS ⟨p + r.val, by omega⟩ j]
  refine Finset.sum_congr rfl fun d _ => ?_
  refine congrArg (· * pqt arg5 X5 (ix2 j d)) ?_
  exact readAt_off arg10 X10 _ _ _ _ _ _ hoff <| Fin.forall_fin_two.mpr ⟨rfl, (Nat.zero_add _).symm⟩

/-- A chunk before the diagonal has no masked key. -/
theorem sca_sm (hS : ∀ (s : Fin 16384) (j : Fin 512), ∑ d : Fin 128, arg10.view.read (Elt Ideal) X10 (ix2 s d) * pqt arg5 X5 (ix2 j d) = S j.val s.val)
    (k : Fin (k0_t2_loop i).trips) (r j : Fin 512) :
    sca arg10 X10 (pqt arg5 X5) (k0_off3 i k) (k0_off3_inb i k) (ix2 r j) = Sm i S j.val (512 * k.val + r.val) := by
  have hk := k2_lt i k
  have h1 := i1_lt i
  rw [sca_at arg5 arg10 X5 X10 S hS _ _ (512 * k.val) (off3_eq i k) (by omega)]
  exact (if_pos (by omega)).symm

/-- The last chunk's scores are the masked ones. -/
theorem psm_sm (hS : ∀ (s : Fin 16384) (j : Fin 512), ∑ d : Fin 128, arg10.view.read (Elt Ideal) X10 (ix2 s d) * pqt arg5 X5 (ix2 j d) = S j.val s.val)
    (r j : Fin 512) : psm i arg5 arg10 X5 X10 (ix2 r j) = Sm i S j.val (512 * ((i 1).val / 4) + r.val) := by
  have h1 := i1_lt i
  have h := sca_at arg5 arg10 X5 X10 S hS (k0_off9 i) (k0_off9_inb i) _ (off9_eq i) (by omega) r j
  have hm := mask_word i r j
  unfold Sm psm
  rw [mult4_eq]
  have e : ∀ (w : BitVec 32) (u : BitVec 32) (sc : FVec Ideal S512x512 .f32), select (cmpi .sle (addi (broadcast S512x512 w) (iota .tc S512x512 32 [0] psm._proof_1))
      (addi (broadcast S512x512 u) (andi (iota .tc S512x512 32 [1] psm._proof_2) (broadcast S512x512 127#32)))) sc (broadcast S512x512 (FloatOps.ofBits FTy.f32 4286578688#32)) (ix2 r j)
      = if BitVec.sle (w + BitVec.ofNat 32 r.val) (u + (BitVec.ofNat 32 j.val &&& 127#32)) then sc (ix2 r j) else Ideal.ofBits .f32 4286578688#32 := by
    intro w u sc
    pointwise []
    show Scalar.select (BitVec.ofBool (BitVec.sle (w + BitVec.ofNat 32 r.val) (u + (BitVec.ofNat 32 j.val &&& 127#32)))) _ _ = _
    cases BitVec.sle (w + BitVec.ofNat 32 r.val) (u + (BitVec.ofNat 32 j.val &&& 127#32)) <;> rfl
  rw [e]
  rw [hm, h, Cert.Attn.bits_ninf]
  by_cases hle : 512 * ((i 1).val / 4) + r.val ≤ 128 * (i 1).val + j.val % 128
  · rw [if_pos hle, decide_eq_true hle, if_pos rfl]
  · rw [if_neg hle, decide_eq_false hle, if_neg Bool.false_ne_true]

/-- The running maxima bound the scaled scores of the chunks so far. -/
theorem t2_max (hS : ∀ (s : Fin 16384) (j : Fin 512), ∑ d : Fin 128, arg10.view.read (Elt Ideal) X10 (ix2 s d) * pqt arg5 X5 (ix2 j d) = S j.val s.val)
    (hk : ∀ s : Fin 256, arg3.view.read (Elt Ideal) X3 (ix2 (⟨(i 0).val, i0_lt i⟩ : Fin 8) s) = kf s.val)
    (n : Fin 4) (a : Fin 8) (b : Fin 128) (x : EReal) (k : ℕ) (hkt : k ≤ (k0_t2_loop i).trips) :
    proj4 (pS2 c i arg3 harg3 arg4 harg4 arg5 harg5 arg6 harg6 arg7 harg7 arg8 harg8 arg9 harg9 arg10 harg10 arg11 harg11 arg12 harg12 X3 X4 X5 X7 X8 X10 f11 k).1 n (ix2 a b) ≤ x ↔ ∀ ch, ch < k → ∀ gi g : Fin 8, Xs i S kf n.val b.val (512 * ch + (64 * gi.val + (g.val * 8 + a.val))) (pq i arg4 X4 n) ≤ x := by
  induction k with
  | zero =>
    have e : proj4 (pS2 c i arg3 harg3 arg4 harg4 arg5 harg5 arg6 harg6 arg7 harg7 arg8 harg8 arg9 harg9 arg10 harg10 arg11 harg11 arg12 harg12 X3 X4 X5 X7 X8 X10 f11 0).1 n (ix2 a b) = ⊥ := by
      have e0 : (k0_pay241 : FVec Ideal S8x128 .f32) (ix2 a b) = ⊥ := by pointwise [k0_pay241, Cert.Attn.bits_ninf]
      fin_cases n <;> exact e0
    rw [e]
    exact ⟨fun _ ch h => absurd h (Nat.not_lt_zero _), fun _ => bot_le⟩
  | succ k ih =>
    have hk1 : k < (k0_t2_loop i).trips := hkt
    have ih := ih (Nat.le_of_lt hk1)
    have hk2 := k2_lt i ⟨k, hk1⟩
    have h1 := i1_lt i
    have hks : ∀ gi : Fin 8, ksa arg3 X3 (fun r => k0_off5 i ⟨k, hk1⟩ (BitVec.ofNat 32 r.val)) (k0_off5_inb i ⟨k, hk1⟩) gi = kf (8 * k + gi.val) := fun gi => by
      rw [ksa_apply arg3 X3 _ _ gi ⟨(i 0).val, i0_lt i⟩ ⟨8 * k + gi.val, by simp only [] at hk2; omega⟩ (off5_eq i ⟨k, hk1⟩ gi), hk]
    have hsc : ∀ (r : Fin 512) (j : Fin 512), sca arg10 X10 (pqt arg5 X5) (k0_off3 i ⟨k, hk1⟩) (k0_off3_inb i ⟨k, hk1⟩) (ix2 r j) = Sm i S j.val (512 * k + r.val) := fun r j =>
      sca_sm i arg5 arg10 X5 X10 S hS ⟨k, hk1⟩ r j
    have step : proj4 (pS2 c i arg3 harg3 arg4 harg4 arg5 harg5 arg6 harg6 arg7 harg7 arg8 harg8 arg9 harg9 arg10 harg10 arg11 harg11 arg12 harg12 X3 X4 X5 X7 X8 X10 f11 (k + 1)).1 n (ix2 a b) ≤ x ↔ proj4 (pS2 c i arg3 harg3 arg4 harg4 arg5 harg5 arg6 harg6 arg7 harg7 arg8 harg8 arg9 harg9 arg10 harg10 arg11 harg11 arg12 harg12 X3 X4 X5 X7 X8 X10 f11 k).1 n (ix2 a b) ≤ x ∧
        ∀ gi g : Fin 8, Xs i S kf n.val b.val (512 * k + (64 * gi.val + (g.val * 8 + a.val))) (pq i arg4 X4 n) ≤ x := by
      rw [show pS2 c i arg3 harg3 arg4 harg4 arg5 harg5 arg6 harg6 arg7 harg7 arg8 harg8 arg9 harg9 arg10 harg10 arg11 harg11 arg12 harg12 X3 X4 X5 X7 X8 X10 f11 (k + 1) = _ from st_k0_t2_succ (F := Ideal) Variants.none c none i arg3 harg3 arg4 harg4 arg5 harg5 arg6 harg6 arg7 harg7 arg8 harg8 arg9 harg9 arg10 harg10 arg11 harg11 arg12 harg12 (BitVec.ofNat 32 (i 0).val) (0#32) (pqt arg5 X5) (pq i arg4 X4 0) (pq i arg4 X4 1) (pq i arg4 X4 2) (pq i arg4 X4 3) (0#32) (0#32) (0#32) (0#1) X3 X10 _ ⟨k, hk1⟩, trip2R]
      have go : ∀ (n : ℕ) (q : EReal) (r : Fin 512) (gi : Fin 8) (hn : 128 * n + b.val < 512), r.val / 64 = gi.val →
          sca arg10 X10 (pqt arg5 X5) (k0_off3 i ⟨k, hk1⟩) (k0_off3_inb i ⟨k, hk1⟩) (ix2 r (⟨128 * n + b.val, hn⟩ : Fin 512)) *
            cf q (ksa arg3 X3 (fun r => k0_off5 i ⟨k, hk1⟩ (BitVec.ofNat 32 r.val)) (k0_off5_inb i ⟨k, hk1⟩) gi) = Xs i S kf n b.val (512 * k + r.val) q := fun n q r gi hn hr => by
        rw [hsc, hks]
        unfold Xs
        rw [show (512 * k + r.val) / 64 = 8 * k + gi.val by omega]
      fin_cases n
      · exact mhead_le _ 0 slices_S512x512_o0_0_S64x128 slices_S512x512_o64_0_S64x128 slices_S512x512_o128_0_S64x128 slices_S512x512_o192_0_S64x128 slices_S512x512_o256_0_S64x128 slices_S512x512_o320_0_S64x128 slices_S512x512_o384_0_S64x128 slices_S512x512_o448_0_S64x128 _ _ _ (by omega) a b x (fun s => Xs i S kf 0 b.val s (pq i arg4 X4 0)) (512 * k) (fun r gi hr => go 0 _ r gi (by omega) hr)
      · exact mhead_le _ 128 slices_S512x512_o0_128_S64x128 slices_S512x512_o64_128_S64x128 slices_S512x512_o128_128_S64x128 slices_S512x512_o192_128_S64x128 slices_S512x512_o256_128_S64x128 slices_S512x512_o320_128_S64x128 slices_S512x512_o384_128_S64x128 slices_S512x512_o448_128_S64x128 _ _ _ (by omega) a b x (fun s => Xs i S kf 1 b.val s (pq i arg4 X4 1)) (512 * k) (fun r gi hr => go 1 _ r gi (by omega) hr)
      · exact mhead_le _ 256 slices_S512x512_o0_256_S64x128 slices_S512x512_o64_256_S64x128 slices_S512x512_o128_256_S64x128 slices_S512x512_o192_256_S64x128 slices_S512x512_o256_256_S64x128 slices_S512x512_o320_256_S64x128 slices_S512x512_o384_256_S64x128 slices_S512x512_o448_256_S64x128 _ _ _ (by omega) a b x (fun s => Xs i S kf 2 b.val s (pq i arg4 X4 2)) (512 * k) (fun r gi hr => go 2 _ r gi (by omega) hr)
      · exact mhead_le _ 384 slices_S512x512_o0_384_S64x128 slices_S512x512_o64_384_S64x128 slices_S512x512_o128_384_S64x128 slices_S512x512_o192_384_S64x128 slices_S512x512_o256_384_S64x128 slices_S512x512_o320_384_S64x128 slices_S512x512_o384_384_S64x128 slices_S512x512_o448_384_S64x128 _ _ _ (by omega) a b x (fun s => Xs i S kf 3 b.val s (pq i arg4 X4 3)) (512 * k) (fun r gi hr => go 3 _ r gi (by omega) hr)
    rw [step, ih]
    constructor
    · rintro ⟨h1, h2⟩ ch hch
      rcases Nat.lt_succ_iff_lt_or_eq.mp hch with h | h
      · exact h1 ch h
      · subst h; exact h2
    · exact fun h => ⟨fun ch hch => h ch (Nat.lt_succ_of_lt hch), h k (Nat.lt_succ_self k)⟩

/-- The score loop leaves the masked scores of its chunks. -/
theorem t2_rows (hS : ∀ (s : Fin 16384) (j : Fin 512), ∑ d : Fin 128, arg10.view.read (Elt Ideal) X10 (ix2 s d) * pqt arg5 X5 (ix2 j d) = S j.val s.val)
    (r : Fin 16384) (j : Fin 512) (k : ℕ) (hkt : k ≤ (k0_t2_loop i).trips) (hr : r.val < 512 * k) :
    arg11.view.read (Elt Ideal) (arg11.view.writes (Elt Ideal) f11 (pS2 c i arg3 harg3 arg4 harg4 arg5 harg5 arg6 harg6 arg7 harg7 arg8 harg8 arg9 harg9 arg10 harg10 arg11 harg11 arg12 harg12 X3 X4 X5 X7 X8 X10 f11 k).2) (ix2 r j) = Sm i S j.val r.val := by
  induction k with
  | zero => omega
  | succ k ih =>
    have hk1 : k < (k0_t2_loop i).trips := hkt
    rw [show pS2 c i arg3 harg3 arg4 harg4 arg5 harg5 arg6 harg6 arg7 harg7 arg8 harg8 arg9 harg9 arg10 harg10 arg11 harg11 arg12 harg12 X3 X4 X5 X7 X8 X10 f11 (k + 1) = _ from st_k0_t2_succ (F := Ideal) Variants.none c none i arg3 harg3 arg4 harg4 arg5 harg5 arg6 harg6 arg7 harg7 arg8 harg8 arg9 harg9 arg10 harg10 arg11 harg11 arg12 harg12 (BitVec.ofNat 32 (i 0).val) (0#32) (pqt arg5 X5) (pq i arg4 X4 0) (pq i arg4 X4 1) (pq i arg4 X4 2) (pq i arg4 X4 3) (0#32) (0#32) (0#32) (0#1) X3 X10 _ ⟨k, hk1⟩, trip2L]
    by_cases h : r.val < 512 * k
    · exact (View.read_writes_cons_rows_of_not_mem arg11.view f11 _ _ _ (ix2 r j) (off4_eq i ⟨k, hk1⟩) (W := 512) rfl (Or.inl h)).trans (ih (Nat.le_of_lt hk1) h)
    · refine (View.read_writes_cons_rows_of_mem arg11.view f11 _ _ _ (ix2 r j) (ix2 (⟨r.val - 512 * k, by omega⟩ : Fin 512) j) (off4_eq i ⟨k, hk1⟩) (by show r.val = 512 * k + (r.val - 512 * k); omega) rfl).trans ?_
      refine (congrFun (shapeCast_self _ _) _).trans ?_
      rw [sca_sm i arg5 arg10 X5 X10 S hS ⟨k, hk1⟩]
      exact congrArg (Sm i S j.val) (by show 512 * k + (r.val - 512 * k) = r.val; omega)

/-- After the last chunk every visited key's masked score is stored. -/
theorem x11_rows (hS : ∀ (s : Fin 16384) (j : Fin 512), ∑ d : Fin 128, arg10.view.read (Elt Ideal) X10 (ix2 s d) * pqt arg5 X5 (ix2 j d) = S j.val s.val)
    (r : Fin 16384) (j : Fin 512) (hr : r.val < NK i) :
    arg11.view.read (Elt Ideal) (pX11 c i arg3 harg3 arg4 harg4 arg5 harg5 arg6 harg6 arg7 harg7 arg8 harg8 arg9 harg9 arg10 harg10 arg11 harg11 arg12 harg12 X3 X4 X5 X7 X8 X10 f11) (ix2 r j) = Sm i S j.val r.val := by
  unfold NK at hr
  have ht : (Scf.trips (k0_t2_loop i).lb (k0_t2_loop i).ub (k0_t2_loop i).st) = (i 1).val / 4 := t2_trips i
  unfold pX11
  by_cases h : r.val < 512 * ((i 1).val / 4)
  · refine (View.read_writes_cons_rows_of_not_mem arg11.view f11 _ _ _ (ix2 r j) (off10_eq i) (W := 512) rfl (Or.inl h)).trans ?_
    exact t2_rows c i arg3 harg3 arg4 harg4 arg5 harg5 arg6 harg6 arg7 harg7 arg8 harg8 arg9 harg9 arg10 harg10 arg11 harg11 arg12 harg12 X3 X4 X5 X7 X8 X10 f11 S hS r j _ (le_refl _) (by rw [ht]; exact h)
  · refine (View.read_writes_cons_rows_of_mem arg11.view f11 _ _ _ (ix2 r j) (ix2 (⟨r.val - 512 * ((i 1).val / 4), by omega⟩ : Fin 512) j) (off10_eq i) (by show r.val = 512 * ((i 1).val / 4) + (r.val - 512 * ((i 1).val / 4)); omega) rfl).trans ?_
    refine (congrFun (shapeCast_self _ _) _).trans ?_
    rw [psm_sm i arg5 arg10 X5 X10 S hS]
    exact congrArg (Sm i S j.val) (by show 512 * ((i 1).val / 4) + (r.val - 512 * ((i 1).val / 4)) = r.val; omega)

/-- The four heads' maxima. -/
def pM (n : Fin 4) : FVec Ideal S8x128 .f32 := ![pM0 c i arg3 harg3 arg4 harg4 arg5 harg5 arg6 harg6 arg7 harg7 arg8 harg8 arg9 harg9 arg10 harg10 arg11 harg11 arg12 harg12 X3 X4 X5 X7 X8 X10 f11, pM1 c i arg3 harg3 arg4 harg4 arg5 harg5 arg6 harg6 arg7 harg7 arg8 harg8 arg9 harg9 arg10 harg10 arg11 harg11 arg12 harg12 X3 X4 X5 X7 X8 X10 f11, pM2 c i arg3 harg3 arg4 harg4 arg5 harg5 arg6 harg6 arg7 harg7 arg8 harg8 arg9 harg9 arg10 harg10 arg11 harg11 arg12 harg12 X3 X4 X5 X7 X8 X10 f11, pM3 c i arg3 harg3 arg4 harg4 arg5 harg5 arg6 harg6 arg7 harg7 arg8 harg8 arg9 harg9 arg10 harg10 arg11 harg11 arg12 harg12 X3 X4 X5 X7 X8 X10 f11] n

theorem pM_le (hS : ∀ (s : Fin 16384) (j : Fin 512), ∑ d : Fin 128, arg10.view.read (Elt Ideal) X10 (ix2 s d) * pqt arg5 X5 (ix2 j d) = S j.val s.val)
    (hk : ∀ s : Fin 256, arg3.view.read (Elt Ideal) X3 (ix2 (⟨(i 0).val, i0_lt i⟩ : Fin 8) s) = kf s.val)
    (n : Fin 4) (a : Fin 8) (b : Fin 128) (x : EReal) :
    pM c i arg3 harg3 arg4 harg4 arg5 harg5 arg6 harg6 arg7 harg7 arg8 harg8 arg9 harg9 arg10 harg10 arg11 harg11 arg12 harg12 X3 X4 X5 X7 X8 X10 f11 n (ix2 a b) ≤ x ↔ ∀ ch, ch < (i 1).val / 4 + 1 → ∀ gi g : Fin 8, Xs i S kf n.val b.val (512 * ch + (64 * gi.val + (g.val * 8 + a.val))) (pq i arg4 X4 n) ≤ x := by
  have h1 := i1_lt i
  have ht : (Scf.trips (k0_t2_loop i).lb (k0_t2_loop i).ub (k0_t2_loop i).st) = (i 1).val / 4 := t2_trips i
  have hks : ∀ gi : Fin 8, ksa arg3 X3 (fun r => k0_off11 i (BitVec.ofNat 32 r.val)) (k0_off11_inb i) gi = kf (8 * ((i 1).val / 4) + gi.val) := fun gi => by
    rw [ksa_apply arg3 X3 _ _ gi ⟨(i 0).val, i0_lt i⟩ ⟨8 * ((i 1).val / 4) + gi.val, by omega⟩ (off11_eq i gi), hk]
  have go : ∀ (n : ℕ) (q : EReal) (r : Fin 512) (gi : Fin 8) (hn : 128 * n + b.val < 512), r.val / 64 = gi.val →
      psm i arg5 arg10 X5 X10 (ix2 r (⟨128 * n + b.val, hn⟩ : Fin 512)) *
        cf q (ksa arg3 X3 (fun r => k0_off11 i (BitVec.ofNat 32 r.val)) (k0_off11_inb i) gi) = Xs i S kf n b.val (512 * ((i 1).val / 4) + r.val) q := fun n q r gi hn hr => by
    rw [psm_sm i arg5 arg10 X5 X10 S hS, hks]
    unfold Xs
    rw [show (512 * ((i 1).val / 4) + r.val) / 64 = 8 * ((i 1).val / 4) + gi.val by omega]
  have ih := t2_max c i arg3 harg3 arg4 harg4 arg5 harg5 arg6 harg6 arg7 harg7 arg8 harg8 arg9 harg9 arg10 harg10 arg11 harg11 arg12 harg12 X3 X4 X5 X7 X8 X10 f11 S kf hS hk n a b x (Scf.trips (k0_t2_loop i).lb (k0_t2_loop i).ub (k0_t2_loop i).st) (le_refl _)
  have step : pM c i arg3 harg3 arg4 harg4 arg5 harg5 arg6 harg6 arg7 harg7 arg8 harg8 arg9 harg9 arg10 harg10 arg11 harg11 arg12 harg12 X3 X4 X5 X7 X8 X10 f11 n (ix2 a b) ≤ x ↔ proj4 (pS2 c i arg3 harg3 arg4 harg4 arg5 harg5 arg6 harg6 arg7 harg7 arg8 harg8 arg9 harg9 arg10 harg10 arg11 harg11 arg12 harg12 X3 X4 X5 X7 X8 X10 f11 (Scf.trips (k0_t2_loop i).lb (k0_t2_loop i).ub (k0_t2_loop i).st)).1 n (ix2 a b) ≤ x ∧
      ∀ gi g : Fin 8, Xs i S kf n.val b.val (512 * ((i 1).val / 4) + (64 * gi.val + (g.val * 8 + a.val))) (pq i arg4 X4 n) ≤ x := by
    fin_cases n
    · exact mhead_le _ 0 slices_S512x512_o0_0_S64x128 slices_S512x512_o64_0_S64x128 slices_S512x512_o128_0_S64x128 slices_S512x512_o192_0_S64x128 slices_S512x512_o256_0_S64x128 slices_S512x512_o320_0_S64x128 slices_S512x512_o384_0_S64x128 slices_S512x512_o448_0_S64x128 _ _ _ (by omega) a b x (fun s => Xs i S kf 0 b.val s (pq i arg4 X4 0)) (512 * ((i 1).val / 4)) (fun r gi hr => go 0 _ r gi (by omega) hr)
    · exact mhead_le _ 128 slices_S512x512_o0_128_S64x128 slices_S512x512_o64_128_S64x128 slices_S512x512_o128_128_S64x128 slices_S512x512_o192_128_S64x128 slices_S512x512_o256_128_S64x128 slices_S512x512_o320_128_S64x128 slices_S512x512_o384_128_S64x128 slices_S512x512_o448_128_S64x128 _ _ _ (by omega) a b x (fun s => Xs i S kf 1 b.val s (pq i arg4 X4 1)) (512 * ((i 1).val / 4)) (fun r gi hr => go 1 _ r gi (by omega) hr)
    · exact mhead_le _ 256 slices_S512x512_o0_256_S64x128 slices_S512x512_o64_256_S64x128 slices_S512x512_o128_256_S64x128 slices_S512x512_o192_256_S64x128 slices_S512x512_o256_256_S64x128 slices_S512x512_o320_256_S64x128 slices_S512x512_o384_256_S64x128 slices_S512x512_o448_256_S64x128 _ _ _ (by omega) a b x (fun s => Xs i S kf 2 b.val s (pq i arg4 X4 2)) (512 * ((i 1).val / 4)) (fun r gi hr => go 2 _ r gi (by omega) hr)
    · exact mhead_le _ 384 slices_S512x512_o0_384_S64x128 slices_S512x512_o64_384_S64x128 slices_S512x512_o128_384_S64x128 slices_S512x512_o192_384_S64x128 slices_S512x512_o256_384_S64x128 slices_S512x512_o320_384_S64x128 slices_S512x512_o384_384_S64x128 slices_S512x512_o448_384_S64x128 _ _ _ (by omega) a b x (fun s => Xs i S kf 3 b.val s (pq i arg4 X4 3)) (512 * ((i 1).val / 4)) (fun r gi hr => go 3 _ r gi (by omega) hr)
  rw [step, ih, ht]
  constructor
  · rintro ⟨h1, h2⟩ ch hch
    rcases Nat.lt_succ_iff_lt_or_eq.mp hch with h | h
    · exact h1 ch h
    · subst h; exact h2
  · exact fun h => ⟨fun ch hch => h ch (Nat.lt_succ_of_lt hch), h _ (Nat.lt_succ_self _)⟩

/-- The row maximum over all visited keys, moved down by eight. -/
theorem mb_eq (hS : ∀ (s : Fin 16384) (j : Fin 512), ∑ d : Fin 128, arg10.view.read (Elt Ideal) X10 (ix2 s d) * pqt arg5 X5 (ix2 j d) = S j.val s.val)
    (hk : ∀ s : Fin 256, arg3.view.read (Elt Ideal) X3 (ix2 (⟨(i 0).val, i0_lt i⟩ : Fin 8) s) = kf s.val)
    (n : Fin 4) (b : Fin 128) :
    k0_pay274 (pM c i arg3 harg3 arg4 harg4 arg5 harg5 arg6 harg6 arg7 harg7 arg8 harg8 arg9 harg9 arg10 harg10 arg11 harg11 arg12 harg12 X3 X4 X5 X7 X8 X10 f11 n) (ix2 0 b) = (Finset.range (NK i)).sup (fun s => Xs i S kf n.val b.val s (pq i arg4 X4 n)) - ((8 : ℝ) : EReal) := by
  rw [mb_apply]
  refine congrArg (· - ((8 : ℝ) : EReal)) (eq_of_forall_ge_iff fun x => ?_)
  rw [Finset.sup_le_iff, Finset.sup_le_iff]
  constructor
  · intro h s hs
    have hs : s < ((i 1).val / 4 + 1) * 512 := Finset.mem_range.mp hs
    have := (pM_le c i arg3 harg3 arg4 harg4 arg5 harg5 arg6 harg6 arg7 harg7 arg8 harg8 arg9 harg9 arg10 harg10 arg11 harg11 arg12 harg12 X3 X4 X5 X7 X8 X10 f11 S kf hS hk n ⟨s % 8, by omega⟩ b x).mp (h _ (Finset.mem_univ _)) (s / 512) (by omega) ⟨s % 512 / 64, by omega⟩ ⟨s % 64 / 8, by omega⟩
    rwa [show 512 * (s / 512) + (64 * (s % 512 / 64) + (s % 64 / 8 * 8 + s % 8)) = s by omega] at this
  · intro h a _
    refine (pM_le c i arg3 harg3 arg4 harg4 arg5 harg5 arg6 harg6 arg7 harg7 arg8 harg8 arg9 harg9 arg10 harg10 arg11 harg11 arg12 harg12 X3 X4 X5 X7 X8 X10 f11 S kf hS hk n a b x).mpr fun ch hch gi g => h _ (Finset.mem_range.mpr ?_)
    show _ < ((i 1).val / 4 + 1) * 512
    omega

end Cert.KernelIdeal.Body

end
-- ==== Proof.SumI.lean ====
/- The value loop of one grid point over the extended reals: its running sums and accumulator in closed form,
   and from them each output element as one row of the streaming softmax. -/
module

public import proofs.«01_k».proof.Proof.ChunkI
public import proofs.«01_k».proof.Proof.OffI
public import Idealize.ShloMosaic.Lib.WritesUnit

@[expose] public section

set_option maxRecDepth 65536

noncomputable section

namespace Cert.KernelIdeal.Body

open Cert.KernelIdeal Cert.KernelIdeal.Gen
open Idealize.ShloMosaic Idealize.ShloMosaic.TcCoe Idealize.ShloMosaic.Tactic

/-- Eight partial sums over chunks of eight groups of eight rows of eight are the sum over all keys. -/
theorem sum_chunks (f : ℕ → EReal) (C : ℕ) :
    ∑ a : Fin 8, ∑ ch ∈ Finset.range C, ∑ gi : Fin 8, ∑ g : Fin 8, f (512 * ch + (64 * gi.val + (g.val * 8 + a.val))) = ∑ s ∈ Finset.range (C * 512), f s := by
  rw [Cert.Attn.sum_range_mul f C 512, Finset.sum_comm]
  refine Finset.sum_congr rfl fun ch _ => ?_
  refine Eq.trans ?_ (Cert.Attn.sum_range_mul (fun r => f (ch * 512 + r)) 8 64).symm
  rw [Finset.sum_comm, Finset.sum_range]
  refine Finset.sum_congr rfl fun gi _ => ?_
  refine Eq.trans ?_ (Cert.Attn.sum_range_mul (fun r => f (ch * 512 + (gi.val * 64 + r))) 8 8).symm
  rw [Finset.sum_comm, Finset.sum_range]
  refine Finset.sum_congr rfl fun g _ => ?_
  rw [Finset.sum_range]
  refine Finset.sum_congr rfl fun a _ => congrArg f ?_
  omega

/-- Chunked sums of 512 keys are the sum over all keys. -/
theorem sum_rows (f : ℕ → EReal) (C : ℕ) :
    ∑ ch ∈ Finset.range C, ∑ r : Fin 512, f (512 * ch + r.val) = ∑ s ∈ Finset.range (C * 512), f s := by
  rw [Cert.Attn.sum_range_mul f C 512]
  refine Finset.sum_congr rfl fun ch _ => ?_
  rw [Finset.sum_range]
  exact Finset.sum_congr rfl fun r _ => congrArg f (by omega)

variable (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole)
  (X3 : BufTy.Contents (Elt Ideal) arg3.view.ty) (X4 : BufTy.Contents (Elt Ideal) arg4.view.ty) (X5 : BufTy.Contents (Elt Ideal) arg5.view.ty) (X7 : BufTy.Contents (Elt Ideal) arg7.view.ty) (X8 : BufTy.Contents (Elt Ideal) arg8.view.ty) (X10 : BufTy.Contents (Elt Ideal) arg10.view.ty) (f11 : BufTy.Contents (Elt Ideal) arg11.view.ty)
  (S : ℕ → ℕ → EReal) (kf : ℕ → EReal) (V : ℕ → ℕ → EReal)

/-- The exponential of key `s` for row `b` of head `n`. -/
def Es (n : Fin 4) (b : Fin 128) (s : ℕ) : EReal :=
  Ideal.exp2 (Xs i S kf n.val b.val s (pq i arg4 X4 n) - k0_pay274 (pM c i arg3 harg3 arg4 harg4 arg5 harg5 arg6 harg6 arg7 harg7 arg8 harg8 arg9 harg9 arg10 harg10 arg11 harg11 arg12 harg12 X3 X4 X5 X7 X8 X10 f11 n) (ix2 0 b))

theorem t4_exp (hS : ∀ (s : Fin 16384) (j : Fin 512), ∑ d : Fin 128, arg10.view.read (Elt Ideal) X10 (ix2 s d) * pqt arg5 X5 (ix2 j d) = S j.val s.val)
    (hk : ∀ s : Fin 256, arg3.view.read (Elt Ideal) X3 (ix2 (⟨(i 0).val, i0_lt i⟩ : Fin 8) s) = kf s.val)
    (k : Fin (k0_t4_loop i).trips) (n : Fin 4) (b : Fin 128) (off : Fin 8 → Fin 2 → ℕ) (inb : ∀ (r : Fin 8) a, off r a + S64x128.size a ≤ S16384x512.size a)
    (hoff : ∀ gi : Fin 8, off gi = ![512 * k.val + 64 * gi.val, 128 * n.val]) (gi : Fin 8) (r : Fin 64) :
    Ideal.exp2 (tga arg11 (pX11 c i arg3 harg3 arg4 harg4 arg5 harg5 arg6 harg6 arg7 harg7 arg8 harg8 arg9 harg9 arg10 harg10 arg11 harg11 arg12 harg12 X3 X4 X5 X7 X8 X10 f11) off inb gi (ix2 r b) * cf (pq i arg4 X4 n) (ksa arg3 X3 (fun r => k0_off13 i k (BitVec.ofNat 32 r.val)) (k0_off13_inb i k) gi)
      - k0_pay274 (pM c i arg3 harg3 arg4 harg4 arg5 harg5 arg6 harg6 arg7 harg7 arg8 harg8 arg9 harg9 arg10 harg10 arg11 harg11 arg12 harg12 X3 X4 X5 X7 X8 X10 f11 n) (ix2 0 b)) = Es c i arg3 harg3 arg4 harg4 arg5 harg5 arg6 harg6 arg7 harg7 arg8 harg8 arg9 harg9 arg10 harg10 arg11 harg11 arg12 harg12 X3 X4 X5 X7 X8 X10 f11 S kf n b (512 * k.val + (64 * gi.val + r.val)) := by
  have hk4 := k4_lt i k
  have h1 := i1_lt i
  rw [tga_apply arg11 _ off inb gi _ _ (hoff gi) r b (by omega) (by omega), x11_rows c i arg3 harg3 arg4 harg4 arg5 harg5 arg6 harg6 arg7 harg7 arg8 harg8 arg9 harg9 arg10 harg10 arg11 harg11 arg12 harg12 X3 X4 X5 X7 X8 X10 f11 S hS _ _ (by show 512 * k.val + 64 * gi.val + r.val < ((i 1).val / 4 + 1) * 512; omega),
    ksa_apply arg3 X3 _ _ gi ⟨(i 0).val, i0_lt i⟩ ⟨8 * k.val + gi.val, by omega⟩ (off13_eq i k gi), hk]
  unfold Es Xs
  simp only []
  rw [← Nat.add_assoc (512 * k.val), show (512 * k.val + 64 * gi.val + r.val) / 64 = 8 * k.val + gi.val by omega]

/-- The running sums after `k` chunks. -/
theorem t4_sum (hS : ∀ (s : Fin 16384) (j : Fin 512), ∑ d : Fin 128, arg10.view.read (Elt Ideal) X10 (ix2 s d) * pqt arg5 X5 (ix2 j d) = S j.val s.val)
    (hk : ∀ s : Fin 256, arg3.view.read (Elt Ideal) X3 (ix2 (⟨(i 0).val, i0_lt i⟩ : Fin 8) s) = kf s.val)
    (n : Fin 4) (a : Fin 8) (b : Fin 128) (k : ℕ) (hkt : k ≤ (k0_t4_loop i).trips) :
    proj4 (pS4 c i arg3 harg3 arg4 harg4 arg5 harg5 arg6 harg6 arg7 harg7 arg8 harg8 arg9 harg9 arg10 harg10 arg11 harg11 arg12 harg12 X3 X4 X5 X7 X8 X10 f11 k).1 n (ix2 a b) = ∑ ch ∈ Finset.range k, ∑ gi : Fin 8, ∑ g : Fin 8, Es c i arg3 harg3 arg4 harg4 arg5 harg5 arg6 harg6 arg7 harg7 arg8 harg8 arg9 harg9 arg10 harg10 arg11 harg11 arg12 harg12 X3 X4 X5 X7 X8 X10 f11 S kf n b (512 * ch + (64 * gi.val + (g.val * 8 + a.val))) := by
  induction k with
  | zero =>
    have e0 : (pL0 : FVec Ideal S8x128 .f32) (ix2 a b) = 0 := by pointwise [pL0]
    rw [Finset.sum_range_zero]
    fin_cases n <;> exact e0
  | succ k ih =>
    have hk1 : k < (k0_t4_loop i).trips := hkt
    have ih := ih (Nat.le_of_lt hk1)
    rw [Finset.sum_range_succ, ← ih]
    rw [show pS4 c i arg3 harg3 arg4 harg4 arg5 harg5 arg6 harg6 arg7 harg7 arg8 harg8 arg9 harg9 arg10 harg10 arg11 harg11 arg12 harg12 X3 X4 X5 X7 X8 X10 f11 (k + 1) = _ from st_k0_t4_succ (F := Ideal) Variants.none c none i arg3 harg3 arg4 harg4 arg5 harg5 arg6 harg6 arg7 harg7 arg8 harg8 arg9 harg9 arg10 harg10 arg11 harg11 arg12 harg12 (BitVec.ofNat 32 (i 0).val) (pq i arg4 X4 0) (pq i arg4 X4 1) (pq i arg4 X4 2) (pq i arg4 X4 3) (0#32) (k0_pay274 (pM0 c i arg3 harg3 arg4 harg4 arg5 harg5 arg6 harg6 arg7 harg7 arg8 harg8 arg9 harg9 arg10 harg10 arg11 harg11 arg12 harg12 X3 X4 X5 X7 X8 X10 f11)) (k0_pay274 (pM1 c i arg3 harg3 arg4 harg4 arg5 harg5 arg6 harg6 arg7 harg7 arg8 harg8 arg9 harg9 arg10 harg10 arg11 harg11 arg12 harg12 X3 X4 X5 X7 X8 X10 f11)) (k0_pay274 (pM2 c i arg3 harg3 arg4 harg4 arg5 harg5 arg6 harg6 arg7 harg7 arg8 harg8 arg9 harg9 arg10 harg10 arg11 harg11 arg12 harg12 X3 X4 X5 X7 X8 X10 f11)) (k0_pay274 (pM3 c i arg3 harg3 arg4 harg4 arg5 harg5 arg6 harg6 arg7 harg7 arg8 harg8 arg9 harg9 arg10 harg10 arg11 harg11 arg12 harg12 X3 X4 X5 X7 X8 X10 f11)) pL0 pL0 pL0 pL0 X3 X7 (pX11 c i arg3 harg3 arg4 harg4 arg5 harg5 arg6 harg6 arg7 harg7 arg8 harg8 arg9 harg9 arg10 harg10 arg11 harg11 arg12 harg12 X3 X4 X5 X7 X8 X10 f11) _ _ ⟨k, hk1⟩, trip4R]
    fin_cases n
    · exact lhead_apply (tga arg11 (pX11 c i arg3 harg3 arg4 harg4 arg5 harg5 arg6 harg6 arg7 harg7 arg8 harg8 arg9 harg9 arg10 harg10 arg11 harg11 arg12 harg12 X3 X4 X5 X7 X8 X10 f11) (fun r => k0_off12 i ⟨k, hk1⟩ (BitVec.ofNat 32 (64 * r.val))) (k0_off12_inb i ⟨k, hk1⟩)) (pq i arg4 X4 0) (ksa arg3 X3 (fun r => k0_off13 i ⟨k, hk1⟩ (BitVec.ofNat 32 r.val)) (k0_off13_inb i ⟨k, hk1⟩)) (k0_pay274 (pM0 c i arg3 harg3 arg4 harg4 arg5 harg5 arg6 harg6 arg7 harg7 arg8 harg8 arg9 harg9 arg10 harg10 arg11 harg11 arg12 harg12 X3 X4 X5 X7 X8 X10 f11)) _ a b (Es c i arg3 harg3 arg4 harg4 arg5 harg5 arg6 harg6 arg7 harg7 arg8 harg8 arg9 harg9 arg10 harg10 arg11 harg11 arg12 harg12 X3 X4 X5 X7 X8 X10 f11 S kf 0 b) (512 * k) (fun gi r => t4_exp c i arg3 harg3 arg4 harg4 arg5 harg5 arg6 harg6 arg7 harg7 arg8 harg8 arg9 harg9 arg10 harg10 arg11 harg11 arg12 harg12 X3 X4 X5 X7 X8 X10 f11 S kf hS hk ⟨k, hk1⟩ 0 b _ _ (fun gi => off12_eq i ⟨k, hk1⟩ gi) gi r)
    · exact lhead_apply (tga arg11 (pX11 c i arg3 harg3 arg4 harg4 arg5 harg5 arg6 harg6 arg7 harg7 arg8 harg8 arg9 harg9 arg10 harg10 arg11 harg11 arg12 harg12 X3 X4 X5 X7 X8 X10 f11) (fun r => k0_off14 i ⟨k, hk1⟩ (BitVec.ofNat 32 (64 * r.val))) (k0_off14_inb i ⟨k, hk1⟩)) (pq i arg4 X4 1) (ksa arg3 X3 (fun r => k0_off13 i ⟨k, hk1⟩ (BitVec.ofNat 32 r.val)) (k0_off13_inb i ⟨k, hk1⟩)) (k0_pay274 (pM1 c i arg3 harg3 arg4 harg4 arg5 harg5 arg6 harg6 arg7 harg7 arg8 harg8 arg9 harg9 arg10 harg10 arg11 harg11 arg12 harg12 X3 X4 X5 X7 X8 X10 f11)) _ a b (Es c i arg3 harg3 arg4 harg4 arg5 harg5 arg6 harg6 arg7 harg7 arg8 harg8 arg9 harg9 arg10 harg10 arg11 harg11 arg12 harg12 X3 X4 X5 X7 X8 X10 f11 S kf 1 b) (512 * k) (fun gi r => t4_exp c i arg3 harg3 arg4 harg4 arg5 harg5 arg6 harg6 arg7 harg7 arg8 harg8 arg9 harg9 arg10 harg10 arg11 harg11 arg12 harg12 X3 X4 X5 X7 X8 X10 f11 S kf hS hk ⟨k, hk1⟩ 1 b _ _ (fun gi => off14_eq i ⟨k, hk1⟩ gi) gi r)
    · exact lhead_apply (tga arg11 (pX11 c i arg3 harg3 arg4 harg4 arg5 harg5 arg6 harg6 arg7 harg7 arg8 harg8 arg9 harg9 arg10 harg10 arg11 harg11 arg12 harg12 X3 X4 X5 X7 X8 X10 f11) (fun r => k0_off15 i ⟨k, hk1⟩ (BitVec.ofNat 32 (64 * r.val))) (k0_off15_inb i ⟨k, hk1⟩)) (pq i arg4 X4 2) (ksa arg3 X3 (fun r => k0_off13 i ⟨k, hk1⟩ (BitVec.ofNat 32 r.val)) (k0_off13_inb i ⟨k, hk1⟩)) (k0_pay274 (pM2 c i arg3 harg3 arg4 harg4 arg5 harg5 arg6 harg6 arg7 harg7 arg8 harg8 arg9 harg9 arg10 harg10 arg11 harg11 arg12 harg12 X3 X4 X5 X7 X8 X10 f11)) _ a b (Es c i arg3 harg3 arg4 harg4 arg5 harg5 arg6 harg6 arg7 harg7 arg8 harg8 arg9 harg9 arg10 harg10 arg11 harg11 arg12 harg12 X3 X4 X5 X7 X8 X10 f11 S kf 2 b) (512 * k) (fun gi r => t4_exp c i arg3 harg3 arg4 harg4 arg5 harg5 arg6 harg6 arg7 harg7 arg8 harg8 arg9 harg9 arg10 harg10 arg11 harg11 arg12 harg12 X3 X4 X5 X7 X8 X10 f11 S kf hS hk ⟨k, hk1⟩ 2 b _ _ (fun gi => off15_eq i ⟨k, hk1⟩ gi) gi r)
    · exact lhead_apply (tga arg11 (pX11 c i arg3 harg3 arg4 harg4 arg5 harg5 arg6 harg6 arg7 harg7 arg8 harg8 arg9 harg9 arg10 harg10 arg11 harg11 arg12 harg12 X3 X4 X5 X7 X8 X10 f11) (fun r => k0_off16 i ⟨k, hk1⟩ (BitVec.ofNat 32 (64 * r.val))) (k0_off16_inb i ⟨k, hk1⟩)) (pq i arg4 X4 3) (ksa arg3 X3 (fun r => k0_off13 i ⟨k, hk1⟩ (BitVec.ofNat 32 r.val)) (k0_off13_inb i ⟨k, hk1⟩)) (k0_pay274 (pM3 c i arg3 harg3 arg4 harg4 arg5 harg5 arg6 harg6 arg7 harg7 arg8 harg8 arg9 harg9 arg10 harg10 arg11 harg11 arg12 harg12 X3 X4 X5 X7 X8 X10 f11)) _ a b (Es c i arg3 harg3 arg4 harg4 arg5 harg5 arg6 harg6 arg7 harg7 arg8 harg8 arg9 harg9 arg10 harg10 arg11 harg11 arg12 harg12 X3 X4 X5 X7 X8 X10 f11 S kf 3 b) (512 * k) (fun gi r => t4_exp c i arg3 harg3 arg4 harg4 arg5 harg5 arg6 harg6 arg7 harg7 arg8 harg8 arg9 harg9 arg10 harg10 arg11 harg11 arg12 harg12 X3 X4 X5 X7 X8 X10 f11 S kf hS hk ⟨k, hk1⟩ 3 b _ _ (fun gi => off16_eq i ⟨k, hk1⟩ gi) gi r)

/-- The accumulator after `k` chunks. -/
theorem t4_acc (hS : ∀ (s : Fin 16384) (j : Fin 512), ∑ d : Fin 128, arg10.view.read (Elt Ideal) X10 (ix2 s d) * pqt arg5 X5 (ix2 j d) = S j.val s.val)
    (hk : ∀ s : Fin 256, arg3.view.read (Elt Ideal) X3 (ix2 (⟨(i 0).val, i0_lt i⟩ : Fin 8) s) = kf s.val)
    (hV : ∀ (d : Fin 128) (s : Fin 16384), arg7.view.read (Elt Ideal) X7 (ix2 d s) = V d.val s.val)
    (n : Fin 4) (d b : Fin 128) (hj : 128 * n.val + b.val < 512) (k : ℕ) (hkt : k ≤ (k0_t4_loop i).trips) :
    arg12.view.read (Elt Ideal) (arg12.view.writes (Elt Ideal) (arg12.view.writes (Elt Ideal) arg12.view.junk pZ) (pS4 c i arg3 harg3 arg4 harg4 arg5 harg5 arg6 harg6 arg7 harg7 arg8 harg8 arg9 harg9 arg10 harg10 arg11 harg11 arg12 harg12 X3 X4 X5 X7 X8 X10 f11 k).2) (ix2 d (⟨128 * n.val + b.val, hj⟩ : Fin 512))
      = ∑ ch ∈ Finset.range k, ∑ r : Fin 512, V d.val (512 * ch + r.val) * min (Es c i arg3 harg3 arg4 harg4 arg5 harg5 arg6 harg6 arg7 harg7 arg8 harg8 arg9 harg9 arg10 harg10 arg11 harg11 arg12 harg12 X3 X4 X5 X7 X8 X10 f11 S kf n b (512 * ch + r.val)) (Ideal.ofBits .f32 1138753536#32) := by
  induction k with
  | zero =>
    rw [Finset.sum_range_zero]
    refine (View.read_writes_cons_rows_of_mem arg12.view arg12.view.junk _ _ [] (ix2 d (⟨128 * n.val + b.val, hj⟩ : Fin 512)) (ix2 d (⟨128 * n.val + b.val, hj⟩ : Fin 512)) rfl (Nat.zero_add _).symm rfl).trans ?_
    refine (congrFun (shapeCast_self _ _) _).trans ?_
    have e0 : (broadcast S128x512 (FloatOps.ofBits FTy.f32 0#32) : FVec Ideal S128x512 .f32) (ix2 d (⟨128 * n.val + b.val, hj⟩ : Fin 512)) = 0 := by pointwise []
    exact e0
  | succ k ih =>
    have hk1 : k < (k0_t4_loop i).trips := hkt
    have hk4 := k4_lt i ⟨k, hk1⟩
    have h1 := i1_lt i
    simp only [] at hk4
    have ih := ih (Nat.le_of_lt hk1)
    rw [Finset.sum_range_succ, ← ih]
    rw [show pS4 c i arg3 harg3 arg4 harg4 arg5 harg5 arg6 harg6 arg7 harg7 arg8 harg8 arg9 harg9 arg10 harg10 arg11 harg11 arg12 harg12 X3 X4 X5 X7 X8 X10 f11 (k + 1) = _ from st_k0_t4_succ (F := Ideal) Variants.none c none i arg3 harg3 arg4 harg4 arg5 harg5 arg6 harg6 arg7 harg7 arg8 harg8 arg9 harg9 arg10 harg10 arg11 harg11 arg12 harg12 (BitVec.ofNat 32 (i 0).val) (pq i arg4 X4 0) (pq i arg4 X4 1) (pq i arg4 X4 2) (pq i arg4 X4 3) (0#32) (k0_pay274 (pM0 c i arg3 harg3 arg4 harg4 arg5 harg5 arg6 harg6 arg7 harg7 arg8 harg8 arg9 harg9 arg10 harg10 arg11 harg11 arg12 harg12 X3 X4 X5 X7 X8 X10 f11)) (k0_pay274 (pM1 c i arg3 harg3 arg4 harg4 arg5 harg5 arg6 harg6 arg7 harg7 arg8 harg8 arg9 harg9 arg10 harg10 arg11 harg11 arg12 harg12 X3 X4 X5 X7 X8 X10 f11)) (k0_pay274 (pM2 c i arg3 harg3 arg4 harg4 arg5 harg5 arg6 harg6 arg7 harg7 arg8 harg8 arg9 harg9 arg10 harg10 arg11 harg11 arg12 harg12 X3 X4 X5 X7 X8 X10 f11)) (k0_pay274 (pM3 c i arg3 harg3 arg4 harg4 arg5 harg5 arg6 harg6 arg7 harg7 arg8 harg8 arg9 harg9 arg10 harg10 arg11 harg11 arg12 harg12 X3 X4 X5 X7 X8 X10 f11)) pL0 pL0 pL0 pL0 X3 X7 (pX11 c i arg3 harg3 arg4 harg4 arg5 harg5 arg6 harg6 arg7 harg7 arg8 harg8 arg9 harg9 arg10 harg10 arg11 harg11 arg12 harg12 X3 X4 X5 X7 X8 X10 f11) _ _ ⟨k, hk1⟩, trip4L]
    refine (View.read_writes_cons_rows_of_mem arg12.view _ _ _ _ (ix2 d (⟨128 * n.val + b.val, hj⟩ : Fin 512)) (ix2 d (⟨128 * n.val + b.val, hj⟩ : Fin 512)) rfl (Nat.zero_add _).symm rfl).trans ?_
    rw [oacc_apply]
    refine congrArg₂ (· + ·) ?_ (Finset.sum_congr rfl fun r _ => congrArg₂ (· * ·) ?_ ?_)
    · exact readAt_off arg12 _ _ _ _ _ _ _ rfl (Fin.forall_fin_two.mpr ⟨(Nat.zero_add _).symm, (Nat.zero_add _).symm⟩)
    · exact (readAt_off arg7 X7 _ _ _ _ (ix2 d r) (ix2 d (⟨512 * k + r.val, by omega⟩ : Fin 16384)) (off17_eq i ⟨k, hk1⟩) (Fin.forall_fin_two.mpr ⟨(Nat.zero_add _).symm, rfl⟩)).trans (hV d _)
    · refine (pall_apply ![(phead (tga arg11 (pX11 c i arg3 harg3 arg4 harg4 arg5 harg5 arg6 harg6 arg7 harg7 arg8 harg8 arg9 harg9 arg10 harg10 arg11 harg11 arg12 harg12 X3 X4 X5 X7 X8 X10 f11) (fun r => k0_off12 i ⟨k, hk1⟩ (BitVec.ofNat 32 (64 * r.val))) (k0_off12_inb i ⟨k, hk1⟩)) (pq i arg4 X4 0) (ksa arg3 X3 (fun r => k0_off13 i ⟨k, hk1⟩ (BitVec.ofNat 32 r.val)) (k0_off13_inb i ⟨k, hk1⟩)) (k0_pay274 (pM0 c i arg3 harg3 arg4 harg4 arg5 harg5 arg6 harg6 arg7 harg7 arg8 harg8 arg9 harg9 arg10 harg10 arg11 harg11 arg12 harg12 X3 X4 X5 X7 X8 X10 f11))), (phead (tga arg11 (pX11 c i arg3 harg3 arg4 harg4 arg5 harg5 arg6 harg6 arg7 harg7 arg8 harg8 arg9 harg9 arg10 harg10 arg11 harg11 arg12 harg12 X3 X4 X5 X7 X8 X10 f11) (fun r => k0_off14 i ⟨k, hk1⟩ (BitVec.ofNat 32 (64 * r.val))) (k0_off14_inb i ⟨k, hk1⟩)) (pq i arg4 X4 1) (ksa arg3 X3 (fun r => k0_off13 i ⟨k, hk1⟩ (BitVec.ofNat 32 r.val)) (k0_off13_inb i ⟨k, hk1⟩)) (k0_pay274 (pM1 c i arg3 harg3 arg4 harg4 arg5 harg5 arg6 harg6 arg7 harg7 arg8 harg8 arg9 harg9 arg10 harg10 arg11 harg11 arg12 harg12 X3 X4 X5 X7 X8 X10 f11))), (phead (tga arg11 (pX11 c i arg3 harg3 arg4 harg4 arg5 harg5 arg6 harg6 arg7 harg7 arg8 harg8 arg9 harg9 arg10 harg10 arg11 harg11 arg12 harg12 X3 X4 X5 X7 X8 X10 f11) (fun r => k0_off15 i ⟨k, hk1⟩ (BitVec.ofNat 32 (64 * r.val))) (k0_off15_inb i ⟨k, hk1⟩)) (pq i arg4 X4 2) (ksa arg3 X3 (fun r => k0_off13 i ⟨k, hk1⟩ (BitVec.ofNat 32 r.val)) (k0_off13_inb i ⟨k, hk1⟩)) (k0_pay274 (pM2 c i arg3 harg3 arg4 harg4 arg5 harg5 arg6 harg6 arg7 harg7 arg8 harg8 arg9 harg9 arg10 harg10 arg11 harg11 arg12 harg12 X3 X4 X5 X7 X8 X10 f11))), (phead (tga arg11 (pX11 c i arg3 harg3 arg4 harg4 arg5 harg5 arg6 harg6 arg7 harg7 arg8 harg8 arg9 harg9 arg10 harg10 arg11 harg11 arg12 harg12 X3 X4 X5 X7 X8 X10 f11) (fun r => k0_off16 i ⟨k, hk1⟩ (BitVec.ofNat 32 (64 * r.val))) (k0_off16_inb i ⟨k, hk1⟩)) (pq i arg4 X4 3) (ksa arg3 X3 (fun r => k0_off13 i ⟨k, hk1⟩ (BitVec.ofNat 32 r.val)) (k0_off13_inb i ⟨k, hk1⟩)) (k0_pay274 (pM3 c i arg3 harg3 arg4 harg4 arg5 harg5 arg6 harg6 arg7 harg7 arg8 harg8 arg9 harg9 arg10 harg10 arg11 harg11 arg12 harg12 X3 X4 X5 X7 X8 X10 f11)))] n r b).trans ?_
      fin_cases n
      · exact phead_row (tga arg11 (pX11 c i arg3 harg3 arg4 harg4 arg5 harg5 arg6 harg6 arg7 harg7 arg8 harg8 arg9 harg9 arg10 harg10 arg11 harg11 arg12 harg12 X3 X4 X5 X7 X8 X10 f11) (fun r => k0_off12 i ⟨k, hk1⟩ (BitVec.ofNat 32 (64 * r.val))) (k0_off12_inb i ⟨k, hk1⟩)) (pq i arg4 X4 0) (ksa arg3 X3 (fun r => k0_off13 i ⟨k, hk1⟩ (BitVec.ofNat 32 r.val)) (k0_off13_inb i ⟨k, hk1⟩)) (k0_pay274 (pM0 c i arg3 harg3 arg4 harg4 arg5 harg5 arg6 harg6 arg7 harg7 arg8 harg8 arg9 harg9 arg10 harg10 arg11 harg11 arg12 harg12 X3 X4 X5 X7 X8 X10 f11)) r b (Es c i arg3 harg3 arg4 harg4 arg5 harg5 arg6 harg6 arg7 harg7 arg8 harg8 arg9 harg9 arg10 harg10 arg11 harg11 arg12 harg12 X3 X4 X5 X7 X8 X10 f11 S kf 0 b) (512 * k) (fun gi r => t4_exp c i arg3 harg3 arg4 harg4 arg5 harg5 arg6 harg6 arg7 harg7 arg8 harg8 arg9 harg9 arg10 harg10 arg11 harg11 arg12 harg12 X3 X4 X5 X7 X8 X10 f11 S kf hS hk ⟨k, hk1⟩ 0 b _ _ (fun gi => off12_eq i ⟨k, hk1⟩ gi) gi r)
      · exact phead_row (tga arg11 (pX11 c i arg3 harg3 arg4 harg4 arg5 harg5 arg6 harg6 arg7 harg7 arg8 harg8 arg9 harg9 arg10 harg10 arg11 harg11 arg12 harg12 X3 X4 X5 X7 X8 X10 f11) (fun r => k0_off14 i ⟨k, hk1⟩ (BitVec.ofNat 32 (64 * r.val))) (k0_off14_inb i ⟨k, hk1⟩)) (pq i arg4 X4 1) (ksa arg3 X3 (fun r => k0_off13 i ⟨k, hk1⟩ (BitVec.ofNat 32 r.val)) (k0_off13_inb i ⟨k, hk1⟩)) (k0_pay274 (pM1 c i arg3 harg3 arg4 harg4 arg5 harg5 arg6 harg6 arg7 harg7 arg8 harg8 arg9 harg9 arg10 harg10 arg11 harg11 arg12 harg12 X3 X4 X5 X7 X8 X10 f11)) r b (Es c i arg3 harg3 arg4 harg4 arg5 harg5 arg6 harg6 arg7 harg7 arg8 harg8 arg9 harg9 arg10 harg10 arg11 harg11 arg12 harg12 X3 X4 X5 X7 X8 X10 f11 S kf 1 b) (512 * k) (fun gi r => t4_exp c i arg3 harg3 arg4 harg4 arg5 harg5 arg6 harg6 arg7 harg7 arg8 harg8 arg9 harg9 arg10 harg10 arg11 harg11 arg12 harg12 X3 X4 X5 X7 X8 X10 f11 S kf hS hk ⟨k, hk1⟩ 1 b _ _ (fun gi => off14_eq i ⟨k, hk1⟩ gi) gi r)
      · exact phead_row (tga arg11 (pX11 c i arg3 harg3 arg4 harg4 arg5 harg5 arg6 harg6 arg7 harg7 arg8 harg8 arg9 harg9 arg10 harg10 arg11 harg11 arg12 harg12 X3 X4 X5 X7 X8 X10 f11) (fun r => k0_off15 i ⟨k, hk1⟩ (BitVec.ofNat 32 (64 * r.val))) (k0_off15_inb i ⟨k, hk1⟩)) (pq i arg4 X4 2) (ksa arg3 X3 (fun r => k0_off13 i ⟨k, hk1⟩ (BitVec.ofNat 32 r.val)) (k0_off13_inb i ⟨k, hk1⟩)) (k0_pay274 (pM2 c i arg3 harg3 arg4 harg4 arg5 harg5 arg6 harg6 arg7 harg7 arg8 harg8 arg9 harg9 arg10 harg10 arg11 harg11 arg12 harg12 X3 X4 X5 X7 X8 X10 f11)) r b (Es c i arg3 harg3 arg4 harg4 arg5 harg5 arg6 harg6 arg7 harg7 arg8 harg8 arg9 harg9 arg10 harg10 arg11 harg11 arg12 harg12 X3 X4 X5 X7 X8 X10 f11 S kf 2 b) (512 * k) (fun gi r => t4_exp c i arg3 harg3 arg4 harg4 arg5 harg5 arg6 harg6 arg7 harg7 arg8 harg8 arg9 harg9 arg10 harg10 arg11 harg11 arg12 harg12 X3 X4 X5 X7 X8 X10 f11 S kf hS hk ⟨k, hk1⟩ 2 b _ _ (fun gi => off15_eq i ⟨k, hk1⟩ gi) gi r)
      · exact phead_row (tga arg11 (pX11 c i arg3 harg3 arg4 harg4 arg5 harg5 arg6 harg6 arg7 harg7 arg8 harg8 arg9 harg9 arg10 harg10 arg11 harg11 arg12 harg12 X3 X4 X5 X7 X8 X10 f11) (fun r => k0_off16 i ⟨k, hk1⟩ (BitVec.ofNat 32 (64 * r.val))) (k0_off16_inb i ⟨k, hk1⟩)) (pq i arg4 X4 3) (ksa arg3 X3 (fun r => k0_off13 i ⟨k, hk1⟩ (BitVec.ofNat 32 r.val)) (k0_off13_inb i ⟨k, hk1⟩)) (k0_pay274 (pM3 c i arg3 harg3 arg4 harg4 arg5 harg5 arg6 harg6 arg7 harg7 arg8 harg8 arg9 harg9 arg10 harg10 arg11 harg11 arg12 harg12 X3 X4 X5 X7 X8 X10 f11)) r b (Es c i arg3 harg3 arg4 harg4 arg5 harg5 arg6 harg6 arg7 harg7 arg8 harg8 arg9 harg9 arg10 harg10 arg11 harg11 arg12 harg12 X3 X4 X5 X7 X8 X10 f11 S kf 3 b) (512 * k) (fun gi r => t4_exp c i arg3 harg3 arg4 harg4 arg5 harg5 arg6 harg6 arg7 harg7 arg8 harg8 arg9 harg9 arg10 harg10 arg11 harg11 arg12 harg12 X3 X4 X5 X7 X8 X10 f11 S kf hS hk ⟨k, hk1⟩ 3 b _ _ (fun gi => off16_eq i ⟨k, hk1⟩ gi) gi r)

/-- The four heads' parts. -/
def pO (n : Fin 4) : FVec Ideal S128x128 .bf16 := ![pO0 c i arg3 harg3 arg4 harg4 arg5 harg5 arg6 harg6 arg7 harg7 arg8 harg8 arg9 harg9 arg10 harg10 arg11 harg11 arg12 harg12 X3 X4 X5 X7 X8 X10 f11, pO1 c i arg3 harg3 arg4 harg4 arg5 harg5 arg6 harg6 arg7 harg7 arg8 harg8 arg9 harg9 arg10 harg10 arg11 harg11 arg12 harg12 X3 X4 X5 X7 X8 X10 f11, pO2 c i arg3 harg3 arg4 harg4 arg5 harg5 arg6 harg6 arg7 harg7 arg8 harg8 arg9 harg9 arg10 harg10 arg11 harg11 arg12 harg12 X3 X4 X5 X7 X8 X10 f11, pO3 c i arg3 harg3 arg4 harg4 arg5 harg5 arg6 harg6 arg7 harg7 arg8 harg8 arg9 harg9 arg10 harg10 arg11 harg11 arg12 harg12 X3 X4 X5 X7 X8 X10 f11] n

/-- One element of the output block is one row of the streaming softmax. -/
theorem pO_row (hS : ∀ (s : Fin 16384) (j : Fin 512), ∑ d : Fin 128, arg10.view.read (Elt Ideal) X10 (ix2 s d) * pqt arg5 X5 (ix2 j d) = S j.val s.val)
    (hk : ∀ s : Fin 256, arg3.view.read (Elt Ideal) X3 (ix2 (⟨(i 0).val, i0_lt i⟩ : Fin 8) s) = kf s.val)
    (hV : ∀ (d : Fin 128) (s : Fin 16384), arg7.view.read (Elt Ideal) X7 (ix2 d s) = V d.val s.val)
    (qq : Fin 4 → EReal) (hq : ∀ n, pq i arg4 X4 n = qq n * (Cert.Attn.L : EReal))
    (vs : Fin 128 → EReal) (hW : ∀ d : Fin 128, arg8.view.read (Elt Ideal) X8 (ix3 0 0 d) = vs d)
    (n : Fin 4) (r d : Fin 128) :
    pO c i arg3 harg3 arg4 harg4 arg5 harg5 arg6 harg6 arg7 harg7 arg8 harg8 arg9 harg9 arg10 harg10 arg11 harg11 arg12 harg12 X3 X4 X5 X7 X8 X10 f11 n (ix2 r d) = Cert.Attn.kernelRow (S (128 * n.val + r.val)) (fun s => kf (s / 64)) (V d.val) (qq n) (128 * (i 1).val + r.val) (NK i)
      (Ideal.ofBits .f32 1138753536#32) (((256⁻¹ : ℝ) : EReal) * vs d) := by
  have ht : (Scf.trips (k0_t4_loop i).lb (k0_t4_loop i).ub (k0_t4_loop i).st) = (i 1).val / 4 + 1 := t4_trips i
  have hx : ∀ s, Xs i S kf n.val r.val s (pq i arg4 X4 n) = Cert.Attn.x (S (128 * n.val + r.val)) (fun s => kf (s / 64)) (qq n) (128 * (i 1).val + r.val) s := fun s => by
    unfold Xs Sm Cert.Attn.x cf
    rw [hq, show (128 * n.val + r.val) % 128 = r.val by omega]
  have hE : ∀ s, Es c i arg3 harg3 arg4 harg4 arg5 harg5 arg6 harg6 arg7 harg7 arg8 harg8 arg9 harg9 arg10 harg10 arg11 harg11 arg12 harg12 X3 X4 X5 X7 X8 X10 f11 S kf n r s = Cert.Attn.e (S (128 * n.val + r.val)) (fun s => kf (s / 64)) (qq n) (128 * (i 1).val + r.val) (NK i) s := fun s => by
    unfold Es Cert.Attn.e Cert.Attn.M
    rw [mb_eq c i arg3 harg3 arg4 harg4 arg5 harg5 arg6 harg6 arg7 harg7 arg8 harg8 arg9 harg9 arg10 harg10 arg11 harg11 arg12 harg12 X3 X4 X5 X7 X8 X10 f11 S kf hS hk n r, hx]
    rw [Finset.sup_congr rfl fun s _ => hx s]
  have hl : ∑ a : Fin 8, proj4 (pS4 c i arg3 harg3 arg4 harg4 arg5 harg5 arg6 harg6 arg7 harg7 arg8 harg8 arg9 harg9 arg10 harg10 arg11 harg11 arg12 harg12 X3 X4 X5 X7 X8 X10 f11 (Scf.trips (k0_t4_loop i).lb (k0_t4_loop i).ub (k0_t4_loop i).st)).1 n (ix2 a r) = ∑ s ∈ Finset.range (NK i), Cert.Attn.e (S (128 * n.val + r.val)) (fun s => kf (s / 64)) (qq n) (128 * (i 1).val + r.val) (NK i) s := by
    rw [Finset.sum_congr rfl fun a _ => t4_sum c i arg3 harg3 arg4 harg4 arg5 harg5 arg6 harg6 arg7 harg7 arg8 harg8 arg9 harg9 arg10 harg10 arg11 harg11 arg12 harg12 X3 X4 X5 X7 X8 X10 f11 S kf hS hk n a r (Scf.trips (k0_t4_loop i).lb (k0_t4_loop i).ub (k0_t4_loop i).st) (le_refl _), sum_chunks, ht]
    exact Finset.sum_congr rfl fun s _ => hE s
  have ho : arg12.view.read (Elt Ideal) (arg12.view.writes (Elt Ideal) (arg12.view.writes (Elt Ideal) arg12.view.junk pZ) (pS4 c i arg3 harg3 arg4 harg4 arg5 harg5 arg6 harg6 arg7 harg7 arg8 harg8 arg9 harg9 arg10 harg10 arg11 harg11 arg12 harg12 X3 X4 X5 X7 X8 X10 f11 (Scf.trips (k0_t4_loop i).lb (k0_t4_loop i).ub (k0_t4_loop i).st)).2) (ix2 d (⟨128 * n.val + r.val, by omega⟩ : Fin 512))
      = ∑ s ∈ Finset.range (NK i), V d.val s * min (Cert.Attn.e (S (128 * n.val + r.val)) (fun s => kf (s / 64)) (qq n) (128 * (i 1).val + r.val) (NK i) s) (Ideal.ofBits .f32 1138753536#32) := by
    rw [t4_acc c i arg3 harg3 arg4 harg4 arg5 harg5 arg6 harg6 arg7 harg7 arg8 harg8 arg9 harg9 arg10 harg10 arg11 harg11 arg12 harg12 X3 X4 X5 X7 X8 X10 f11 S kf V hS hk hV n d r _ (Scf.trips (k0_t4_loop i).lb (k0_t4_loop i).ub (k0_t4_loop i).st) (le_refl _), sum_rows (fun s => V d.val s * min (Es c i arg3 harg3 arg4 harg4 arg5 harg5 arg6 harg6 arg7 harg7 arg8 harg8 arg9 harg9 arg10 harg10 arg11 harg11 arg12 harg12 X3 X4 X5 X7 X8 X10 f11 S kf n r s) (Ideal.ofBits .f32 1138753536#32)), ht]
    exact Finset.sum_congr rfl fun s _ => by rw [hE s]
  have hw : k0_pay285 (F := Ideal) (View.readAt (Elt Ideal) arg8.view (Rect.unit ![0, 0, 0] S1x1x128.size inb_S1x1x128_S1x1x128_0_0_0).toLoadRect X8) (ix2 0 d) = ((256⁻¹ : ℝ) : EReal) * vs d := by
    rw [w_apply, ← hW]
    refine congrArg (fun z => ((256⁻¹ : ℝ) : EReal) * z) ?_
    refine readAt_off arg8 X8 _ _ _ _ _ (ix3 0 0 d) rfl fun a => ?_
    match a with
    | ⟨0, _⟩ => rfl
    | ⟨1, _⟩ => rfl
    | ⟨2, _⟩ => exact (Nat.zero_add _).symm
  have hc : ∀ (o : ℕ) (inb : ∀ a, ![0, o] a + S128x128.size a ≤ S128x512.size a) (ho : o = 128 * n.val),
      arg12.view.readCov ((pS4 c i arg3 harg3 arg4 harg4 arg5 harg5 arg6 harg6 arg7 harg7 arg8 harg8 arg9 harg9 arg10 harg10 arg11 harg11 arg12 harg12 X3 X4 X5 X7 X8 X10 f11 (Scf.trips (k0_t4_loop i).lb (k0_t4_loop i).ub (k0_t4_loop i).st)).2 ++ pZ) (Rect.unit (s := S128x512) ![0, o] S128x128.size inb).toLoadRect (ix2 d r)
        = arg12.view.read (Elt Ideal) (arg12.view.writes (Elt Ideal) (arg12.view.writes (Elt Ideal) arg12.view.junk pZ) (pS4 c i arg3 harg3 arg4 harg4 arg5 harg5 arg6 harg6 arg7 harg7 arg8 harg8 arg9 harg9 arg10 harg10 arg11 harg11 arg12 harg12 X3 X4 X5 X7 X8 X10 f11 (Scf.trips (k0_t4_loop i).lb (k0_t4_loop i).ub (k0_t4_loop i).st)).2) (ix2 d (⟨128 * n.val + r.val, by omega⟩ : Fin 512)) := by
    intro o inb ho
    subst ho
    rw [← View.writes_append]
    exact readAt_off arg12 _ _ _ _ _ _ _ rfl (Fin.forall_fin_two.mpr ⟨(Nat.zero_add _).symm, rfl⟩)
  unfold Cert.Attn.kernelRow
  rw [← hl, ← ho, ← hw]
  fin_cases n
  · exact (outb_apply _ _ _ r d).trans (congrArg (fun z => Ideal.div z _ * _) (hc 0 inb_S128x512_S128x128_0_0 rfl))
  · exact (outb_apply _ _ _ r d).trans (congrArg (fun z => Ideal.div z _ * _) (hc 128 inb_S128x512_S128x128_0_128 rfl))
  · exact (outb_apply _ _ _ r d).trans (congrArg (fun z => Ideal.div z _ * _) (hc 256 inb_S128x512_S128x128_0_256 rfl))
  · exact (outb_apply _ _ _ r d).trans (congrArg (fun z => Ideal.div z _ * _) (hc 384 inb_S128x512_S128x128_0_384 rfl))

end Cert.KernelIdeal.Body

end
-- ==== Proof.Spec.lean ====
/- One element of the attention output as a function of the six argument arrays, in the kernel's form
   and in the reference's, and their equality when no product of scales is below the floor. -/
module

public import proofs.«01_k».proof.Proof.Math

@[expose] public section

noncomputable section

namespace Cert.Attn

open Idealize.ShloMosaic

/-- An array read at natural numbers (zero outside). -/
def natAt {n k : ℕ} (X : Fin n → Fin k → EReal) (a b : ℕ) : EReal := if h : a < n ∧ b < k then X ⟨a, h.1⟩ ⟨b, h.2⟩ else 0

theorem natAt_eq {n k : ℕ} (X : Fin n → Fin k → EReal) (a b : ℕ) (ha : a < n) (hb : b < k) : natAt X a b = X ⟨a, ha⟩ ⟨b, hb⟩ :=
  dif_pos ⟨ha, hb⟩

/-- A code as a real number. -/
def code (w : BitVec 8) : EReal := ((w.toInt : ℝ) : EReal)

/-- The score of query row `R` of head `H` at key `s`, before scaling. -/
def rowS (Q : Fin 16384 → Fin 8192 → BitVec 8) (K : Fin 16384 → Fin 1024 → BitVec 8) (R H s : ℕ) : EReal :=
  ∑ d : Fin 128, natAt (fun a b => code (K a b)) s (128 * (H / 8) + d.val) * natAt (fun a b => code (Q a b)) R (128 * H + d.val)

variable (Q : Fin 16384 → Fin 8192 → BitVec 8) (qs : Fin 128 → Fin 64 → EReal) (K : Fin 16384 → Fin 1024 → BitVec 8) (ks : Fin 8 → Fin 256 → EReal)
  (V : Fin 1024 → Fin 16384 → EReal) (vs : Fin 8 → Fin 128 → EReal)

/-- The kernel's output element. -/
def outK (R H d : ℕ) : EReal :=
  kernelRow (rowS Q K R H) (fun s => natAt ks (H / 8) (s / 64)) (fun s => natAt V (128 * (H / 8) + d) s) (natAt qs (R / 128) H) R ((R / 512 + 1) * 512)
    (Ideal.ofBits .f32 1138753536#32) (((256⁻¹ : ℝ) : EReal) * natAt vs (H / 8) d)

/-- The reference's output element. -/
def outR (R H d : ℕ) : EReal :=
  refRow (rowS Q K R H) (fun s => natAt ks (H / 8) (s / 64)) (fun s => natAt V (128 * (H / 8) + d) s) (natAt qs (R / 128) H) R 16384
    (Ideal.ofBits .f32 1138753536#32) (((256⁻¹ : ℝ) : EReal) * natAt vs (H / 8) d)

theorem outK_eq (h : ∀ (b : Fin 128) (H : Fin 64) (g : Fin 8) (s : Fin 256), g.val = H.val / 8 → tiny ≤ qs b H * ks g s) (R H d : ℕ) (hR : R < 16384) (hH : H < 64) :
    outK Q qs K ks V vs R H d = outR Q qs K ks V vs R H d := by
  refine kernelRow_eq _ _ _ _ _ _ _ _ _ ?_ (fun s hs => ?_) (by omega) (by omega)
  · have e : Ideal.ofBits .f32 1138753536#32 = ((448 : ℝ) : EReal) := by
      simp [Ideal.ofBits, Ideal.ieee]; rw [← EReal.coe_mul]; norm_num
    rw [e]
    exact_mod_cast (by norm_num : (0 : ℝ) ≤ 448)
  · rw [natAt_eq _ _ _ (by omega) hH, natAt_eq _ _ _ (by omega) (by omega)]
    exact h _ _ _ _ rfl

end Cert.Attn

end
-- ==== Proof.PointVal.lean ====
/- What one grid point stores, from the blocks it is given and the key scratch: the widening loop's
   scratch, and the output element as the specification's. -/
module

public import proofs.«01_k».proof.Proof.SumI
public import proofs.«01_k».proof.Proof.Spec
public import Idealize.ShloMosaic.Lib.WritesUnit

@[expose] public section

set_option maxRecDepth 65536

noncomputable section

namespace Cert.KernelIdeal.Body

open Cert.KernelIdeal Cert.KernelIdeal.Gen
open Idealize.ShloMosaic Idealize.ShloMosaic.TcCoe Idealize.ShloMosaic.Tactic

theorem off1_eq (k : Fin k0_t1_loop.trips) : k0_off1 k = ![1024 * k.val, 0] := by
  have h : ∀ k : Fin k0_t1_loop.trips, k0_off1 k = ![1024 * k.val, 0] := by decide +kernel
  exact h k

/-- One trip of the widening loop. -/
theorem trip1L (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (h : k0_cond1 i = 1#1) (X6 : BufTy.Contents (Elt Ideal) arg6.view.ty) (k : Fin k0_t1_loop.trips) :
    tripL_k0_t1 (F := Ideal) Variants.none c none i arg3 harg3 arg4 harg4 arg5 harg5 arg6 harg6 arg7 harg7 arg8 harg8 arg9 harg9 arg10 harg10 arg11 harg11 arg12 harg12 h X6 k
      = [⟨Rect.unit (k0_off1 k) S1024x128.size (k0_off1_inb i k h), shapeCast S1024x128 (sitofp .bf16 (View.readAt (Elt Ideal) arg6.view (Rect.unit (s := S16384x128) (k0_off1 k) S1024x128.size (k0_off1_inb i k h)).toLoadRect X6) : FVec Ideal S1024x128 .bf16) shapeCasts_S1024x128_S1024x128⟩] := by
  unfold tripL_k0_t1 trip_k0_t1
  rfl

/-- The widening loop leaves the widened key codes in the rows it has visited. -/
theorem t1_rows (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (h : k0_cond1 i = 1#1) (X6 : BufTy.Contents (Elt Ideal) arg6.view.ty) (f10 : BufTy.Contents (Elt Ideal) arg10.view.ty)
    (r : Fin 16384) (d : Fin 128) (k : ℕ) (hkt : k ≤ k0_t1_loop.trips) (hr : r.val < 1024 * k) :
    arg10.view.read (Elt Ideal) (arg10.view.writes (Elt Ideal) f10 (pb_k0_t1 (F := Ideal) Variants.none c none i arg3 harg3 arg4 harg4 arg5 harg5 arg6 harg6 arg7 harg7 arg8 harg8 arg9 harg9 arg10 harg10 arg11 harg11 arg12 harg12 h X6 k)) (ix2 r d) = Cert.Attn.code (arg6.view.read (Elt Ideal) X6 (ix2 r d)) := by
  induction k with
  | zero => omega
  | succ k ih =>
    have hk1 : k < k0_t1_loop.trips := hkt
    rw [show pb_k0_t1 (F := Ideal) Variants.none c none i arg3 harg3 arg4 harg4 arg5 harg5 arg6 harg6 arg7 harg7 arg8 harg8 arg9 harg9 arg10 harg10 arg11 harg11 arg12 harg12 h X6 (k + 1) = _ from pb_k0_t1_succ (F := Ideal) Variants.none c none i arg3 harg3 arg4 harg4 arg5 harg5 arg6 harg6 arg7 harg7 arg8 harg8 arg9 harg9 arg10 harg10 arg11 harg11 arg12 harg12 h X6 ⟨k, hk1⟩, trip1L]
    by_cases hlt : r.val < 1024 * k
    · exact (View.read_writes_cons_rows_of_not_mem arg10.view f10 _ _ _ (ix2 r d) (off1_eq ⟨k, hk1⟩) (W := 1024) rfl (Or.inl hlt)).trans (ih (Nat.le_of_lt hk1) hlt)
    · refine (View.read_writes_cons_rows_of_mem arg10.view f10 _ _ _ (ix2 r d) (ix2 (⟨r.val - 1024 * k, by omega⟩ : Fin 1024) d) (off1_eq ⟨k, hk1⟩) (by show r.val = 1024 * k + (r.val - 1024 * k); omega) rfl).trans ?_
      refine (congrFun (shapeCast_self _ _) _).trans ?_
      refine congrArg Cert.Attn.code ?_
      exact readAt_off arg6 X6 _ _ _ _ (ix2 (⟨r.val - 1024 * k, by omega⟩ : Fin 1024) d) (ix2 r d) (off1_eq ⟨k, hk1⟩) (Fin.forall_fin_two.mpr ⟨by show r.val = 1024 * k + (r.val - 1024 * k); omega, (Nat.zero_add _).symm⟩)

theorem pq_log2e (x : Elt Ideal .f32) : k0_pay237 (F := Ideal) x = x * (Cert.Attn.L : EReal) := rfl

/-- One element of the output block, from the blocks and the scratch. -/
theorem point_val (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt Ideal) arg3.view.ty) (X4 : BufTy.Contents (Elt Ideal) arg4.view.ty) (X5 : BufTy.Contents (Elt Ideal) arg5.view.ty) (X7 : BufTy.Contents (Elt Ideal) arg7.view.ty) (X8 : BufTy.Contents (Elt Ideal) arg8.view.ty) (X10 : BufTy.Contents (Elt Ideal) arg10.view.ty) (f11 : BufTy.Contents (Elt Ideal) arg11.view.ty)
    (Q : Fin 16384 → Fin 8192 → BitVec 8) (qs : Fin 128 → Fin 64 → EReal) (K : Fin 16384 → Fin 1024 → BitVec 8) (ks : Fin 8 → Fin 256 → EReal)
    (V : Fin 1024 → Fin 16384 → EReal) (vs : Fin 8 → Fin 128 → EReal)
    (h3 : ∀ (a : Fin 8) (b : Fin 256), arg3.view.read (Elt Ideal) X3 (ix2 a b) = ks a b)
    (h4 : ∀ (a : Fin 128) (b : Fin 64), arg4.view.read (Elt Ideal) X4 (ix2 a b) = qs a b)
    (h5 : ∀ (a : Fin 128) (b : Fin 512) (A : Fin 16384) (B : Fin 8192), A.val = 128 * (i 1).val + a.val → B.val = 512 * (2 * (i 0).val + (i 2).val) + b.val → arg5.view.read (Elt Ideal) X5 (ix2 a b) = Q A B)
    (h10 : ∀ (s : Fin 16384) (d : Fin 128) (B : Fin 1024), B.val = 128 * (i 0).val + d.val → arg10.view.read (Elt Ideal) X10 (ix2 s d) = Cert.Attn.code (K s B))
    (h7 : ∀ (d : Fin 128) (s : Fin 16384) (A : Fin 1024), A.val = 128 * (i 0).val + d.val → arg7.view.read (Elt Ideal) X7 (ix2 d s) = V A s)
    (h8 : ∀ d : Fin 128, arg8.view.read (Elt Ideal) X8 (ix3 0 0 d) = vs ⟨(i 0).val, i0_lt i⟩ d)
    (n : Fin 4) (r d : Fin 128) :
    pO c i arg3 harg3 arg4 harg4 arg5 harg5 arg6 harg6 arg7 harg7 arg8 harg8 arg9 harg9 arg10 harg10 arg11 harg11 arg12 harg12 X3 X4 X5 X7 X8 X10 f11 n (ix2 r d) = Cert.Attn.outK Q qs K ks V vs (128 * (i 1).val + r.val) (8 * (i 0).val + 4 * (i 2).val + n.val) d.val := by
  have l0 := i0_lt i
  have l1 := i1_lt i
  have l2 := i2_lt i
  have hS : ∀ (s : Fin 16384) (j : Fin 512), ∑ d : Fin 128, arg10.view.read (Elt Ideal) X10 (ix2 s d) * pqt arg5 X5 (ix2 j d)
      = (fun j s => Cert.Attn.rowS Q K (128 * (i 1).val + j % 128) (8 * (i 0).val + 4 * (i 2).val + j / 128) s) j.val s.val := fun s j => by
    show _ = Cert.Attn.rowS Q K (128 * (i 1).val + j.val % 128) (8 * (i 0).val + 4 * (i 2).val + j.val / 128) s.val
    unfold Cert.Attn.rowS
    refine Finset.sum_congr rfl fun d _ => congrArg₂ (· * ·) ?_ ?_
    · rw [Cert.Attn.natAt_eq _ _ _ s.isLt (by omega)]
      exact h10 s d _ (by show 128 * ((8 * (i 0).val + 4 * (i 2).val + j.val / 128) / 8) + d.val = _; omega)
    · rw [Cert.Attn.natAt_eq _ _ _ (by omega) (by omega)]
      have ej : j = (⟨128 * (⟨j.val / 128, by omega⟩ : Fin 4).val + (⟨j.val % 128, by omega⟩ : Fin 128).val, by simp only []; omega⟩ : Fin 512) := Fin.ext (by simp only []; omega)
      have hq := qt_apply (View.readAt (Elt Ideal) arg5.view (Rect.unit ![0, 0] S128x512.size inb_S128x512_S128x512_0_0).toLoadRect X5) ⟨j.val / 128, by omega⟩ ⟨j.val % 128, by omega⟩ d
      rw [← ej] at hq
      refine Eq.trans hq ?_
      refine congrArg Cert.Attn.code ?_
      refine (readAt_off arg5 X5 _ _ _ _ _ (ix2 (⟨j.val % 128, by omega⟩ : Fin 128) (⟨128 * (j.val / 128) + d.val, by omega⟩ : Fin 512)) rfl (Fin.forall_fin_two.mpr ⟨(Nat.zero_add _).symm, (Nat.zero_add _).symm⟩)).trans ?_
      exact h5 _ _ _ _ rfl (by show 128 * (8 * (i 0).val + 4 * (i 2).val + j.val / 128) + d.val = 512 * (2 * (i 0).val + (i 2).val) + (128 * (j.val / 128) + d.val); omega)
  have hk : ∀ s : Fin 256, arg3.view.read (Elt Ideal) X3 (ix2 (⟨(i 0).val, i0_lt i⟩ : Fin 8) s) = (fun s => Cert.Attn.natAt ks (i 0).val s) s.val := fun s => by
    show _ = Cert.Attn.natAt ks (i 0).val s.val
    rw [Cert.Attn.natAt_eq _ _ _ (i0_lt i) s.isLt]
    exact h3 _ _
  have hV : ∀ (d : Fin 128) (s : Fin 16384), arg7.view.read (Elt Ideal) X7 (ix2 d s) = (fun d s => Cert.Attn.natAt V (128 * (i 0).val + d) s) d.val s.val := fun d s => by
    show _ = Cert.Attn.natAt V (128 * (i 0).val + d.val) s.val
    rw [Cert.Attn.natAt_eq _ _ _ (by omega) s.isLt]
    exact h7 _ _ _ rfl
  have hq : ∀ n : Fin 4, pq i arg4 X4 n = (fun n : Fin 4 => Cert.Attn.natAt qs (i 1).val (8 * (i 0).val + 4 * (i 2).val + n.val)) n * (Cert.Attn.L : EReal) := fun n => by
    unfold pq
    rw [pq_log2e]
    refine congrArg (· * (Cert.Attn.L : EReal)) ?_
    show _ = Cert.Attn.natAt qs (i 1).val (8 * (i 0).val + 4 * (i 2).val + n.val)
    rw [Cert.Attn.natAt_eq _ _ _ l1 (by omega)]
    refine (readAt_off arg4 X4 _ _ _ _ _ (ix2 (⟨(i 1).val, l1⟩ : Fin 128) (⟨8 * (i 0).val + 4 * (i 2).val + n.val, by omega⟩ : Fin 64)) (off2_eq i n) (Fin.forall_fin_two.mpr ⟨rfl, rfl⟩)).trans (h4 _ _)
  have h := pO_row c i arg3 harg3 arg4 harg4 arg5 harg5 arg6 harg6 arg7 harg7 arg8 harg8 arg9 harg9 arg10 harg10 arg11 harg11 arg12 harg12 X3 X4 X5 X7 X8 X10 f11 (fun j s => Cert.Attn.rowS Q K (128 * (i 1).val + j % 128) (8 * (i 0).val + 4 * (i 2).val + j / 128) s) (fun s => Cert.Attn.natAt ks (i 0).val s) (fun d s => Cert.Attn.natAt V (128 * (i 0).val + d) s) hS hk hV (fun n : Fin 4 => Cert.Attn.natAt qs (i 1).val (8 * (i 0).val + 4 * (i 2).val + n.val)) hq (fun d => vs ⟨(i 0).val, i0_lt i⟩ d) h8 n r d
  rw [h]
  unfold Cert.Attn.outK NK
  have e1 : (8 * (i 0).val + 4 * (i 2).val + n.val) / 8 = (i 0).val := by omega
  have e2 : (128 * n.val + r.val) % 128 = r.val := by omega
  have e3 : (128 * n.val + r.val) / 128 = n.val := by omega
  have e4 : (128 * (i 1).val + r.val) / 128 = (i 1).val := by omega
  have e5 : (128 * (i 1).val + r.val) / 512 = (i 1).val / 4 := by omega
  simp only [e1, e2, e3, e4, e5]
  rw [Cert.Attn.natAt_eq vs _ _ (i0_lt i) d.isLt]

end Cert.KernelIdeal.Body

end
-- ==== Proof.BlocksI.lean ====
/- The blocks the attention kernel is given at a grid point, read off the arrays, over the extended reals. -/
module

public import proofs.«01_k».proof.Proof.Gen.KernelIdeal.Frame
public import proofs.«01_k».proof.Proof.OffI
public import proofs.«01_k».proof.Proof.Math
public import Idealize.ShloMosaic.Lib.Pointwise
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.ShloMosaic.Pipeline (Dat Cfg Window)

theorem co0 (t : Fin grid0.N) : (grid0.coords t 0).val = t.val / 256 % 8 := Pipeline.Grid.coords_val t 0 (by decide) (by decide)
theorem co1 (t : Fin grid0.N) : (grid0.coords t 1).val = t.val / 2 % 128 := Pipeline.Grid.coords_val t 1 (by decide) (by decide)
theorem co2 (t : Fin grid0.N) : (grid0.coords t 2).val = t.val % 2 := (Pipeline.Grid.coords_val t 2 (S := 1) (B := 2) (by decide) (by decide)).trans (by rw [Nat.div_one])

theorem cond1_iff (i : grid0.Coords) : k0_cond1 i = 1#1 ↔ (i 1).val = 0 ∧ (i 2).val = 0 := by
  have h : ∀ (a : Fin 128) (b : Fin 2), k0_cond1 ((fun | ⟨0, _⟩ => (0 : Fin 8) | ⟨1, _⟩ => a | ⟨2, _⟩ => b) : grid0.Coords) = 1#1 ↔ a.val = 0 ∧ b.val = 0 := by decide +kernel
  exact h (i 1) (i 2)

theorem idx2 (t : Fin cfg0.N) : win0_2.index t = ![(grid0.coords t 1).val, 2 * (grid0.coords t 0).val + (grid0.coords t 2).val] := by
  have h : ∀ (a : Fin 8) (b : Fin 2), (Scalar.addi (Scalar.muli (BitVec.ofNat 32 a.val) 2#32) (BitVec.ofNat 32 b.val)).toNat = 2 * a.val + b.val := by decide +kernel
  have h1 : ∀ (a : Fin 128), (BitVec.ofNat 32 a.val).toNat = a.val := by decide +kernel
  exact funext (Fin.forall_fin_two.mpr ⟨h1 (grid0.coords t 1), h (grid0.coords t 0) (grid0.coords t 2)⟩)
theorem idx6 (t : Fin cfg0.N) : win0_6.index t = ![(grid0.coords t 1).val, 2 * (grid0.coords t 0).val + (grid0.coords t 2).val] := idx2 t
theorem idx3 (t : Fin cfg0.N) : win0_3.index t = ![0, (grid0.coords t 0).val] := by
  have h1 : ∀ (a : Fin 8), (BitVec.ofNat 32 a.val).toNat = a.val := by decide +kernel
  exact funext (Fin.forall_fin_two.mpr ⟨rfl, h1 (grid0.coords t 0)⟩)
theorem idx4 (t : Fin cfg0.N) : win0_4.index t = ![(grid0.coords t 0).val, 0] := by
  have h1 : ∀ (a : Fin 8), (BitVec.ofNat 32 a.val).toNat = a.val := by decide +kernel
  exact funext (Fin.forall_fin_two.mpr ⟨h1 (grid0.coords t 0), rfl⟩)
theorem idx5 (t : Fin cfg0.N) : win0_5.index t = ![(grid0.coords t 0).val, 0, 0] := by
  have h1 : ∀ (a : Fin 8), (BitVec.ofNat 32 a.val).toNat = a.val := by decide +kernel
  funext a
  match a with
  | ⟨0, _⟩ => exact h1 (grid0.coords t 0)
  | ⟨1, _⟩ => rfl
  | ⟨2, _⟩ => rfl
theorem idx0 (t : Fin cfg0.N) : win0_0.index t = ![0, 0] := rfl
theorem idx1 (t : Fin cfg0.N) : win0_1.index t = ![0, 0] := rfl

variable (m : (ℓ : Loc nD τ sig) → Buf (Elt Ideal) ℓ)

theorem blk0 (c : Dev nD) (t : Fin cfg0.N) (a : Fin 8) (b : Fin 256) : iblk m c 0 t (ix2 a b) = m ((c : Thread nD τ).loc main_arg3) (ix2 a b) := by
  blk_ext [iblk, V, idx0 t]
theorem blk1 (c : Dev nD) (t : Fin cfg0.N) (a : Fin 128) (b : Fin 64) : iblk m c 1 t (ix2 a b) = m ((c : Thread nD τ).loc main_arg1) (ix2 a b) := by
  blk_ext [iblk, V, idx1 t]
theorem blk2 (c : Dev nD) (t : Fin cfg0.N) (a : Fin 128) (b : Fin 512) (A : Fin 16384) (B : Fin 8192) (hA : A.val = 128 * (grid0.coords t 1).val + a.val)
    (hB : B.val = 512 * (2 * (grid0.coords t 0).val + (grid0.coords t 2).val) + b.val) : iblk m c 2 t (ix2 a b) = m ((c : Thread nD τ).loc main_arg0) (ix2 A B) := by
  blk_ext [iblk, V, idx2 t]
theorem blk3 (c : Dev nD) (t : Fin cfg0.N) (a : Fin 16384) (b : Fin 128) (B : Fin 1024)
    (hB : B.val = 128 * (grid0.coords t 0).val + b.val) : iblk m c 3 t (ix2 a b) = m ((c : Thread nD τ).loc main_arg2) (ix2 a B) := by
  blk_ext [iblk, V, idx3 t]
theorem blk4 (c : Dev nD) (t : Fin cfg0.N) (a : Fin 128) (b : Fin 16384) (A : Fin 1024)
    (hA : A.val = 128 * (grid0.coords t 0).val + a.val) : iblk m c 4 t (ix2 a b) = m ((c : Thread nD τ).loc main_arg4) (ix2 A b) := by
  blk_ext [iblk, V, idx4 t]
theorem blk5 (c : Dev nD) (t : Fin cfg0.N) (b : Fin 128) : iblk m c 5 t (ix3 0 0 b) = m ((c : Thread nD τ).loc main_arg5) (ix2 (⟨(grid0.coords t 0).val, i0_lt _⟩ : Fin 8) b) := by
  have e : iblk m c 5 t (ix3 0 0 b) = V m c main_v0 (ix3 (⟨(grid0.coords t 0).val, i0_lt _⟩ : Fin 8) 0 b) := by
    blk_ext [iblk, idx5 t]
  rw [e]
  entry_read
  pointwise []

end Cert.KernelIdeal.Body

end
-- ==== Proof.BodyVal.lean ====
/- What one grid point does, with values: it gives the inputs back, leaves the specification's elements in the
   output block and the head's widened key codes in the key scratch. -/
module

public import proofs.«01_k».proof.Proof.PointVal
public import proofs.«01_k».proof.Proof.BlocksI
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose)

local notation "𝕄" => MT nD τ sig Unit (Elt Ideal) ℕ (UR sig nD τ) ℕ

/-- The key scratch holds head `h`'s widened key codes. -/
def KB (K : Fin 16384 → Fin 1024 → BitVec 8) (arg10 : Memref sig .tc .vmem S16384x128 .bf16) (h : ℕ) (f : BufTy.Contents (Elt Ideal) arg10.view.ty) : Prop :=
  ∀ (s : Fin 16384) (d : Fin 128) (B : Fin 1024), B.val = 128 * h + d.val → arg10.view.read (Elt Ideal) f (ix2 s d) = Cert.Attn.code (K s B)

/-- The output block of a point. -/
def outB (Q : Fin 16384 → Fin 8192 → BitVec 8) (qs : Fin 128 → Fin 64 → EReal) (K : Fin 16384 → Fin 1024 → BitVec 8) (ks : Fin 8 → Fin 256 → EReal)
    (V : Fin 1024 → Fin 16384 → EReal) (vs : Fin 8 → Fin 128 → EReal) (i : grid0.Coords) : S128x512.Idx → EReal := fun y =>
  Cert.Attn.outK Q qs K ks V vs (128 * (i 1).val + (y 0).val) (8 * (i 0).val + 4 * (i 2).val + (y 1).val / 128) ((y 1).val % 128)

/-- The four stored parts are the output block. -/
theorem block_val (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt Ideal) arg3.view.ty) (X4 : BufTy.Contents (Elt Ideal) arg4.view.ty) (X5 : BufTy.Contents (Elt Ideal) arg5.view.ty) (X7 : BufTy.Contents (Elt Ideal) arg7.view.ty) (X8 : BufTy.Contents (Elt Ideal) arg8.view.ty) (X10 : BufTy.Contents (Elt Ideal) arg10.view.ty) (f11 : BufTy.Contents (Elt Ideal) arg11.view.ty) (f9 : BufTy.Contents (Elt Ideal) arg9.view.ty)
    (Q : Fin 16384 → Fin 8192 → BitVec 8) (qs : Fin 128 → Fin 64 → EReal) (K : Fin 16384 → Fin 1024 → BitVec 8) (ks : Fin 8 → Fin 256 → EReal)
    (V : Fin 1024 → Fin 16384 → EReal) (vs : Fin 8 → Fin 128 → EReal)
    (e3 : ∀ (a : Fin 8) (b : Fin 256), arg3.view.read (Elt Ideal) X3 (ix2 a b) = ks a b)
    (e4 : ∀ (a : Fin 128) (b : Fin 64), arg4.view.read (Elt Ideal) X4 (ix2 a b) = qs a b)
    (e5 : ∀ (a : Fin 128) (b : Fin 512) (A : Fin 16384) (B : Fin 8192), A.val = 128 * (i 1).val + a.val → B.val = 512 * (2 * (i 0).val + (i 2).val) + b.val → arg5.view.read (Elt Ideal) X5 (ix2 a b) = Q A B)
    (e10 : KB K arg10 (i 0).val X10)
    (e7 : ∀ (d : Fin 128) (s : Fin 16384) (A : Fin 1024), A.val = 128 * (i 0).val + d.val → arg7.view.read (Elt Ideal) X7 (ix2 d s) = V A s)
    (e8 : ∀ d : Fin 128, arg8.view.read (Elt Ideal) X8 (ix3 0 0 d) = vs ⟨(i 0).val, i0_lt i⟩ d)
    (y : S128x512.Idx) : arg9.view.read (Elt Ideal) (arg9.view.writes (Elt Ideal) f9 (pL9 c i arg3 harg3 arg4 harg4 arg5 harg5 arg6 harg6 arg7 harg7 arg8 harg8 arg9 harg9 arg10 harg10 arg11 harg11 arg12 harg12 X3 X4 X5 X7 X8 X10 f11)) y = outB Q qs K ks V vs i y := by
  obtain ⟨r, j, rfl⟩ : ∃ (r : Fin 128) (j : Fin 512), y = ix2 r j := ⟨y 0, y 1, funext (Fin.forall_fin_two.mpr ⟨rfl, rfl⟩)⟩
  have hp : ∀ (n : Fin 4) (hn : j.val / 128 = n.val), pO c i arg3 harg3 arg4 harg4 arg5 harg5 arg6 harg6 arg7 harg7 arg8 harg8 arg9 harg9 arg10 harg10 arg11 harg11 arg12 harg12 X3 X4 X5 X7 X8 X10 f11 n (ix2 r (⟨j.val % 128, by omega⟩ : Fin 128)) = outB Q qs K ks V vs i (ix2 r j) := fun n hn => by
    rw [point_val c i arg3 harg3 arg4 harg4 arg5 harg5 arg6 harg6 arg7 harg7 arg8 harg8 arg9 harg9 arg10 harg10 arg11 harg11 arg12 harg12 X3 X4 X5 X7 X8 X10 f11 Q qs K ks V vs e3 e4 e5 e10 e7 e8 n r _]
    show Cert.Attn.outK Q qs K ks V vs (128 * (i 1).val + r.val) (8 * (i 0).val + 4 * (i 2).val + n.val) (j.val % 128) = Cert.Attn.outK Q qs K ks V vs (128 * (i 1).val + r.val) (8 * (i 0).val + 4 * (i 2).val + j.val / 128) (j.val % 128)
    rw [hn]
  unfold pL9
  by_cases c3 : 384 ≤ j.val
  · refine (View.read_writes_cons_unit_of_mem arg9.view f9 _ _ _ (ix2 r j) (ix2 r (⟨j.val % 128, by omega⟩ : Fin 128)) rfl (Fin.forall_fin_two.mpr ⟨(Nat.zero_add _).symm, by show j.val = 384 + j.val % 128; omega⟩)).trans (hp 3 (by show j.val / 128 = 3; omega))
  refine (View.read_writes_cons_unit_of_not_mem arg9.view f9 _ _ _ (ix2 r j) rfl 1 (Or.inl (by show j.val < 384; omega))).trans ?_
  by_cases c2 : 256 ≤ j.val
  · refine (View.read_writes_cons_unit_of_mem arg9.view f9 _ _ _ (ix2 r j) (ix2 r (⟨j.val % 128, by omega⟩ : Fin 128)) rfl (Fin.forall_fin_two.mpr ⟨(Nat.zero_add _).symm, by show j.val = 256 + j.val % 128; omega⟩)).trans (hp 2 (by show j.val / 128 = 2; omega))
  refine (View.read_writes_cons_unit_of_not_mem arg9.view f9 _ _ _ (ix2 r j) rfl 1 (Or.inl (by show j.val < 256; omega))).trans ?_
  by_cases c1 : 128 ≤ j.val
  · refine (View.read_writes_cons_unit_of_mem arg9.view f9 _ _ _ (ix2 r j) (ix2 r (⟨j.val % 128, by omega⟩ : Fin 128)) rfl (Fin.forall_fin_two.mpr ⟨(Nat.zero_add _).symm, by show j.val = 128 + j.val % 128; omega⟩)).trans (hp 1 (by show j.val / 128 = 1; omega))
  refine (View.read_writes_cons_unit_of_not_mem arg9.view f9 _ _ _ (ix2 r j) rfl 1 (Or.inl (by show j.val < 128; omega))).trans ?_
  exact (View.read_writes_cons_unit_of_mem arg9.view f9 _ _ _ (ix2 r j) (ix2 r (⟨j.val % 128, by omega⟩ : Fin 128)) rfl (Fin.forall_fin_two.mpr ⟨(Nat.zero_add _).symm, by show j.val = 0 + j.val % 128; omega⟩)).trans (hp 0 (by show j.val / 128 = 0; omega))

/-- The key scratch's writes at a head's first point are the widening loop's. -/
theorem runA_L10 (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty)
    (f10 : BufTy.Contents (Elt Ideal) arg10.view.ty) (f11 : BufTy.Contents (Elt Ideal) arg11.view.ty) (f12 : BufTy.Contents (Elt Ideal) arg12.view.ty) (h : k0_cond1 i = 1#1) (ht3 : (k0_t3_loop i).trips = 0) (ht5 : (k0_t5_loop i).trips = 0) : (runA (F := Ideal) c i arg3 harg3 arg4 harg4 arg5 harg5 arg6 harg6 arg7 harg7 arg8 harg8 arg9 harg9 arg10 harg10 arg11 harg11 arg12 harg12 X3 X4 X5 X6 X7 X8 f10 f11 f12 h ht3 ht5).2.1 = pb_k0_t1 (F := Ideal) Variants.none c none i arg3 harg3 arg4 harg4 arg5 harg5 arg6 harg6 arg7 harg7 arg8 harg8 arg9 harg9 arg10 harg10 arg11 harg11 arg12 harg12 h X6 k0_t1_loop.trips := by
  unfold runA; rfl

/-- The body at any point, with values. -/
theorem body_val (c : Dev nD) (i : grid0.Coords) (arg3 : Memref sig .tc .smem S8x256 .f32) (harg3 : arg3.IsWhole) (arg4 : Memref sig .tc .smem S128x64 .f32) (harg4 : arg4.IsWhole) (arg5 : Memref sig .tc .vmem S128x512 .i8) (harg5 : arg5.IsWhole) (arg6 : Memref sig .tc .vmem S16384x128 .i8) (harg6 : arg6.IsWhole) (arg7 : Memref sig .tc .vmem S128x16384 .fp8e4m3) (harg7 : arg7.IsWhole) (arg8 : Memref sig .tc .vmem S1x1x128 .f32) (harg8 : arg8.IsWhole) (arg9 : Memref sig .tc .vmem S128x512 .bf16) (harg9 : arg9.IsWhole) (arg10 : Memref sig .tc .vmem S16384x128 .bf16) (harg10 : arg10.IsWhole) (arg11 : Memref sig .tc .vmem S16384x512 .f32) (harg11 : arg11.IsWhole) (arg12 : Memref sig .tc .vmem S128x512 .f32) (harg12 : arg12.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty)
    (f10 : BufTy.Contents (Elt Ideal) arg10.view.ty) (f11 : BufTy.Contents (Elt Ideal) arg11.view.ty) (f12 : BufTy.Contents (Elt Ideal) arg12.view.ty) (E : Set ℕ) (f9 : BufTy.Contents (Elt Ideal) arg9.view.ty)
    (Q : Fin 16384 → Fin 8192 → BitVec 8) (qs : Fin 128 → Fin 64 → EReal) (K : Fin 16384 → Fin 1024 → BitVec 8) (ks : Fin 8 → Fin 256 → EReal)
    (V : Fin 1024 → Fin 16384 → EReal) (vs : Fin 8 → Fin 128 → EReal)
    (e3 : ∀ (a : Fin 8) (b : Fin 256), arg3.view.read (Elt Ideal) X3 (ix2 a b) = ks a b)
    (e4 : ∀ (a : Fin 128) (b : Fin 64), arg4.view.read (Elt Ideal) X4 (ix2 a b) = qs a b)
    (e5 : ∀ (a : Fin 128) (b : Fin 512) (A : Fin 16384) (B : Fin 8192), A.val = 128 * (i 1).val + a.val → B.val = 512 * (2 * (i 0).val + (i 2).val) + b.val → arg5.view.read (Elt Ideal) X5 (ix2 a b) = Q A B)
    (e6 : ∀ (s : Fin 16384) (d : Fin 128) (B : Fin 1024), B.val = 128 * (i 0).val + d.val → arg6.view.read (Elt Ideal) X6 (ix2 s d) = K s B)
    (e7 : ∀ (d : Fin 128) (s : Fin 16384) (A : Fin 1024), A.val = 128 * (i 0).val + d.val → arg7.view.read (Elt Ideal) X7 (ix2 d s) = V A s)
    (e8 : ∀ d : Fin 128, arg8.view.read (Elt Ideal) X8 (ix3 0 0 d) = vs ⟨(i 0).val, i0_lt i⟩ d)
    (e10 : ¬ k0_cond1 i = 1#1 → KB K arg10 (i 0).val f10) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := Ideal)) Variants.none (c : Thread nD τ) none) E (cc0_attention (F := Ideal) i arg3 harg3 arg4 harg4 arg5 harg5 arg6 harg6 arg7 harg7 arg8 harg8 arg9 harg9 arg10 harg10 arg11 harg11 arg12 harg12)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ g9, ⌜∀ y : S128x512.Idx, arg9.view.read (Elt Ideal) g9 y = outB Q qs K ks V vs i y⌝ ∗ (arg9.view.loc (c : Thread nD τ) ↦[arg9.view.set]{fullShare} g9)) ∗ (∃ g10, ⌜KB K arg10 (i 0).val g10⌝ ∗ (arg10.view.loc (c : Thread nD τ) ↦[arg10.view.set]{fullShare} g10)) ∗ (∃ g11, (arg11.view.loc (c : Thread nD τ) ↦[arg11.view.set]{fullShare} g11)) ∗ (∃ g12, (arg12.view.loc (c : Thread nD τ) ↦[arg12.view.set]{fullShare} g12)))) := by
  by_cases h : k0_cond1 i = 1#1
  · have hkb : KB K arg10 (i 0).val (arg10.view.writes (Elt Ideal) f10 (runA (F := Ideal) c i arg3 harg3 arg4 harg4 arg5 harg5 arg6 harg6 arg7 harg7 arg8 harg8 arg9 harg9 arg10 harg10 arg11 harg11 arg12 harg12 X3 X4 X5 X6 X7 X8 f10 f11 f12 h (t3_trips i) (t5_trips i)).2.1) := fun s d B hB => by
      rw [runA_L10]
      exact (t1_rows c i arg3 harg3 arg4 harg4 arg5 harg5 arg6 harg6 arg7 harg7 arg8 harg8 arg9 harg9 arg10 harg10 arg11 harg11 arg12 harg12 h X6 f10 s d k0_t1_loop.trips (le_refl _) (lt_of_lt_of_eq s.isLt (by decide +kernel))).trans (congrArg Cert.Attn.code (e6 s d B hB))
    refine (((runA (F := Ideal) c i arg3 harg3 arg4 harg4 arg5 harg5 arg6 harg6 arg7 harg7 arg8 harg8 arg9 harg9 arg10 harg10 arg11 harg11 arg12 harg12 X3 X4 X5 X6 X7 X8 f10 f11 f12 h (t3_trips i) (t5_trips i)).2.2.2.2 E f9)).trans (wp_mono _ _ _ fun _ => ?_)
    have hb := block_val c i arg3 harg3 arg4 harg4 arg5 harg5 arg6 harg6 arg7 harg7 arg8 harg8 arg9 harg9 arg10 harg10 arg11 harg11 arg12 harg12 X3 X4 X5 X7 X8 _ f11 f9 Q qs K ks V vs e3 e4 e5 hkb e7 e8
    rw [← runA_L9 c i arg3 harg3 arg4 harg4 arg5 harg5 arg6 harg6 arg7 harg7 arg8 harg8 arg9 harg9 arg10 harg10 arg11 harg11 arg12 harg12 X3 X4 X5 X6 X7 X8 f10 f11 f12 h (t3_trips i) (t5_trips i)] at hb
    iintro ⟨H3, H4, H5, H6, H7, H8, H9, H10, H11, H12⟩
    isplitl [H3]; · iexact H3
    isplitl [H4]; · iexact H4
    isplitl [H5]; · iexact H5
    isplitl [H6]; · iexact H6
    isplitl [H7]; · iexact H7
    isplitl [H8]; · iexact H8
    isplitl [H9]
    · iexists _
      isplitr [H9]
      · ipureintro; exact hb
      iexact H9
    isplitl [H10]
    · iexists _
      isplitr [H10]
      · ipureintro; exact hkb
      iexact H10
    isplitl [H11]; · iexists _; iexact H11
    iexists _; iexact H12
  · refine (((runB (F := Ideal) c i arg3 harg3 arg4 harg4 arg5 harg5 arg6 harg6 arg7 harg7 arg8 harg8 arg9 harg9 arg10 harg10 arg11 harg11 arg12 harg12 X3 X4 X5 X6 X7 X8 f10 f11 f12 h (t3_trips i) (t5_trips i)).2.2.2 E f9)).trans (wp_mono _ _ _ fun _ => ?_)
    have hb := block_val c i arg3 harg3 arg4 harg4 arg5 harg5 arg6 harg6 arg7 harg7 arg8 harg8 arg9 harg9 arg10 harg10 arg11 harg11 arg12 harg12 X3 X4 X5 X7 X8 f10 f11 f9 Q qs K ks V vs e3 e4 e5 (e10 h) e7 e8
    rw [← runB_L9 c i arg3 harg3 arg4 harg4 arg5 harg5 arg6 harg6 arg7 harg7 arg8 harg8 arg9 harg9 arg10 harg10 arg11 harg11 arg12 harg12 X3 X4 X5 X6 X7 X8 f10 f11 f12 h (t3_trips i) (t5_trips i)] at hb
    iintro ⟨H3, H4, H5, H6, H7, H8, H9, H10, H11, H12⟩
    isplitl [H3]; · iexact H3
    isplitl [H4]; · iexact H4
    isplitl [H5]; · iexact H5
    isplitl [H6]; · iexact H6
    isplitl [H7]; · iexact H7
    isplitl [H8]; · iexact H8
    isplitl [H9]
    · iexists _
      isplitr [H9]
      · ipureintro; exact hb
      iexact H9
    isplitl [H10]
    · iexists f10
      isplitr [H10]
      · ipureintro; exact e10 h
      iexact H10
    isplitl [H11]; · iexists _; iexact H11
    iexists _; iexact H12

end Cert.KernelIdeal.Body

end
-- ==== Proof.RunI.lean ====
/- The value run of the attention program over the extended reals: the output array holds the specification's
   elements. -/
module

public import proofs.«01_k».proof.Proof.BodyVal
public import proofs.«01_k».proof.Proof.BlocksI
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose)

local notation "𝕄" => MT nD τ sig Unit (Elt Ideal) ℕ (UR sig nD τ) ℕ

variable (m : (ℓ : Loc nD τ sig) → Buf (Elt Ideal) ℓ) (ρ : Dev nD → PrngReg)

/-- The argument arrays by coordinates. -/
def aQ (c : Dev nD) : Fin 16384 → Fin 8192 → BitVec 8 := fun a b => m ((c : Thread nD τ).loc main_arg0) (ix2 a b)
def aqs (c : Dev nD) : Fin 128 → Fin 64 → EReal := fun a b => m ((c : Thread nD τ).loc main_arg1) (ix2 a b)
def aK (c : Dev nD) : Fin 16384 → Fin 1024 → BitVec 8 := fun a b => m ((c : Thread nD τ).loc main_arg2) (ix2 a b)
def aks (c : Dev nD) : Fin 8 → Fin 256 → EReal := fun a b => m ((c : Thread nD τ).loc main_arg3) (ix2 a b)
def aV (c : Dev nD) : Fin 1024 → Fin 16384 → EReal := fun a b => m ((c : Thread nD τ).loc main_arg4) (ix2 a b)
def avs (c : Dev nD) : Fin 8 → Fin 128 → EReal := fun a b => m ((c : Thread nD τ).loc main_arg5) (ix2 a b)

/-- The output block of point `t`. -/
def outT (c : Dev nD) (t : Fin cfg0.N) : S128x512.Idx → EReal := outB (aQ m c) (aqs m c) (aK m c) (aks m c) (aV m c) (avs m c) (grid0.coords t)

/-- What the scratch holds between points: before any point but a head's first, the head's widened key codes. -/
def PhiV (c : Dev nD) (t : ℕ) : sProp 𝕄 :=
  iprop(((∃ f : Buf (Elt Ideal) ((c : Thread nD τ).loc cc0_scratch0), ⌜t % 256 ≠ 0 → KB (aK m c) (Memref.whole cc0_scratch0) (t / 256) f⌝ ∗ ((c : Thread nD τ).loc cc0_scratch0) ↦{fullShare} f)
    ∗ (∃ f : Buf (Elt Ideal) ((c : Thread nD τ).loc cc0_scratch1), ((c : Thread nD τ).loc cc0_scratch1) ↦{fullShare} f)
    ∗ (∃ f : Buf (Elt Ideal) ((c : Thread nD τ).loc cc0_scratch2), ((c : Thread nD τ).loc cc0_scratch2) ↦{fullShare} f)) ∗ ∃ r, prngReg c r)

/-- The proof data: the inputs at their blocks, the output at the specification's block, the key scratch tracked. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outT m c t
  Φ t := PhiV m c t.val
  q _ := fullShare
  owed _ := 0

theorem vA_eq (c : Dev nD) (w : Fin cfg0.W) : (vdats m 0 c).A w = V m c (Pipeline.arrRef spec0 w) := by
  dsimp only [vdats]

theorem vafter0_0 (c : Dev nD) (t : Fin cfg0.N) : (vdats m 0 c).after 0 t = iblk m c 0 t := by dsimp only [vdats]
theorem vbefore0_0 (c : Dev nD) (t : Fin cfg0.N) (d) : (vdats m 0 c).before 0 t d = iblk m c 0 t :=
  before0_0_of m (vdats m 0 c) (vA_eq m c 0) (vafter0_0 m c) t d
theorem vafter0_1 (c : Dev nD) (t : Fin cfg0.N) : (vdats m 0 c).after 1 t = iblk m c 1 t := by dsimp only [vdats]
theorem vbefore0_1 (c : Dev nD) (t : Fin cfg0.N) (d) : (vdats m 0 c).before 1 t d = iblk m c 1 t :=
  before0_1_of m (vdats m 0 c) (vA_eq m c 1) (vafter0_1 m c) t d
theorem vafter0_2 (c : Dev nD) (t : Fin cfg0.N) : (vdats m 0 c).after 2 t = iblk m c 2 t := by dsimp only [vdats]
theorem vbefore0_2 (c : Dev nD) (t : Fin cfg0.N) (d) : (vdats m 0 c).before 2 t d = iblk m c 2 t :=
  before0_2_of m (vdats m 0 c) (vA_eq m c 2) (vafter0_2 m c) t d
theorem vafter0_3 (c : Dev nD) (t : Fin cfg0.N) : (vdats m 0 c).after 3 t = iblk m c 3 t := by dsimp only [vdats]
theorem vbefore0_3 (c : Dev nD) (t : Fin cfg0.N) (d) : (vdats m 0 c).before 3 t d = iblk m c 3 t :=
  before0_3_of m (vdats m 0 c) (vA_eq m c 3) (vafter0_3 m c) t d
theorem vafter0_4 (c : Dev nD) (t : Fin cfg0.N) : (vdats m 0 c).after 4 t = iblk m c 4 t := by dsimp only [vdats]
theorem vbefore0_4 (c : Dev nD) (t : Fin cfg0.N) (d) : (vdats m 0 c).before 4 t d = iblk m c 4 t :=
  before0_4_of m (vdats m 0 c) (vA_eq m c 4) (vafter0_4 m c) t d
theorem vafter0_5 (c : Dev nD) (t : Fin cfg0.N) : (vdats m 0 c).after 5 t = iblk m c 5 t := by dsimp only [vdats]
theorem vbefore0_5 (c : Dev nD) (t : Fin cfg0.N) (d) : (vdats m 0 c).before 5 t d = iblk m c 5 t :=
  before0_5_of m (vdats m 0 c) (vA_eq m c 5) (vafter0_5 m c) t d

theorem vafter0_6 (c : Dev nD) (t : Fin cfg0.N) : (vdats m 0 c).after 6 t = outT m c t := by dsimp only [vdats]

/-- What the body is called with at point `t`. -/
def vbodyPre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d))
    ∗ (∃ d, owns (c : Thread nD τ) (st0_6 t) fullShare ((vdats m 0 c).before 6 t d)))

/-- What it returns. -/
def vbodyPost (c : Dev nD) (t : Fin cfg0.N) : sProp 𝕄 :=
  iprop((vdats m 0 c).Φ t.succ ∗ (vdats m 0 c).owesAt () t.succ
    ∗ owns (c : Thread nD τ) (st0_0 t) fullShare ((vdats m 0 c).after 0 t)
    ∗ owns (c : Thread nD τ) (st0_1 t) fullShare ((vdats m 0 c).after 1 t)
    ∗ owns (c : Thread nD τ) (st0_2 t) fullShare ((vdats m 0 c).after 2 t)
    ∗ owns (c : Thread nD τ) (st0_3 t) fullShare ((vdats m 0 c).after 3 t)
    ∗ owns (c : Thread nD τ) (st0_4 t) fullShare ((vdats m 0 c).after 4 t)
    ∗ owns (c : Thread nD τ) (st0_5 t) fullShare ((vdats m 0 c).after 5 t)
    ∗ owns (c : Thread nD τ) (st0_6 t) fullShare ((vdats m 0 c).after 6 t))

theorem N_lt (t : Fin cfg0.N) : t.val < 2048 := lt_of_lt_of_eq t.isLt N_0

theorem point_head (t : Fin cfg0.N) : (grid0.coords t 0).val = t.val / 256 := by
  rw [co0 t]; have := N_lt t; omega

/-- The key scratch before a point that does not widen. -/
theorem scratch_in (c : Dev nD) (t : Fin cfg0.N) (f) (h : t.val % 256 ≠ 0 → KB (aK m c) (Memref.whole cc0_scratch0) (t.val / 256) f) (hc : ¬ k0_cond1 (grid0.coords t) = 1#1) :
    KB (aK m c) (Memref.whole cc0_scratch0) (grid0.coords t 0).val f := by
  rw [point_head t]
  refine h fun h0 => hc ((cond1_iff _).mpr ⟨?_, ?_⟩)
  · rw [co1 t]; omega
  · rw [co2 t]; omega

/-- The key scratch after a point. -/
theorem scratch_out (c : Dev nD) (t : Fin cfg0.N) (f) (h : KB (aK m c) (Memref.whole cc0_scratch0) (grid0.coords t 0).val f) (hc : (t.val + 1) % 256 ≠ 0) :
    KB (aK m c) (Memref.whole cc0_scratch0) ((t.val + 1) / 256) f := by
  rw [point_head t] at h
  rwa [show (t.val + 1) / 256 = t.val / 256 by omega]

/-- The body at any point. -/
theorem vsound_body (c : Dev nD) (t : Fin cfg0.N) :
    vbodyPre m c t ⊢ wp frame (wpE (defs₀ (F := Ideal)) Variants.none c none) Set.univ (bodyAt0 t) (fun _ => vbodyPost m c t) := by
  unfold vbodyPre vbodyPost bodyAt0
  simp only [vbefore0_0, vbefore0_1, vbefore0_2, vbefore0_3, vbefore0_4, vbefore0_5]
  rw [show (vdats m 0 c).Φ t.succ = PhiV m c (t.val + 1) from rfl, show (vdats m 0 c).Φ t.castSucc = PhiV m c t.val from rfl,
    show (vdats m 0 c).owesAt () t.succ = (vdats m 0 c).owesAt () t.castSucc from rfl,
    vafter0_0, vafter0_1, vafter0_2, vafter0_3, vafter0_4, vafter0_5, vafter0_6]
  unfold PhiV
  unfold owns
  iintro ⟨⟨⟨⟨%f10, %hk, S0⟩, ⟨%f11, S1⟩, ⟨%f12, S2⟩⟩, Hp⟩, Ho, ⟨%d0, %x3, %h3, H3⟩, ⟨%d1, %x4, %h4, H4⟩, ⟨%d2, %x5, %h5, H5⟩, ⟨%d3, %x6, %h6, H6⟩, ⟨%d4, %x7, %h7, H7⟩, ⟨%d5, %x8, %h8, H8⟩, ⟨%d6, %x9, -, H9⟩⟩
  iapply (wp_wand_r Idealize.ShloMosaic.frame (wpE (defs₀ (F := Ideal)) Variants.none (c : Thread nD τ) none) Set.univ)
  isplitl [S0 S1 S2 H3 H4 H5 H6 H7 H8 H9]
  · iapply (body_val c (grid0.coords t) _ _ _ _ _ _ _ _ _ _ _ _ _ _ _ _ _ _ _ _ x3 x4 x5 x6 x7 x8 f10 f11 f12 Set.univ x9
      (aQ m c) (aqs m c) (aK m c) (aks m c) (aV m c) (avs m c)
      (fun a b => (congrFun h3 (ix2 a b)).trans (blk0 m c t a b))
      (fun a b => (congrFun h4 (ix2 a b)).trans (blk1 m c t a b))
      (fun a b A B hA hB => (congrFun h5 (ix2 a b)).trans (blk2 m c t a b A B hA hB))
      (fun s d B hB => (congrFun h6 (ix2 s d)).trans (blk3 m c t s d B hB))
      (fun d s A hA => (congrFun h7 (ix2 d s)).trans (blk4 m c t d s A hA))
      (fun d => (congrFun h8 (ix3 0 0 d)).trans (blk5 m c t d))
      (scratch_in m c t f10 hk))
    isplitl [H3]; · iexact H3
    isplitl [H4]; · iexact H4
    isplitl [H5]; · iexact H5
    isplitl [H6]; · iexact H6
    isplitl [H7]; · iexact H7
    isplitl [H8]; · iexact H8
    isplitl [H9]; · iexact H9
    rw [View.set_whole, View.set_whole, View.set_whole]
    isplitl [S0]; · iexact S0
    isplitl [S1]; · iexact S1
    iexact S2
  · rw [View.set_whole, View.set_whole, View.set_whole]
    iintro %_ ⟨H3, H4, H5, H6, H7, H8, ⟨%g9, %hg9, H9⟩, ⟨%g10, %hg10, S0⟩, ⟨%g11, S1⟩, ⟨%g12, S2⟩⟩
    isplitl [S0 S1 S2 Hp]
    · isplitl [S0 S1 S2]
      · isplitl [S0]
        · iexists g10
          isplitr [S0]
          · ipureintro; exact scratch_out m c t g10 hg10
          iexact S0
        isplitl [S1]; · iexists g11; iexact S1
        iexists g12; iexact S2
      · iexact Hp
    isplitl [Ho]; · iexact Ho
    isplitl [H3]; · iexists x3; isplitr [H3]; · ipureintro; exact h3
                    iexact H3
    isplitl [H4]; · iexists x4; isplitr [H4]; · ipureintro; exact h4
                    iexact H4
    isplitl [H5]; · iexists x5; isplitr [H5]; · ipureintro; exact h5
                    iexact H5
    isplitl [H6]; · iexists x6; isplitr [H6]; · ipureintro; exact h6
                    iexact H6
    isplitl [H7]; · iexists x7; isplitr [H7]; · ipureintro; exact h7
                    iexact H7
    isplitl [H8]; · iexists x8; isplitr [H8]; · ipureintro; exact h8
                    iexact H8
    iexists g9; isplitr [H9]; · ipureintro; exact funext hg9
    iexact H9

theorem vdefs₀_row (t : Fin cfg0.N) :
    defs₀ (F := Ideal) .tc cfg0.body (cfg0.bodyArgs t (cfg0.slots t)) = bodyAt0 t := by
  unfold defs₀; rw [Defs.onTc_tc]

/-- The library's body obligation. -/
theorem vbody_obligation (c : Dev nD) : BodyObligationLoose (vdats m 0 c) (defs₀ (F := Ideal)) Variants.none () Set.univ := fun t => by
  rw [bigSep_W0, bigSep_W0, vdefs₀_row]
  exact triple_restated (vsound_body m c t) rfl .rfl fun _ => .rfl

/-- Before the first point the scratch may hold anything. -/
theorem phi_in (c : Dev nD) : Pipeline.ΦA spec0 c ⊢ PhiV m c 0 := by
  unfold Pipeline.ΦA PhiV
  rw [scopedRest0_eq]
  iintro ⟨⟨⟨%f10, S0⟩, S1, S2⟩, Hp⟩
  isplitl [S0 S1 S2]
  · isplitl [S0]
    · iexists f10
      isplitr [S0]
      · ipureintro; intro h; exact absurd rfl h
      iexact S0
    isplitl [S1]; · iexact S1
    iexact S2
  iexact Hp

/-- After the last point it is forgotten. -/
theorem phi_out (c : Dev nD) (t : ℕ) : PhiV m c t ⊢ Pipeline.ΦA spec0 c := by
  unfold Pipeline.ΦA PhiV
  rw [scopedRest0_eq]
  iintro ⟨⟨⟨%f10, -, S0⟩, S1, S2⟩, Hp⟩
  isplitl [S0 S1 S2]
  · isplitl [S0]
    · iexists f10; iexact S0
    isplitl [S1]; · iexact S1
    iexact S2
  iexact Hp

set_option backward.isDefEq.respectTransparency.types false in
set_option maxHeartbeats 800000 in
/-- The run, with every array at what the proof data says. -/
theorem vrun_main : θ_run defs (onTc (τ := τ) (main (F := Ideal))) (s₀ m ρ) (Pipeline.FramePost cfgs (vdats m) (0 : Fin 1) (V m)) :=
  Pipeline.θ_run_frame_track cfgs (vdats m) (0 : Fin 1) launch0 defs₀ Variants.none m ρ main
    (hbody := fun c => vbody_obligation m c) (hshare := fun c => (vdats m 0 c).share_full fun _ => rfl)
    (howed := fun _ _ => rfl) (V := V m)
    (hmain := hmain m Variants.none) (hA := vA_eq m) (hin := fun c => phi_in m c) (hout := fun c => phi_out m c _)

/-- The output array. -/
def outG (c : Dev nD) : S16384x8192.Idx → EReal := fun y =>
  Cert.Attn.outK (aQ m c) (aqs m c) (aK m c) (aks m c) (aV m c) (avs m c) (y 0).val ((y 1).val / 128) ((y 1).val % 128)

theorem out_final (c : Dev nD) : (vdats m 0 c).arrAt 6 cfg0.N = outG m c := by
  refine (vdats m 0 c).arrAt_eq_of_covers 6 _ (by decide +kernel) fun t _ y => ?_
  rw [vafter0_6]
  have e0 : ((((cfg0.win 6).blk t).view.emb y) 0).val = 128 * (grid0.coords t 1).val + (y 0).val := by blk_simp [idx6 t]; omega
  have e1 : ((((cfg0.win 6).blk t).view.emb y) 1).val = 512 * (2 * (grid0.coords t 0).val + (grid0.coords t 2).val) + (y 1).val := by blk_simp [idx6 t]; omega
  unfold outT outB outG
  rw [e0, e1]
  rw [show ∀ a b j : ℕ, (512 * (2 * a + b) + j) / 128 = 8 * a + 4 * b + j / 128 from fun a b j => by omega,
    show ∀ a b j : ℕ, (512 * (2 * a + b) + j) % 128 = j % 128 from fun a b j => by omega]
  rfl

/-- The output array and the arguments after the run. -/
theorem vrun : θ_run defs (onTc (τ := τ) (main (F := Ideal))) (s₀ m ρ) (fun r => ∀ c : Dev nD,
    r.2.mem ((c : Thread nD τ).loc main_v1) = outG m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)) := by
  refine (θ_run _ _ _).mono (fun r h c => ?_) (vrun_main m ρ)
  obtain ⟨ha, hr⟩ := h c
  refine ⟨(ha 6).trans (out_final m c), ?_, ?_, ?_, ?_, ?_, ?_⟩
  · exact (ha 2).trans (((vdats m 0 c).arrAt_in 2 rfl _).trans ((vA_eq m c 2).trans (V_main_arg0 m c)))
  · exact (ha 1).trans (((vdats m 0 c).arrAt_in 1 rfl _).trans ((vA_eq m c 1).trans (V_main_arg1 m c)))
  · exact (ha 3).trans (((vdats m 0 c).arrAt_in 3 rfl _).trans ((vA_eq m c 3).trans (V_main_arg2 m c)))
  · exact (ha 0).trans (((vdats m 0 c).arrAt_in 0 rfl _).trans ((vA_eq m c 0).trans (V_main_arg3 m c)))
  · exact (ha 4).trans (((vdats m 0 c).arrAt_in 4 rfl _).trans ((vA_eq m c 4).trans (V_main_arg4 m c)))
  · exact (hr main_arg5 (Pipeline.mem_restRefs_of main_arg5 (by decide) (by decide))).trans (V_main_arg5 m c)

end Cert.KernelIdeal.Body

end
-- ==== Proof.RefVal.lean ====
/- The reference over the extended reals: its output element is the specification's reference row. -/
module

public import proofs.«01_k».proof.Proof.RefRead
public import proofs.«01_k».proof.Proof.Spec
public import Idealize.ShloMosaic.Lib.Pointwise
public import Idealize.ShloMosaic.Lib.Pipeline.ValueKit

@[expose] public section

set_option maxRecDepth 16384

noncomputable section

namespace Cert.ReferenceIdeal.Val

open Cert.ReferenceIdeal Cert.ReferenceIdeal.Gen Cert.ReferenceIdeal.Value Cert.ReferenceIdeal.Read Cert.Attn
open Idealize.ShloMosaic Idealize.ShloMosaic.TcCoe Idealize.ShloMosaic.Tactic Idealize.SL.Sem
open scoped BigOperators

variable (m : (ℓ : Loc nD τ sig) → Buf (Elt Ideal) ℓ)

theorem widx0 : ∀ a, win0_0.index t0_0 a = 0 := by decide +kernel
theorem widx1 : ∀ a, win0_1.index t0_0 a = 0 := by decide +kernel
theorem widx2 : ∀ a, win0_2.index t0_0 a = 0 := by decide +kernel
theorem iblk0 (c : Dev nD) : iblk m c 0 t0_0 = m ((c : Thread nD τ).loc main_arg0) := by blk_ext! [iblk, V, widx0]
theorem iblk1 (c : Dev nD) : iblk m c 1 t0_0 = m ((c : Thread nD τ).loc main_arg2) := by blk_ext! [iblk, V, widx1]
theorem iblk2 (c : Dev nD) : iblk m c 2 t0_0 = m ((c : Thread nD τ).loc main_arg4) := by blk_ext! [iblk, V, widx2]

/-- The three widened arrays. -/
theorem final0 (c : Dev nD) : (Gen.dats m 0 c).arrAt 3 cfg0.N = k0_pay1 (F := Ideal) (m ((c : Thread nD τ).loc main_arg0)) := by
  refine (Gen.dats m 0 c).arrAt_eq_of_after_last 3 t0_0 (by decide +kernel) _ fun j => ?_
  blk_simp; rw [after0_3, iblk0, iblk1, iblk2]; frame_out
theorem final1 (c : Dev nD) : (Gen.dats m 0 c).arrAt 4 cfg0.N = k0_pay2 (F := Ideal) (m ((c : Thread nD τ).loc main_arg2)) := by
  refine (Gen.dats m 0 c).arrAt_eq_of_after_last 4 t0_0 (by decide +kernel) _ fun j => ?_
  blk_simp; rw [after0_4, iblk0, iblk1, iblk2]; frame_out
theorem final2 (c : Dev nD) : (Gen.dats m 0 c).arrAt 5 cfg0.N = k0_pay3 (F := Ideal) (m ((c : Thread nD τ).loc main_arg4)) := by
  refine (Gen.dats m 0 c).arrAt_eq_of_after_last 5 t0_0 (by decide +kernel) _ fun j => ?_
  blk_simp; rw [after0_5, iblk0, iblk1, iblk2]; frame_out

variable (x1 : (⟨S128x64, .f32⟩ : BufTy).Contents (Elt Ideal)) (x3 : (⟨S8x256, .f32⟩ : BufTy).Contents (Elt Ideal)) (x5 : (⟨S8x128, .f32⟩ : BufTy).Contents (Elt Ideal))
  (r0 : (⟨S16384x8192, .bf16⟩ : BufTy).Contents (Elt Ideal)) (r1 : (⟨S16384x1024, .bf16⟩ : BufTy).Contents (Elt Ideal)) (r2 : (⟨S1024x16384, .f32⟩ : BufTy).Contents (Elt Ideal))

theorem v7_at (g e : Fin 8) (t : Fin 16384) (A : Fin 128) (B : Fin 64) (hA : A.val = t.val / 128) (hB : B.val = 8 * g.val + e.val) :
    val_main_v7 (F := Ideal) x1 (ix3 g e t) = x1 (ix2 A B) := by
  rw [val_main_v7_apply, val_main_v6_apply, val_main_v5_apply, val_main_v4_apply]
  refine congrArg x1 (funext (Fin.forall_fin_two.mpr ⟨Fin.ext ?_, Fin.ext ?_⟩))
  · show (((t.val * 8 + g.val) * 8 + e.val) / 64 * 64 + ((t.val * 8 + g.val) * 8 + e.val) % 64) / 8192 = A.val
    omega
  · show (((t.val * 8 + g.val) * 8 + e.val) / 64 * 64 + ((t.val * 8 + g.val) * 8 + e.val) % 64) % 64 = B.val
    omega

theorem v9_at (g : Fin 8) (s : Fin 16384) (B : Fin 256) (hB : B.val = s.val / 64) :
    val_main_v9 (F := Ideal) x3 (ix2 g s) = x3 (ix2 g B) := by
  rw [val_main_v9_apply, val_main_v8_apply]
  refine congrArg x3 (funext (Fin.forall_fin_two.mpr ⟨Fin.ext ?_, Fin.ext ?_⟩))
  · show (g.val * 16384 + s.val) / 16384 = g.val
    omega
  · show (g.val * 16384 + s.val) / 64 % 256 = B.val
    omega

theorem v10_at (g : Fin 8) (s t : Fin 16384) (e : Fin 8) :
    val_main_v10 (F := Ideal) r0 r1 (ix4 g s t e) = ∑ k : Fin 128, (r1 (ix2 s (⟨128 * g.val + k.val, by omega⟩ : Fin 1024)) : EReal) * r0 (ix2 t (⟨128 * (8 * g.val + e.val) + k.val, by omega⟩ : Fin 8192)) := by
  rw [val_main_v10_apply]
  refine Finset.sum_congr rfl fun k _ => ?_
  rw [val_main_v2_apply, val_main_v1_apply]
  refine congrArg₂ (fun a b : EReal => a * b) (congrArg r1 (funext (Fin.forall_fin_two.mpr ⟨Fin.ext ?_, Fin.ext ?_⟩))) (congrArg r0 (funext (Fin.forall_fin_two.mpr ⟨Fin.ext ?_, Fin.ext ?_⟩)))
  · show ((s.val * 8 + g.val) * 128 + k.val) / 1024 = s.val
    omega
  · show ((s.val * 8 + g.val) * 128 + k.val) % 1024 = 128 * g.val + k.val
    omega
  · show (((t.val * 8 + g.val) * 8 + e.val) * 128 + k.val) / 8192 = t.val
    omega
  · show (((t.val * 8 + g.val) * 8 + e.val) * 128 + k.val) % 8192 = 128 * (8 * g.val + e.val) + k.val
    omega

theorem v3_at (g : Fin 8) (d : Fin 128) (s : Fin 16384) (A : Fin 1024) (hA : A.val = 128 * g.val + d.val) : val_main_v3 (F := Ideal) r2 (ix3 g d s) = r2 (ix2 A s) := by
  rw [val_main_v3_apply]
  refine congrArg r2 (funext (Fin.forall_fin_two.mpr ⟨Fin.ext ?_, Fin.ext ?_⟩))
  · show ((g.val * 128 + d.val) * 16384 + s.val) / 16384 = A.val
    omega
  · show ((g.val * 128 + d.val) * 16384 + s.val) % 16384 = s.val
    omega

theorem v44_at (t : Fin 16384) (g e : Fin 8) (d : Fin 128) :
    val_main_v44 (F := Ideal) x5 (ix4 t g e d) = Ideal.ofBits .f32 0x3B800000#32 * x5 (ix2 g d) := by
  rw [val_main_v44_apply, val_main_v43_apply, val_main_v42_apply, val_main_v41_apply]
  refine congrArg (fun a : EReal => Ideal.ofBits .f32 0x3B800000#32 * a) (congrArg x5 (funext (Fin.forall_fin_two.mpr ⟨rfl, rfl⟩)))

theorem mask_at (g e : Fin 8) (t s : Fin 16384) : val_main_call0_v1 (F := Ideal) (ix4 g e t s) = BitVec.ofBool (decide (s.val ≤ t.val)) := by
  rw [val_main_call0_v1_apply, val_main_v23_apply, val_main_v21_apply, val_main_v22_apply, val_main_v19_apply, val_main_v20_apply, val_main_v18_apply, val_main_v18_apply]
  show BitVec.ofBool (BitVec.sle (BitVec.ofNat 32 s.val) (BitVec.ofNat 32 t.val)) = _
  have e : ∀ n : ℕ, n < 2 ^ 31 → (BitVec.ofNat 32 n).toInt = n := fun n hn => by
    rw [BitVec.toInt_ofNat', Int.bmod_eq_of_le] <;> omega
  rw [BitVec.sle_eq_decide, e _ (by omega), e _ (by omega)]
  simp only [Nat.cast_le]

theorem sel1 (a b : EReal) : Scalar.select (BitVec.ofBool true) a b = a := rfl
theorem sel0 (a b : EReal) : Scalar.select (BitVec.ofBool false) a b = b := rfl

theorem v24_at (g e : Fin 8) (t s : Fin 16384) :
    val_main_v24 (F := Ideal) x1 x3 r0 r1 (ix4 g e t s) = if s.val ≤ t.val then
      val_main_v10 (F := Ideal) r0 r1 (ix4 g s t e) * val_main_v7 (F := Ideal) x1 (ix3 g e t) * val_main_v9 (F := Ideal) x3 (ix2 g s) else (⊥ : EReal) := by
  rw [val_main_v24_apply, mask_at, val_main_v17_apply, val_main_v14_apply, val_main_v11_apply, val_main_v13_apply, val_main_v12_apply, val_main_v16_apply, val_main_v15_apply]
  by_cases h : s.val ≤ t.val
  · rw [if_pos h, decide_eq_true h]
    refine (sel1 _ _).trans ?_
    refine congrArg₂ (fun a b : EReal => a * b) (congrArg₂ (fun a b : EReal => a * b) (congrArg _ (funext fun a => ?_)) (congrArg _ (funext fun a => ?_))) (congrArg _ (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
    · match a with
      | ⟨0, _⟩ => rfl
      | ⟨1, _⟩ => rfl
  · rw [if_neg h, decide_eq_false h]
    refine (sel0 _ _).trans ?_
    show Ideal.ofBits .f32 0xFF800000#32 = ⊥
    simp [Ideal.ofBits, Ideal.ieee]

theorem v25_at (g e : Fin 8) (t : Fin 16384) :
    val_main_v25 (F := Ideal) x1 x3 r0 r1 (ix3 g e t) = Finset.univ.fold max (Ideal.ofBits .f32 0xFF800000#32) fun k : Fin 16384 => val_main_v24 (F := Ideal) x1 x3 r0 r1 (ix4 g e t k) := by
  unfold val_main_v25
  generalize val_main_v24 (F := Ideal) x1 x3 r0 r1 = v
  pointwise [val_main_cst_0]

/-- The row's scores, as the specification names them. -/
theorem v24_y (Q : Fin 16384 → Fin 8192 → BitVec 8) (qs : Fin 128 → Fin 64 → EReal) (K : Fin 16384 → Fin 1024 → BitVec 8) (ks : Fin 8 → Fin 256 → EReal)
    (h1 : ∀ (a : Fin 128) (b : Fin 64), x1 (ix2 a b) = qs a b) (h3 : ∀ (a : Fin 8) (b : Fin 256), x3 (ix2 a b) = ks a b)
    (g0 : ∀ (a : Fin 16384) (b : Fin 8192), r0 (ix2 a b) = code (Q a b)) (g1 : ∀ (a : Fin 16384) (b : Fin 1024), r1 (ix2 a b) = code (K a b))
    (g e : Fin 8) (t s : Fin 16384) :
    val_main_v24 (F := Ideal) x1 x3 r0 r1 (ix4 g e t s) = y (rowS Q K t.val (8 * g.val + e.val)) (fun s => natAt ks ((8 * g.val + e.val) / 8) (s / 64)) (natAt qs (t.val / 128) (8 * g.val + e.val)) t.val s.val := by
  have hg : (8 * g.val + e.val) / 8 = g.val := by omega
  rw [v24_at, v10_at, v7_at x1 g e t ⟨t.val / 128, by omega⟩ ⟨8 * g.val + e.val, by omega⟩ rfl rfl, v9_at x3 g s ⟨s.val / 64, by omega⟩ rfl, h1, h3]
  unfold y rowS
  beta_reduce
  rw [hg, natAt_eq qs _ _ (by omega) (by omega), natAt_eq ks _ _ g.isLt (by omega)]
  have hs : ∀ k : Fin 128, (r1 (ix2 s (⟨128 * g.val + k.val, by omega⟩ : Fin 1024)) : EReal) * r0 (ix2 t (⟨128 * (8 * g.val + e.val) + k.val, by omega⟩ : Fin 8192))
      = natAt (fun a b => code (K a b)) s.val (128 * g.val + k.val) * natAt (fun a b => code (Q a b)) t.val (128 * (8 * g.val + e.val) + k.val) := fun k => by
    rw [g0, g1, natAt_eq _ _ _ s.isLt (by omega), natAt_eq _ _ _ t.isLt (by omega)]
  simp only [hs]

/-- A maximum over all the keys. -/
theorem fold_sup (b : EReal) (hb : b = ⊥) (f : ℕ → EReal) : (Finset.univ.fold max b fun k : Fin 16384 => f k.val) = (Finset.range 16384).sup f := by
  subst hb
  rw [show (Finset.range 16384).sup f = (Finset.univ : Finset (Fin 16384)).sup fun k => f k.val from ?_]
  · rfl
  · refine le_antisymm (Finset.sup_le fun s hs => ?_) (Finset.sup_le fun s _ => ?_)
    · exact Finset.le_sup (f := fun k : Fin 16384 => f k.val) (Finset.mem_univ (⟨s, Finset.mem_range.mp hs⟩ : Fin 16384))
    · exact Finset.le_sup (f := f) (Finset.mem_range.mpr s.isLt)

theorem bits_bot : Ideal.ofBits .f32 0xFF800000#32 = ⊥ := by simp [Ideal.ofBits, Ideal.ieee]
theorem bits_256 : Ideal.ofBits .f32 0x43800000#32 = ((256 : ℝ) : EReal) := by
  simp [Ideal.ofBits, Ideal.ieee]; rw [← EReal.coe_mul]; norm_num
theorem bits_inv256 : Ideal.ofBits .f32 0x3B800000#32 = ((256⁻¹ : ℝ) : EReal) := by
  simp [Ideal.ofBits, Ideal.ieee]; rw [← EReal.coe_mul]; norm_num

theorem hexp (a b : EReal) : FloatOps.hostUnary (F := Ideal) (φ := .f32) .exp (FloatOps.subf (F := Ideal) (φ := .f32) a b) = Ideal.exp (a - b) := rfl

/-- The reference's element. -/
theorem v47_at (Q : Fin 16384 → Fin 8192 → BitVec 8) (qs : Fin 128 → Fin 64 → EReal) (K : Fin 16384 → Fin 1024 → BitVec 8) (ks : Fin 8 → Fin 256 → EReal)
    (V : Fin 1024 → Fin 16384 → EReal) (vs : Fin 8 → Fin 128 → EReal)
    (h1 : ∀ (a : Fin 128) (b : Fin 64), x1 (ix2 a b) = qs a b) (h3 : ∀ (a : Fin 8) (b : Fin 256), x3 (ix2 a b) = ks a b)
    (h5 : ∀ (a : Fin 8) (b : Fin 128), x5 (ix2 a b) = vs a b)
    (g0 : ∀ (a : Fin 16384) (b : Fin 8192), r0 (ix2 a b) = code (Q a b)) (g1 : ∀ (a : Fin 16384) (b : Fin 1024), r1 (ix2 a b) = code (K a b))
    (g2 : ∀ (a : Fin 1024) (b : Fin 16384), r2 (ix2 a b) = V a b)
    (t : Fin 16384) (C : Fin 8192) :
    val_main_v47 (F := Ideal) x1 x3 x5 r0 r1 r2 (ix2 t C) = outR Q qs K ks V vs t.val (C.val / 128) (C.val % 128) := by
  obtain ⟨g, hg⟩ : ∃ g : Fin 8, g.val = C.val / 1024 := ⟨⟨C.val / 1024, by omega⟩, rfl⟩
  obtain ⟨e, he⟩ : ∃ e : Fin 8, e.val = C.val / 128 % 8 := ⟨⟨C.val / 128 % 8, by omega⟩, rfl⟩
  obtain ⟨d, hd⟩ : ∃ d : Fin 128, d.val = C.val % 128 := ⟨⟨C.val % 128, by omega⟩, rfl⟩
  have hH : C.val / 128 = 8 * g.val + e.val := by omega
  rw [hH, ← hd]
  rw [val_main_v47_apply, val_main_v46_apply]
  have hi : idx_main_v46 (ix2 t C) = ix4 t g e d := funext fun a => Fin.ext (match a with
    | ⟨0, _⟩ => by show (t.val * 8192 + C.val) / 8192 = t.val; omega
    | ⟨1, _⟩ => by show (t.val * 8192 + C.val) / 1024 % 8 = g.val; omega
    | ⟨2, _⟩ => by show (t.val * 8192 + C.val) / 128 % 8 = e.val; omega
    | ⟨3, _⟩ => by show (t.val * 8192 + C.val) % 128 = d.val; omega)
  rw [hi]
  refine (?_ : _ = val_main_v45 (F := Ideal) x1 x3 x5 r0 r1 r2 (ix4 t g e d)).symm.symm.trans ?_
  · generalize val_main_v45 (F := Ideal) x1 x3 x5 r0 r1 r2 = w; rfl
  have hy := v24_y x1 x3 r0 r1 Q qs K ks h1 h3 g0 g1 g e t
  have hM : val_main_v25 (F := Ideal) x1 x3 r0 r1 (ix3 g e t) = (Finset.range 16384).sup (y (rowS Q K t.val (8 * g.val + e.val)) (fun s => natAt ks ((8 * g.val + e.val) / 8) (s / 64)) (natAt qs (t.val / 128) (8 * g.val + e.val)) t.val) := by
    rw [v25_at, ← fold_sup _ bits_bot]
    simp only [hy]
  have hp : ∀ k : Fin 16384, val_main_v29 (F := Ideal) x1 x3 r0 r1 (ix4 g e t k) = p (rowS Q K t.val (8 * g.val + e.val)) (fun s => natAt ks ((8 * g.val + e.val) / 8) (s / 64)) (natAt qs (t.val / 128) (8 * g.val + e.val)) t.val 16384 k.val := fun k => by
    rw [val_main_v29_apply, val_main_v28_apply, val_main_v27_apply, val_main_v26_apply, hy]
    have hq : val_main_v25 (F := Ideal) x1 x3 r0 r1 (idx_main_v26 (idx_main_v27 (ix4 g e t k))) = val_main_v25 (F := Ideal) x1 x3 r0 r1 (ix3 g e t) := congrArg _ (funext fun a => match a with
      | ⟨0, _⟩ => rfl
      | ⟨1, _⟩ => rfl
      | ⟨2, _⟩ => rfl)
    rw [hq, hM, hexp]
    rfl
  have hl : val_main_v39 (F := Ideal) x1 x3 r0 r1 (ix4 t g e d) = ∑ s ∈ Finset.range 16384, p (rowS Q K t.val (8 * g.val + e.val)) (fun s => natAt ks ((8 * g.val + e.val) / 8) (s / 64)) (natAt qs (t.val / 128) (8 * g.val + e.val)) t.val 16384 s := by
    rw [val_main_v39_apply, val_main_v38_apply, val_main_v37_apply, val_main_v30_apply, ← Fin.sum_univ_eq_sum_range]
    rw [show (val_main_cst_1 (F := Ideal)) (Shape.Idx.first h_S_) = (0 : EReal) from Ideal.ofBits_zero_f32, zero_add]
    refine Finset.sum_congr rfl fun k _ => ?_
    rw [← hp k]
    refine congrArg _ (funext fun a => ?_)
    match a with
    | ⟨0, _⟩ => rfl
    | ⟨1, _⟩ => rfl
    | ⟨2, _⟩ => rfl
    | ⟨3, _⟩ => rfl
  have ha : val_main_v36 (F := Ideal) x1 x3 r0 r1 r2 (ix4 t g e d) = ∑ s ∈ Finset.range 16384, natAt V (128 * g.val + d.val) s * min (p (rowS Q K t.val (8 * g.val + e.val)) (fun s => natAt ks ((8 * g.val + e.val) / 8) (s / 64)) (natAt qs (t.val / 128) (8 * g.val + e.val)) t.val 16384 s * ((256 : ℝ) : EReal)) (Ideal.ofBits .f32 1138753536#32) := by
    rw [val_main_v36_apply, val_main_v35_apply, ← Fin.sum_univ_eq_sum_range]
    refine Finset.sum_congr rfl fun k _ => ?_
    rw [← hp k, ← bits_256, natAt_eq V _ _ (by omega) k.isLt, ← g2, ← v3_at r2 g d k _ rfl]
    refine congrArg₂ (fun a b : EReal => a * b) (congrArg _ (funext fun a => ?_)) ?_
    · match a with
      | ⟨0, _⟩ => rfl
      | ⟨1, _⟩ => rfl
      | ⟨2, _⟩ => rfl
    · rw [val_main_v34_apply, val_main_v32_apply, val_main_v31_apply, val_main_v33_apply]
      refine congrArg (fun a : EReal => min (a * Ideal.ofBits .f32 0x43800000#32) (Ideal.ofBits .f32 1138753536#32)) (congrArg _ (funext fun a => ?_))
      match a with
      | ⟨0, _⟩ => rfl
      | ⟨1, _⟩ => rfl
      | ⟨2, _⟩ => rfl
      | ⟨3, _⟩ => rfl
  rw [val_main_v45_apply, val_main_v40_apply, ha, hl, v44_at, bits_inv256, h5]
  unfold outR refRow
  rw [show (8 * g.val + e.val) / 8 = g.val by omega, natAt_eq vs _ _ g.isLt d.isLt]
  rfl

/-- The reference's result array. -/
theorem res_at (c : Dev nD) (t : Fin 16384) (C : Fin 8192) :
    res_main_v47 m c (ix2 t C) = outR (fun a b => m ((c : Thread nD τ).loc main_arg0) (ix2 a b)) (fun a b => m ((c : Thread nD τ).loc main_arg1) (ix2 a b))
      (fun a b => m ((c : Thread nD τ).loc main_arg2) (ix2 a b)) (fun a b => m ((c : Thread nD τ).loc main_arg3) (ix2 a b))
      (fun a b => m ((c : Thread nD τ).loc main_arg4) (ix2 a b)) (fun a b => m ((c : Thread nD τ).loc main_arg5) (ix2 a b)) t.val (C.val / 128) (C.val % 128) := by
  refine (congrFun (show res_main_v47 m c = val_main_v47 (F := Ideal) (m ((c : Thread nD τ).loc main_arg1)) (m ((c : Thread nD τ).loc main_arg3)) (m ((c : Thread nD τ).loc main_arg5)) (reg_main_v0_0 m c) (reg_main_v0_1 m c) (reg_main_v0_2 m c) from rfl) _).trans ?_
  refine v47_at _ _ _ _ _ _ _ _ _ _ _ _ (fun a b => rfl) (fun a b => rfl) (fun a b => rfl) (fun a b => ?_) (fun a b => ?_) (fun a b => ?_) t C
  · exact congrFun (final0 m c) (ix2 a b)
  · exact congrFun (final1 m c) (ix2 a b)
  · exact congrFun (final2 m c) (ix2 a b)

end Cert.ReferenceIdeal.Val

end
-- ==== Proof.Claim.lean ====
/- The value claim: when no product of scales is below the floor, both programs end with the same output array. -/
module

public import proofs.«01_k».proof.Defs
public import proofs.«01_k».proof.Proof.RunI
public import proofs.«01_k».proof.Proof.RefVal
public import Idealize.ShloMosaic.Lib.Claim

@[expose] public section

set_option maxRecDepth 16384

noncomputable section

namespace Cert.Alg

open Idealize.ShloMosaic Idealize.ShloMosaic.TcCoe Idealize.SL.Sem Cert.KernelIdeal

/-- The side conditions of the precondition's operations. -/
theorem preFacts : Cert.Pre_scales_not_tiny.Facts where
  shapeCasts_S128x64_S128x8x8x1 := by decide
  shapeCasts_S8x256_S1x8x1x256 := by decide
  bcast_S128x8x8x1_S128x8x8x256_0_1_2_3 := by decide
  bcast_S1x8x1x256_S128x8x8x256_0_1_2_3 := by decide
  bcast_S_S128x8x8x256 := by decide

/-- The precondition at one query block, head and key group. -/
theorem pre_at (x0 : IVec Pre_scales_not_tiny.S16384x8192 8) (x1 : FVec Ideal Pre_scales_not_tiny.S128x64 .f32) (x2 : IVec Pre_scales_not_tiny.S16384x1024 8)
    (x3 : FVec Ideal Pre_scales_not_tiny.S8x256 .f32) (x4 : FVec Ideal Pre_scales_not_tiny.S1024x16384 .fp8e4m3) (x5 : FVec Ideal Pre_scales_not_tiny.S8x128 .f32)
    (b : Fin 128) (g e : Fin 8) (s : Fin 256) (H : Fin 64) (hH : H.val = 8 * g.val + e.val)
    (h : letI := preFacts; Cert.Pre_scales_not_tiny.fn (F := Ideal) x0 x1 x2 x3 x4 x5 (ix4 b g e s) = 1#1) :
    Cert.Attn.tiny ≤ (x1 (ix2 b H) : EReal) * x3 (ix2 g s) := by
  letI := preFacts
  unfold Cert.Pre_scales_not_tiny.fn at h
  pointwise at h
  have eH : (⟨g.val * 8 + e.val, by omega⟩ : Fin 64) = H := Fin.ext (by show g.val * 8 + e.val = H.val; omega)
  rw [eH] at h
  by_contra hn
  have hd : decide (Ideal.ofBits FTy.f32 228737632#32 ≤ (x1 (ix2 b H) : EReal) * x3 (ix2 g s)) = false := decide_eq_false hn
  rw [hd] at h
  exact absurd h (by decide)

/-- Both programs end with the specification's array and their arguments unchanged. -/
theorem algebraic : letI := Cert.KernelIdeal.Gen.facts; letI := Cert.ReferenceIdeal.Gen.facts; letI := preFacts
    Cert.algebraic_KernelIdeal_ReferenceIdeal_pre_scales_not_tiny := fun m ρ m' ρ' hpre hag => by
  refine ⟨fun c => Cert.KernelIdeal.Body.outG m c, Cert.KernelIdeal.Body.vrun m ρ, ?_⟩
  refine (θ_run _ _ _).mono (fun r h c => ?_) (Cert.ReferenceIdeal.Value.run (F := Ideal) m' ρ')
  refine ⟨(h c).1.trans (funext fun y => ?_), (h c).2⟩
  obtain ⟨t, C, rfl⟩ : ∃ (t : Fin 16384) (C : Fin 8192), y = ix2 t C := ⟨y 0, y 1, funext (Fin.forall_fin_two.mpr ⟨rfl, rfl⟩)⟩
  rw [Cert.ReferenceIdeal.Val.res_at m' c t C]
  obtain ⟨a0, a1, a2, a3, a4, a5⟩ := hag c
  have e := Cert.Attn.outK_eq (Cert.KernelIdeal.Body.aQ m c) (Cert.KernelIdeal.Body.aqs m c) (Cert.KernelIdeal.Body.aK m c) (Cert.KernelIdeal.Body.aks m c)
    (Cert.KernelIdeal.Body.aV m c) (Cert.KernelIdeal.Body.avs m c)
    (fun b H g s hg => pre_at _ _ _ _ _ _ b g ⟨H.val % 8, by omega⟩ s H (by show H.val = 8 * g.val + H.val % 8; omega) (congrFun (hpre c) _))
    t.val (C.val / 128) (C.val % 128) t.isLt (by omega)
  refine Eq.trans ?_ e.symm
  rw [a0, a1, a2, a3, a4, a5]
  rfl

end Cert.Alg

end
-- ==== Proof.QuantMath.lean ====
/- The query quantiser's mathematics over the extended reals: the scale of a 128 x 128 group and the code of one entry. -/
module

public import Idealize.ShloMosaic.Lib.Pointwise
public import Idealize.ShloMosaic.Lib.Pipeline.ValueKit

@[expose] public section

noncomputable section

namespace Cert.Quant

open Idealize.ShloMosaic

/-- The magnitude of one entry after the softmax scale. -/
def mag (x : EReal) : EReal := FloatOps.absf (F := Ideal) (φ := .f32) (x * Ideal.ofBits FTy.f32 1035273459#32)

/-- The largest magnitude of a group, the inner maximum over its rows. -/
def amax (w : Fin 128 → Fin 128 → EReal) : EReal :=
  Finset.fold max (Ideal.ofBits FTy.f32 4286578688#32) (fun d => Finset.fold max (Ideal.ofBits FTy.f32 4286578688#32) (fun r => mag (w r d)) Finset.univ) Finset.univ

open Classical in
/-- The scale that goes with the largest magnitude `a`: `a / 127`, or one for a group of zeros. -/
def scaleOf (a : EReal) : EReal := if a = 0 then 1 else Ideal.div a (Ideal.ofBits FTy.f32 1123942400#32)

/-- The code of the entry `x` at scale `s`: divided, rounded, clipped, converted. -/
def code (x s : EReal) : BitVec 8 :=
  FloatOps.fptosi (F := Ideal) (φ := .f32) 8 (min (Ideal.ofBits FTy.f32 1123942400#32) (max (Ideal.ofBits FTy.f32 3271426048#32)
    (Ideal.liftRound Ideal.roundHalfEven (Ideal.div (x * Ideal.ofBits FTy.f32 1035273459#32) s))))

/-- Nested maxima may be taken in either order. -/
theorem fold_max_comm (b : EReal) (f : Fin 128 → Fin 128 → EReal) :
    Finset.fold max b (fun r => Finset.fold max b (fun d => f r d) Finset.univ) Finset.univ
      = Finset.fold max b (fun d => Finset.fold max b (fun r => f r d) Finset.univ) Finset.univ := by
  refine eq_of_forall_ge_iff fun c => ?_
  simp only [Finset.fold_max_le, Finset.mem_univ, true_implies]
  exact ⟨fun h => ⟨h.1, fun d => ⟨h.1, fun r => (h.2 r).2 d⟩⟩, fun h => ⟨h.1, fun r => ⟨h.1, fun d => (h.2 d).2 r⟩⟩⟩

/-- The largest magnitude, the inner maximum over the columns. -/
theorem amax_cols (w : Fin 128 → Fin 128 → EReal) :
    Finset.fold max (Ideal.ofBits FTy.f32 4286578688#32) (fun r => Finset.fold max (Ideal.ofBits FTy.f32 4286578688#32) (fun d => mag (w r d)) Finset.univ) Finset.univ = amax w :=
  fold_max_comm _ fun r d => mag (w r d)

/-- The 128 x 128 group of the array `A` at row block `b` and head `h`. -/
def group (A : (⟨2, ![16384, 8192]⟩ : Shape).Idx → EReal) (b h : ℕ) (hb : b < 128) (hh : h < 64) : Fin 128 → Fin 128 → EReal :=
  fun r d => A (ix2 (⟨b * 128 + r.val, by omega⟩ : Fin 16384) (⟨h * 128 + d.val, by omega⟩ : Fin 8192))

/-- Equal block and head numbers name the same group. -/
theorem group_congr (A : (⟨2, ![16384, 8192]⟩ : Shape).Idx → EReal) {b h b' h' : ℕ} (eb : b = b') (eh : h = h') (hb hh hb' hh') :
    group A b h hb hh = group A b' h' hb' hh' := by
  subst eb; subst eh; rfl

/-- The array of codes: each entry of `A` at its group's scale. -/
def codesOf (A : (⟨2, ![16384, 8192]⟩ : Shape).Idx → EReal) (j : (⟨2, ![16384, 8192]⟩ : Shape).Idx) : BitVec 8 :=
  code (A j) (scaleOf (amax (group A ((j 0 : ℕ) / 128) ((j 1 : ℕ) / 128)
    (by have : (j 0 : ℕ) < 16384 := (j 0).isLt; omega) (by have : (j 1 : ℕ) < 8192 := (j 1).isLt; omega))))

/-- The array of scales: one for each row block and head. -/
def scalesOf (A : (⟨2, ![16384, 8192]⟩ : Shape).Idx → EReal) (j : (⟨3, ![128, 1, 64]⟩ : Shape).Idx) : EReal :=
  scaleOf (amax (group A (j 0) (j 2) (j 0).isLt (j 2).isLt))

end Cert.Quant

end
-- ==== Proof.QuantPay.lean ====
/- One head of the query quantiser: what its code tile and its scale are, entry by entry. -/
module

public import proofs.«01_k».proof.Proof.Gen.QuantKernelIdeal.Frame
public import proofs.«01_k».proof.Proof.QuantMath

@[expose] public section

set_option maxRecDepth 16384

noncomputable section

namespace Cert.QuantKernelIdeal.Val

open Cert.QuantKernelIdeal Cert.QuantKernelIdeal.Gen Cert.Quant
open Idealize.ShloMosaic

/-- The scale of the tile `T`. -/
theorem pay2_at (T : Vec Ideal S128x128 .bf16) (x : S1x1.Idx) : k0_pay2 (F := Ideal) T x = scaleOf (amax fun r d => T (ix2 r d)) := by
  pointwise [k0_pay2, k0_pay1]
  unfold scaleOf amax mag
  congr

/-- The code of the tile `T` at `x`. -/
theorem pay3_at (T : Vec Ideal S128x128 .bf16) (x : S128x128.Idx) : k0_pay3 (F := Ideal) T x = code (T x) (scaleOf (amax fun r d => T (ix2 r d))) := by
  pointwise [k0_pay3, k0_pay1]
  rw [pay2_at]
  rfl

/-- The stored scale of the tile `T`. -/
theorem pay4_at (T : Vec Ideal S128x128 .bf16) (x : S1x1x1.Idx) : k0_pay4 (F := Ideal) T x = scaleOf (amax fun r d => T (ix2 r d)) := by
  pointwise [k0_pay4]
  rw [pay2_at]

end Cert.QuantKernelIdeal.Val

end
-- ==== Proof.QuantPoint.lean ====
/- One row block of the query quantiser: its 64 code tiles are one array of codes, its 64 scales one row of scales. -/
module

public import proofs.«01_k».proof.Proof.QuantPay

@[expose] public section

set_option maxRecDepth 200000
set_option maxHeartbeats 4000000

noncomputable section

namespace Cert.QuantKernelIdeal.Val

open Cert.QuantKernelIdeal Cert.QuantKernelIdeal.Gen Cert.Quant
open Idealize.ShloMosaic

/-- The group of the block `X` under head `h`. -/
def grp (X : Vec Ideal S128x8192 .bf16) (h : ℕ) (hh : h < 64) : Fin 128 → Fin 128 → EReal := fun r d => X (ix2 r (⟨h * 128 + d.val, by omega⟩ : Fin 8192))

/-- Every code of the block. -/
theorem point1 (X : Vec Ideal S128x8192 .bf16) (y : S128x8192.Idx) :
    out0_1 (F := Ideal) X y = code (X y) (scaleOf (amax (grp X ((y 1 : ℕ) / 128) (by have : (y 1 : ℕ) < 8192 := (y 1).isLt; omega)))) := by
  unfold out0_1
  canon_tiles x h
  all_goals
    refine (pay3_at _ x).trans ?_
    refine congrArg₂ code ?_ (congrArg scaleOf (congrArg amax (funext fun r => funext fun d => ?_)))
    · (pointwise []; blk_ext)
    · unfold grp
      (pointwise []; blk_ext)

/-- Every scale of the block. -/
theorem point2 (X : Vec Ideal S128x8192 .bf16) (y : S1x1x64.Idx) :
    out0_2 (F := Ideal) X y = scaleOf (amax (grp X (y 2) (y 2).isLt)) := by
  unfold out0_2
  canon_tiles x h
  all_goals
    refine (pay4_at _ x).trans ?_
    refine congrArg scaleOf (congrArg amax (funext fun r => funext fun d => ?_))
    unfold grp
    (pointwise []; blk_ext)

end Cert.QuantKernelIdeal.Val

end
-- ==== Proof.QuantRun.lean ====
/- The query quantiser's run over the extended reals: its two result arrays, entry by entry. -/
module

public import proofs.«01_k».proof.Proof.QuantPoint

@[expose] public section

set_option maxRecDepth 16384

noncomputable section

namespace Cert.QuantKernelIdeal.Val

open Cert.QuantKernelIdeal Cert.QuantKernelIdeal.Gen Cert.Quant
open Idealize.ShloMosaic Idealize.ShloMosaic.TcCoe Idealize.ShloMosaic.Tactic Idealize.SL.Sem

variable (m : (ℓ : Loc nD τ sig) → Buf (Elt Ideal) ℓ)

/-- Which block each window is on at point `t`. -/
theorem idx : ∀ t : Fin cfg0.N, win0_0.index t = ![t.val, 0] ∧ win0_1.index t = ![t.val, 0] ∧ win0_2.index t = ![t.val, 0, 0] :=
  (by decide +kernel : ∀ t : Fin grid0.N, win0_0.index t = ![t.val, 0] ∧ win0_1.index t = ![t.val, 0] ∧ win0_2.index t = ![t.val, 0, 0])

/-- The input array. -/
def arr (c : Dev nD) : (⟨2, ![16384, 8192]⟩ : Shape).Idx → EReal := m ((c : Thread nD τ).loc main_arg0)

/-- The input block at point `t`. -/
theorem blk_at (c : Dev nD) (t : Fin cfg0.N) (y : S128x8192.Idx) (j : (⟨2, ![16384, 8192]⟩ : Shape).Idx)
    (h0 : (j 0 : ℕ) = t.val * 128 + y 0) (h1 : (j 1 : ℕ) = y 1) : iblk m c 0 t y = arr m c j := by
  unfold arr
  blk_ext [iblk, V, idx t]

/-- A head's group of the block is the array's group. -/
theorem grp_at (c : Dev nD) (t : Fin cfg0.N) (h : ℕ) (hh : h < 64) (b : ℕ) (hb : b < 128) (e : b = t.val) :
    grp (iblk m c 0 t) h hh = group (arr m c) b h hb hh := by
  subst e
  exact funext fun r => funext fun d => blk_at m c t _ _ rfl rfl

/-- A code of the block is the array's code. -/
theorem code_blk (c : Dev nD) (t : Fin cfg0.N) (y : S128x8192.Idx) (j : (⟨2, ![16384, 8192]⟩ : Shape).Idx)
    (h0 : (j 0 : ℕ) = t.val * 128 + y 0) (h1 : (j 1 : ℕ) = y 1) (hy : (y 1 : ℕ) / 128 < 64) :
    code (iblk m c 0 t y) (scaleOf (amax (grp (iblk m c 0 t) ((y 1 : ℕ) / 128) hy))) = codesOf (arr m c) j := by
  have ht : t.val < 128 := lt_of_lt_of_eq t.isLt N_0
  have y0 : (y 0 : ℕ) < 128 := (y 0).isLt
  rw [grp_at m c t _ hy t.val ht rfl, blk_at m c t y j h0 h1]
  exact congrArg (fun g => code (arr m c j) (scaleOf (amax g))) (group_congr _ (by omega) (by rw [h1]) _ _ _ _)

/-- A scale of the block is the array's scale. -/
theorem scale_blk (c : Dev nD) (t : Fin cfg0.N) (y : S1x1x64.Idx) (j : (⟨3, ![128, 1, 64]⟩ : Shape).Idx)
    (h0 : (j 0 : ℕ) = t.val) (h2 : (j 2 : ℕ) = y 2) :
    scaleOf (amax (grp (iblk m c 0 t) (y 2) (y 2).isLt)) = scalesOf (arr m c) j := by
  rw [grp_at m c t _ (y 2).isLt t.val (lt_of_lt_of_eq t.isLt N_0) rfl]
  exact congrArg (fun g => scaleOf (amax g)) (group_congr _ h0.symm h2.symm _ _ _ _)

/-- The codes. -/
theorem final1 (c : Dev nD) : (Gen.dats m 0 c).arrAt 1 cfg0.N = codesOf (arr m c) := by
  refine (Gen.dats m 0 c).arrAt_eq_of_covers 1 _ (by decide +kernel) fun t _ y => ?_
  rw [after0_1]
  have ht : t.val < 128 := lt_of_lt_of_eq t.isLt N_0
  have y0 : (y 0 : ℕ) < 128 := (y 0).isLt
  have e0 : ((((cfg0.win 1).blk t).view.emb y) 0 : ℕ) = t.val * 128 + (y 0 : ℕ) := by blk_simp [idx t] <;> try omega
  have e1 : ((((cfg0.win 1).blk t).view.emb y) 1 : ℕ) = (y 1 : ℕ) := by blk_simp [idx t] <;> try omega
  refine Eq.trans ?_ (Eq.trans (point1 (iblk m c 0 t) y) ?_)
  · blk_simp
  · exact code_blk m c t y _ e0 e1 _

/-- The scales. -/
theorem final2 (c : Dev nD) : (Gen.dats m 0 c).arrAt 2 cfg0.N = scalesOf (arr m c) := by
  refine (Gen.dats m 0 c).arrAt_eq_of_covers 2 _ (by decide +kernel) fun t _ y => ?_
  rw [after0_2]
  have ht : t.val < 128 := lt_of_lt_of_eq t.isLt N_0
  have y0 : (y 0 : ℕ) < 1 := (y 0).isLt
  have e0 : ((((cfg0.win 2).blk t).view.emb y) 0 : ℕ) = t.val := by blk_simp [idx t] <;> try omega
  have e2 : ((((cfg0.win 2).blk t).view.emb y) 2 : ℕ) = (y 2 : ℕ) := by blk_simp [idx t] <;> try omega
  refine Eq.trans ?_ (Eq.trans (point2 (iblk m c 0 t) y) ?_)
  · blk_simp
  · exact scale_blk m c t y _ e0 e2

variable (ρ : Dev nD → PrngReg)

/-- The run: both result arrays, and the argument unchanged. -/
theorem vrun : θ_run (defs (F := Ideal)) (onTc (τ := τ) (main (F := Ideal))) ⟨m, fun _ => 0, ρ⟩ (fun r => ∀ c : Dev nD,
    r.2.mem ((c.tc : Thread nD τ).loc main_v0_0) = codesOf (arr m c)
    ∧ r.2.mem ((c.tc : Thread nD τ).loc main_v0_1) = scalesOf (arr m c)
    ∧ r.2.mem ((c.tc : Thread nD τ).loc main_arg0) = m ((c.tc : Thread nD τ).loc main_arg0)) :=
  (θ_run _ _ _).mono (fun _ h c => ⟨((h c).1 1).trans (final1 m c), ((h c).1 2).trans (final2 m c),
    ((h c).1 0).trans (((Gen.dats m 0 c).arrAt_in 0 rfl _).trans ((Gen.A_eq m c 0).trans (V_main_arg0 m c)))⟩) (run_main m ρ)

end Cert.QuantKernelIdeal.Val

end
-- ==== Proof.QuantRefPay.lean ====
/- The query quantiser's reference: its codes and scales, entry by entry. -/
module

public import proofs.«01_k».proof.Proof.Gen.QuantReferenceIdeal.Frame
public import proofs.«01_k».proof.Proof.QuantMath

@[expose] public section

set_option maxRecDepth 16384

noncomputable section

namespace Cert.QuantReferenceIdeal.Val

open Cert.QuantReferenceIdeal Cert.QuantReferenceIdeal.Gen Cert.Quant
open Idealize.ShloMosaic

/-- The scale of one row block and head. -/
theorem pay2_at (X : Vec Ideal S16384x8192 .bf16) (x : S128x64.Idx) :
    k0_pay2 (F := Ideal) X x = scaleOf (amax (group X (x 0) (x 1) (x 0).isLt (x 1).isLt)) := by
  pointwise [k0_pay2, k0_pay1]
  rw [← amax_cols]
  unfold scaleOf mag group
  congr

/-- The code of one entry. -/
theorem pay3_at (X : Vec Ideal S16384x8192 .bf16) (x : S16384x8192.Idx) : k0_pay3 (F := Ideal) X x = codesOf X x := by
  pointwise [k0_pay3, k0_pay1]
  rw [pay2_at]
  rfl

/-- The stored scale. -/
theorem pay4_at (X : Vec Ideal S16384x8192 .bf16) (x : S128x1x64.Idx) : k0_pay4 (F := Ideal) X x = scalesOf X x := by
  pointwise [k0_pay4]
  rw [pay2_at]
  rfl

end Cert.QuantReferenceIdeal.Val

end
-- ==== Proof.QuantRefRun.lean ====
/- The run of the query quantiser's reference over the extended reals: its two result arrays. -/
module

public import proofs.«01_k».proof.Proof.QuantRefPay

@[expose] public section

set_option maxRecDepth 16384

noncomputable section

namespace Cert.QuantReferenceIdeal.Val

open Cert.QuantReferenceIdeal Cert.QuantReferenceIdeal.Gen Cert.Quant
open Idealize.ShloMosaic Idealize.ShloMosaic.TcCoe Idealize.ShloMosaic.Tactic Idealize.SL.Sem

variable (m : (ℓ : Loc nD τ sig) → Buf (Elt Ideal) ℓ)

/-- The input array. -/
def arr (c : Dev nD) : (⟨2, ![16384, 8192]⟩ : Shape).Idx → EReal := m ((c : Thread nD τ).loc main_arg0)

theorem widx0 : ∀ a, win0_0.index t0_0 a = 0 := by decide +kernel
theorem iblk0 (c : Dev nD) : iblk m c 0 t0_0 = arr m c := by unfold arr; blk_ext! [iblk, V, widx0]

/-- The codes. -/
theorem final1 (c : Dev nD) : (Gen.dats m 0 c).arrAt 1 cfg0.N = codesOf (arr m c) := by
  have e : (Gen.dats m 0 c).arrAt 1 cfg0.N = k0_pay3 (F := Ideal) (arr m c) := by
    refine (Gen.dats m 0 c).arrAt_eq_of_after_last 1 t0_0 (by decide +kernel) _ fun j => ?_
    blk_simp; rw [after0_1, iblk0]; frame_out
  exact e.trans (funext fun x => pay3_at _ x)

/-- The scales. -/
theorem final2 (c : Dev nD) : (Gen.dats m 0 c).arrAt 2 cfg0.N = scalesOf (arr m c) := by
  have e : (Gen.dats m 0 c).arrAt 2 cfg0.N = k0_pay4 (F := Ideal) (arr m c) := by
    refine (Gen.dats m 0 c).arrAt_eq_of_after_last 2 t0_0 (by decide +kernel) _ fun j => ?_
    blk_simp; rw [after0_2, iblk0]; frame_out
  exact e.trans (funext fun x => pay4_at _ x)

variable (ρ : Dev nD → PrngReg)

/-- The run: both result arrays, and the argument unchanged. -/
theorem vrun : θ_run (defs (F := Ideal)) (onTc (τ := τ) (main (F := Ideal))) ⟨m, fun _ => 0, ρ⟩ (fun r => ∀ c : Dev nD,
    r.2.mem ((c.tc : Thread nD τ).loc main_v0_0) = codesOf (arr m c)
    ∧ r.2.mem ((c.tc : Thread nD τ).loc main_v0_1) = scalesOf (arr m c)
    ∧ r.2.mem ((c.tc : Thread nD τ).loc main_arg0) = m ((c.tc : Thread nD τ).loc main_arg0)) :=
  (θ_run _ _ _).mono (fun _ h c => ⟨((h c).1 1).trans (final1 m c), ((h c).1 2).trans (final2 m c),
    ((h c).1 0).trans (((Gen.dats m 0 c).arrAt_in 0 rfl _).trans ((Gen.A_eq m c 0).trans (V_main_arg0 m c)))⟩) (run_main m ρ)

end Cert.QuantReferenceIdeal.Val

end
-- ==== Proof.QuantClaim.lean ====
/- The query quantiser's value claim: both programs end with the same codes and the same scales. -/
module

public import proofs.«01_k».proof.Defs
public import proofs.«01_k».proof.Proof.QuantRun
public import proofs.«01_k».proof.Proof.QuantRefRun

@[expose] public section

set_option maxRecDepth 16384

noncomputable section

namespace Cert.Quant

open Idealize.ShloMosaic Idealize.ShloMosaic.TcCoe Idealize.SL.Sem

/-- Both programs end with the same two arrays and their argument unchanged. -/
theorem algebraic : letI := Cert.QuantKernelIdeal.Gen.facts; letI := Cert.QuantReferenceIdeal.Gen.facts
    Cert.algebraic_QuantKernelIdeal_QuantReferenceIdeal := fun m ρ m' ρ' _ hag => by
  refine ⟨fun c => codesOf (Cert.QuantKernelIdeal.Val.arr m c), fun c => scalesOf (Cert.QuantKernelIdeal.Val.arr m c),
    Cert.QuantKernelIdeal.Val.vrun m ρ, ?_⟩
  refine (θ_run _ _ _).mono (fun r h c => ?_) (Cert.QuantReferenceIdeal.Val.vrun m' ρ')
  have e : Cert.QuantReferenceIdeal.Val.arr m' c = Cert.QuantKernelIdeal.Val.arr m c := hag c
  exact ⟨(h c).1.trans (congrArg codesOf e), (h c).2.1.trans (congrArg scalesOf e), (h c).2.2⟩

end Cert.Quant

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.FrameK
public import proofs.«01_k».proof.Proof.FrameI
public import Idealize.ShloMosaic.Adequacy
public import Idealize.ShloMosaic.Init
public import proofs.«01_k».proof.Proof.Gen.ReferenceIdeal.Frame
public import proofs.«01_k».proof.Proof.RefRead
public import proofs.«01_k».proof.Proof.RefRun
public import proofs.«01_k».proof.Proof.Claim
public import proofs.«01_k».proof.Proof.Gen.QuantKernel.Frame
public import proofs.«01_k».proof.Proof.Gen.QuantKernelIdeal.Frame
public import proofs.«01_k».proof.Proof.Gen.QuantReferenceIdeal.Frame
public import proofs.«01_k».proof.Proof.QuantClaim

@[expose] public section

noncomputable section

namespace Cert.Proof

open Idealize.ShloMosaic Idealize.SL.Sem

/-- The certificate. -/
theorem claim : Cert.Claim := ⟨Cert.Kernel.Gen.facts, Cert.KernelIdeal.Gen.facts, Cert.ReferenceIdeal.Gen.facts,
  Cert.QuantKernel.Gen.facts, Cert.QuantKernelIdeal.Gen.facts, Cert.QuantReferenceIdeal.Gen.facts, Cert.Alg.preFacts,
  fun m ρ _ => Cert.Kernel.Body.frame m ρ, fun m ρ _ => Cert.KernelIdeal.Body.frame m ρ, fun m ρ _ => Cert.KernelIdeal.Body.frame m ρ,
  fun m ρ _ => Cert.ReferenceIdeal.Gen.frame m ρ, fun m ρ _ => Cert.ReferenceIdeal.Gen.frame m ρ,
  fun m ρ _ => Cert.QuantKernel.Gen.frame m ρ, fun m ρ _ => Cert.QuantKernelIdeal.Gen.frame m ρ, fun m ρ _ => Cert.QuantReferenceIdeal.Gen.frame m ρ,
  IdealRules.named_const.statement Cert.KernelIdeal.κ "log2e" .f32 0x3FB8AA3B#32 (((Real.log 2)⁻¹ : ℝ) : EReal) rfl,
  Cert.Alg.algebraic,
  trivial,
  Cert.Quant.algebraic⟩

end Cert.Proof

end
